-- ==== Defs.lean ====
def Pre_Kernel [hPre_lens_fit : Cert.Pre_lens_fit.Facts] (m : (ℓ : Loc Cert.Kernel.nD Cert.Kernel.τ Cert.Kernel.sig) → Buf (Elt Bits) ℓ) : Prop :=
  ∀ c : Dev Cert.Kernel.nD,
    (Cert.Pre_lens_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_lens_fit : Cert.Pre_lens_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lens_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_fit [hPre_lens_fit : Cert.Pre_lens_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_lens_fit : Cert.Pre_lens_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_lens_fit [hReferenceIdeal : Cert.ReferenceIdeal.Facts] [hPre_lens_fit : Cert.Pre_lens_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale_log2e" .f32 0x3DE995B3#32 (((Real.sqrt 160)⁻¹ * (Real.log 2)⁻¹ : ℝ) : EReal)

def algebraic_KernelIdeal_ReferenceIdeal [hKernelIdeal : Cert.KernelIdeal.Facts] [hReferenceIdeal : Cert.ReferenceIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_lens_fit : Cert.Pre_lens_fit.Facts),
    quiescent_Kernel (hKernel := hKernel) (hPre_lens_fit := hPre_lens_fit)
    ∧ quiescent_KernelIdeal (hKernelIdeal := hKernelIdeal) (hPre_lens_fit := hPre_lens_fit)
    ∧ quiescent_ReferenceIdeal (hReferenceIdeal := hReferenceIdeal)
    ∧ quiescent_ReferenceIdeal_pre_lens_fit (hReferenceIdeal := hReferenceIdeal) (hPre_lens_fit := hPre_lens_fit)
    ∧ preserves_Kernel_KernelIdeal
    ∧ algebraic_KernelIdeal_ReferenceIdeal (hKernelIdeal := hKernelIdeal) (hReferenceIdeal := hReferenceIdeal) (hPre_lens_fit := hPre_lens_fit)
-- ==== Pre_lens_fit.lean ====
abbrev S3x5x32x160 : Shape := ⟨4, ![3, 5, 32, 160]⟩
abbrev S3x5x8x160 : Shape := ⟨4, ![3, 5, 8, 160]⟩
abbrev S3x65536x8x160 : Shape := ⟨4, ![3, 65536, 8, 160]⟩
abbrev S3x65536x8 : Shape := ⟨3, ![3, 65536, 8]⟩
abbrev S3 : Shape := ⟨1, ![3]⟩
abbrev S_ : Shape := ⟨0, ![]⟩

class Facts : Prop where
  bcast_S_S3 : S_.BroadcastsInDim S3 (![] : Fin 0 → Fin S3.rank)

variable [Facts]

def fn {F : FTy → Type} [FloatOps F] (main_arg0 : FVec F S3x5x32x160 .bf16) (main_arg1 : FVec F S3x5x8x160 .bf16) (main_arg2 : FVec F S3x5x8x160 .bf16) (main_arg3 : FVec F S3x65536x8x160 .fp8e4m3) (main_arg4 : FVec F S3x65536x8x160 .fp8e4m3) (main_arg5 : FVec F S3x65536x8 .f32) (main_arg6 : FVec F S3x65536x8 .f32) (main_arg7 : IVec S3 32) : IVec S3 1 :=
  let main_c : IVec S_ 32 := constantI S_ 32 65536#32
  let main_v0 : IVec S3 32 := broadcastInDim S3 ![] bcast_S_S3 main_c
  let main_v1 : IVec S3 1 := cmpi .sle main_arg7 main_v0
  main_v1
-- ==== Kernel.lean ====
abbrev S3x5x32x160 : Shape := ⟨4, ![3, 5, 32, 160]⟩
abbrev S3x5x8x160 : Shape := ⟨4, ![3, 5, 8, 160]⟩
abbrev S3x65536x8x160 : Shape := ⟨4, ![3, 65536, 8, 160]⟩
abbrev S3x65536x8 : Shape := ⟨3, ![3, 65536, 8]⟩
abbrev S3 : Shape := ⟨1, ![3]⟩
abbrev S3x5x8x4x160 : Shape := ⟨5, ![3, 5, 8, 4, 160]⟩
abbrev S3x8x5x4x160 : Shape := ⟨5, ![3, 8, 5, 4, 160]⟩
abbrev S3x8x20x160 : Shape := ⟨4, ![3, 8, 20, 160]⟩
abbrev S_ : Shape := ⟨0, ![]⟩
abbrev S3x8x24x160 : Shape := ⟨4, ![3, 8, 24, 160]⟩
abbrev S3x8x5x160 : Shape := ⟨4, ![3, 8, 5, 160]⟩
abbrev S3x8x128x160 : Shape := ⟨4, ![3, 8, 128, 160]⟩
abbrev S3x8x160x65536 : Shape := ⟨4, ![3, 8, 160, 65536]⟩
abbrev S3x8x65536 : Shape := ⟨3, ![3, 8, 65536]⟩
abbrev S1x8x24x160 : Shape := ⟨4, ![1, 8, 24, 160]⟩
abbrev S1 : Shape := ⟨1, ![1]⟩
abbrev S1x8x128x160 : Shape := ⟨4, ![1, 8, 128, 160]⟩
abbrev S1x8x160x2048 : Shape := ⟨4, ![1, 8, 160, 2048]⟩
abbrev S1x8x2048 : Shape := ⟨3, ![1, 8, 2048]⟩
abbrev S8x24x128 : Shape := ⟨3, ![8, 24, 128]⟩
abbrev S8x24x160 : Shape := ⟨3, ![8, 24, 160]⟩
abbrev S24x128 : Shape := ⟨2, ![24, 128]⟩
abbrev S1x1x24x160 : Shape := ⟨4, ![1, 1, 24, 160]⟩
abbrev S24x160 : Shape := ⟨2, ![24, 160]⟩
abbrev S1x1x128x160 : Shape := ⟨4, ![1, 1, 128, 160]⟩
abbrev S128x160 : Shape := ⟨2, ![128, 160]⟩
abbrev S24 : Shape := ⟨1, ![24]⟩
abbrev S24x1 : Shape := ⟨2, ![24, 1]⟩
abbrev S1x24x128 : Shape := ⟨3, ![1, 24, 128]⟩
abbrev S1x24x160 : Shape := ⟨3, ![1, 24, 160]⟩
abbrev S24x2048 : Shape := ⟨2, ![24, 2048]⟩
abbrev S1x1x160x2048 : Shape := ⟨4, ![1, 1, 160, 2048]⟩
abbrev S160x2048 : Shape := ⟨2, ![160, 2048]⟩
abbrev S1x1x2048 : Shape := ⟨3, ![1, 1, 2048]⟩
abbrev S1x2048 : Shape := ⟨2, ![1, 2048]⟩

abbrev nBuf : Space → Nat
  | .hbm => 55
  | .vmem => 19
  | .smem => 2
  | _ => 0

abbrev bufTy : (tb : Table) → Fin (tcTables nBuf tb) → BufTy
  | .hbm, ⟨0, _⟩ => ⟨S3x5x32x160, .bf16⟩
  | .hbm, ⟨1, _⟩ => ⟨S3x5x8x160, .bf16⟩
  | .hbm, ⟨2, _⟩ => ⟨S3x5x8x160, .bf16⟩
  | .hbm, ⟨3, _⟩ => ⟨S3x65536x8x160, .fp8e4m3⟩
  | .hbm, ⟨4, _⟩ => ⟨S3x65536x8x160, .fp8e4m3⟩
  | .hbm, ⟨5, _⟩ => ⟨S3x65536x8, .f32⟩
  | .hbm, ⟨6, _⟩ => ⟨S3x65536x8, .f32⟩
  | .hbm, ⟨7, _⟩ => ⟨S3x5x8x4x160, .bf16⟩
  | .hbm, ⟨8, _⟩ => ⟨S3x8x5x4x160, .bf16⟩
  | .hbm, ⟨9, _⟩ => ⟨S3x8x20x160, .bf16⟩
  | .hbm, ⟨10, _⟩ => ⟨S_, .i32⟩
  | .hbm, ⟨11, _⟩ => ⟨S_, .bf16⟩
  | .hbm, ⟨12, _⟩ => ⟨S3x8x24x160, .bf16⟩
  | .hbm, ⟨13, _⟩ => ⟨S3x8x5x160, .bf16⟩
  | .hbm, ⟨14, _⟩ => ⟨S_, .i32⟩
  | .hbm, ⟨15, _⟩ => ⟨S_, .bf16⟩
  | .hbm, ⟨16, _⟩ => ⟨S3x8x128x160, .bf16⟩
  | .hbm, ⟨17, _⟩ => ⟨S3x8x5x160, .bf16⟩
  | .hbm, ⟨18, _⟩ => ⟨S_, .i32⟩
  | .hbm, ⟨19, _⟩ => ⟨S_, .bf16⟩
  | .hbm, ⟨20, _⟩ => ⟨S3x8x128x160, .bf16⟩
  | .hbm, ⟨21, _⟩ => ⟨S3x8x160x65536, .fp8e4m3⟩
  | .hbm, ⟨22, _⟩ => ⟨S3x8x160x65536, .fp8e4m3⟩
  | .hbm, ⟨23, _⟩ => ⟨S3x8x65536, .f32⟩
  | .hbm, ⟨24, _⟩ => ⟨S3x8x65536, .f32⟩
  | .hbm, ⟨25, _⟩ => ⟨S_, .i32⟩
  | .hbm, ⟨26, _⟩ => ⟨S3, .i32⟩
  | .hbm, ⟨27, _⟩ => ⟨S3, .i32⟩
  | .hbm, ⟨28, _⟩ => ⟨S_, .i32⟩
  | .hbm, ⟨29, _⟩ => ⟨S_, .i32⟩
  | .hbm, ⟨30, _⟩ => ⟨S3, .i32⟩
  | .hbm, ⟨31, _⟩ => ⟨S3, .i32⟩
  | .hbm, ⟨32, _⟩ => ⟨S3, .i32⟩
  | .hbm, ⟨33, _⟩ => ⟨S_, .i32⟩
  | .hbm, ⟨34, _⟩ => ⟨S3, .i32⟩
  | .hbm, ⟨35, _⟩ => ⟨S3, .i1⟩
  | .hbm, ⟨36, _⟩ => ⟨S3, .i32⟩
  | .hbm, ⟨37, _⟩ => ⟨S3, .i32⟩
  | .hbm, ⟨38, _⟩ => ⟨S_, .i32⟩
  | .hbm, ⟨39, _⟩ => ⟨S3, .i32⟩
  | .hbm, ⟨40, _⟩ => ⟨S3, .i1⟩
  | .hbm, ⟨41, _⟩ => ⟨S3, .i1⟩
  | .hbm, ⟨42, _⟩ => ⟨S_, .i32⟩
  | .hbm, ⟨43, _⟩ => ⟨S3, .i32⟩
  | .hbm, ⟨44, _⟩ => ⟨S3, .i32⟩
  | .hbm, ⟨45, _⟩ => ⟨S3, .i32⟩
  | .hbm, ⟨46, _⟩ => ⟨S_, .i32⟩
  | .hbm, ⟨47, _⟩ => ⟨S3, .i32⟩
  | .hbm, ⟨48, _⟩ => ⟨S3, .i32⟩
  | .hbm, ⟨49, _⟩ => ⟨S_, .i32⟩
  | .hbm, ⟨50, _⟩ => ⟨S3x8x24x160, .bf16⟩
  | .hbm, ⟨51, _⟩ => ⟨S3x8x20x160, .bf16⟩
  | .hbm, ⟨52, _⟩ => ⟨S3x8x5x4x160, .bf16⟩
  | .hbm, ⟨53, _⟩ => ⟨S3x5x8x4x160, .bf16⟩
  | .hbm, ⟨54, _⟩ => ⟨S3x5x32x160, .bf16⟩
  | .local _ .vmem, ⟨0, _⟩ => ⟨S1x8x24x160, .bf16⟩
  | .local _ .vmem, ⟨1, _⟩ => ⟨S1x8x24x160, .bf16⟩
  | .local _ .vmem, ⟨2, _⟩ => ⟨S1x8x128x160, .bf16⟩
  | .local _ .vmem, ⟨3, _⟩ => ⟨S1x8x128x160, .bf16⟩
  | .local _ .vmem, ⟨4, _⟩ => ⟨S1x8x128x160, .bf16⟩
  | .local _ .vmem, ⟨5, _⟩ => ⟨S1x8x128x160, .bf16⟩
  | .local _ .vmem, ⟨6, _⟩ => ⟨S1x8x160x2048, .fp8e4m3⟩
  | .local _ .vmem, ⟨7, _⟩ => ⟨S1x8x160x2048, .fp8e4m3⟩
  | .local _ .vmem, ⟨8, _⟩ => ⟨S1x8x160x2048, .fp8e4m3⟩
  | .local _ .vmem, ⟨9, _⟩ => ⟨S1x8x160x2048, .fp8e4m3⟩
  | .local _ .vmem, ⟨10, _⟩ => ⟨S1x8x2048, .f32⟩
  | .local _ .vmem, ⟨11, _⟩ => ⟨S1x8x2048, .f32⟩
  | .local _ .vmem, ⟨12, _⟩ => ⟨S1x8x2048, .f32⟩
  | .local _ .vmem, ⟨13, _⟩ => ⟨S1x8x2048, .f32⟩
  | .local _ .vmem, ⟨14, _⟩ => ⟨S1x8x24x160, .bf16⟩
  | .local _ .vmem, ⟨15, _⟩ => ⟨S1x8x24x160, .bf16⟩
  | .local _ .vmem, ⟨16, _⟩ => ⟨S8x24x128, .f32⟩
  | .local _ .vmem, ⟨17, _⟩ => ⟨S8x24x128, .f32⟩
  | .local _ .vmem, ⟨18, _⟩ => ⟨S8x24x160, .f32⟩
  | .local _ .smem, ⟨0, _⟩ => ⟨S_, .i32⟩
  | .local _ .smem, ⟨1, _⟩ => ⟨S3, .i32⟩
  | _, _ => ⟨S3x5x32x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_call3_v0 : Ref sig .tc := ⟨.hbm, 29, rfl⟩
abbrev main_call3_v1 : Ref sig .tc := ⟨.hbm, 30, rfl⟩
abbrev main_call3_v2 : Ref sig .tc := ⟨.hbm, 31, rfl⟩
abbrev main_call3_v3 : Ref sig .tc := ⟨.hbm, 32, rfl⟩
abbrev main_call3_v4 : Ref sig .tc := ⟨.hbm, 33, rfl⟩
abbrev main_call3_v5 : Ref sig .tc := ⟨.hbm, 34, rfl⟩
abbrev main_call3_v6 : Ref sig .tc := ⟨.hbm, 35, rfl⟩
abbrev main_call3_v7 : Ref sig .tc := ⟨.hbm, 36, rfl⟩
abbrev main_call3_v8 : Ref sig .tc := ⟨.hbm, 37, rfl⟩
abbrev main_call3_c : Ref sig .tc := ⟨.hbm, 38, rfl⟩
abbrev main_call3_v9 : Ref sig .tc := ⟨.hbm, 39, rfl⟩
abbrev main_call3_v10 : Ref sig .tc := ⟨.hbm, 40, rfl⟩
abbrev main_call3_v11 : Ref sig .tc := ⟨.hbm, 41, rfl⟩
abbrev main_call3_c_0 : Ref sig .tc := ⟨.hbm, 42, rfl⟩
abbrev main_call3_v12 : Ref sig .tc := ⟨.hbm, 43, rfl⟩
abbrev main_call3_v13 : Ref sig .tc := ⟨.hbm, 44, rfl⟩
abbrev main_v14 : Ref sig .tc := ⟨.hbm, 45, rfl⟩
abbrev main_c_4 : Ref sig .tc := ⟨.hbm, 46, rfl⟩
abbrev main_v15 : Ref sig .tc := ⟨.hbm, 47, rfl⟩
abbrev main_v16 : Ref sig .tc := ⟨.hbm, 48, rfl⟩
abbrev main_c_5 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v17 : Ref sig .tc := ⟨.smem, 0, rfl⟩
abbrev main_arg7 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![0], ![true]⟩

abbrev pre0 : Pipeline.Prefetch sig := ⟨2, ![main_v17.idx, main_arg7.idx], fun | 0 => main_v17.names | 1 => main_arg7.names | ⟨_ + 2, h⟩ => absurd h (Nat.not_lt.2 (Nat.le_add_left _ _)), fun | 0 => rfl | 1 => rfl | ⟨_ + 2, h⟩ => absurd h (Nat.not_lt.2 (Nat.le_add_left _ _))⟩

def dynb0 (pf : pre0.Contents (Elt F)) : grid0.Bounds := ![(pf 0 fun a => a.elim0).toNat]

def k0_off1 (arg0 : BitVec 32) (v0 : BitVec 32) (v24 : BitVec 32) : Fin 1 → Nat :=
  let c0_i32_5 : BitVec 32 := 0#32
  let c2047_i32 : BitVec 32 := 2047#32
  let v1 : BitVec 32 := Scalar.addi v0 c2047_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.maxsi v18 c1_i32_4
  let v20 : BitVec 32 := Scalar.addi c0_i32_5 v19
  let c2047_i32_9 : BitVec 32 := 2047#32
  let v25 : BitVec 32 := Scalar.addi v24 c2047_i32_9
  let c0_i32_11 : BitVec 32 := 0#32
  let v27 : BitVec 1 := Scalar.cmpi .sgt v25 c0_i32_11
  let v28 : BitVec 32 := Scalar.extui v27
  let c0_i32_12 : BitVec 32 := 0#32
  let v29 : BitVec 1 := Scalar.cmpi .slt v25 c0_i32_12
  let v30 : BitVec 32 := Scalar.extui v29
  let v31 : BitVec 32 := Scalar.subi v28 v30
  let c2048_i32_10 : BitVec 32 := 2048#32
  let c0_i32_13 : BitVec 32 := 0#32
  let v32 : BitVec 1 := Scalar.cmpi .sgt c2048_i32_10 c0_i32_13
  let v33 : BitVec 32 := Scalar.extui v32
  let c0_i32_14 : BitVec 32 := 0#32
  let v34 : BitVec 1 := Scalar.cmpi .slt c2048_i32_10 c0_i32_14
  let v35 : BitVec 32 := Scalar.extui v34
  let v36 : BitVec 32 := Scalar.subi v33 v35
  let v37 : BitVec 1 := Scalar.cmpi .ne v31 v36
  let v38 : BitVec 32 := Scalar.remsi v25 c2048_i32_10
  let c0_i32_15 : BitVec 32 := 0#32
  let v39 : BitVec 1 := Scalar.cmpi .ne v38 c0_i32_15
  let v40 : BitVec 1 := Scalar.andi v37 v39
  let v26 : BitVec 32 := Scalar.divsi v25 c2048_i32_10
  let c1_i32_16 : BitVec 32 := 1#32
  let v41 : BitVec 32 := Scalar.subi v26 c1_i32_16
  let v42 : BitVec 32 := Scalar.select v40 v41 v26
  let c1_i32_17 : BitVec 32 := 1#32
  let v43 : BitVec 32 := Scalar.maxsi v42 c1_i32_17
  let v44 : BitVec 32 := Scalar.addi v20 v43
  let v45 : BitVec 1 := Scalar.cmpi .sge arg0 v44
  let c2_i32 : BitVec 32 := 2#32
  let v21 : BitVec 1 := Scalar.cmpi .sge arg0 v20
  let c1_i32_6 : BitVec 32 := 1#32
  let c0_i32_7 : BitVec 32 := 0#32
  let v22 : BitVec 32 := Scalar.select v21 c1_i32_6 c0_i32_7
  let v46 : BitVec 32 := Scalar.select v45 c2_i32 v22
  let v49 : Index := Scalar.indexCast v46
  ![v49.toNat]

def k0_chk1 (arg0 : BitVec 32) (v0 : BitVec 32) (v24 : BitVec 32) : Prop :=
  (∀ a, (k0_off1 arg0 v0 v24) a + S1.size a ≤ S3.size a)
theorem k0_off1_inb : ∀ (arg0 : BitVec 32) (v0 : BitVec 32) (v24 : BitVec 32) (k0_hw1 : k0_chk1 arg0 v0 v24), ∀ a, (k0_off1 arg0 v0 v24) a + S1.size a ≤ S3.size a := fun arg0 v0 v24 k0_hw1 => k0_hw1

def k0_cond2 (arg0 : BitVec 32) (v0 : BitVec 32) (v24 : BitVec 32) (v50 : BitVec 32) : BitVec 1 :=
  let c0_i32_5 : BitVec 32 := 0#32
  let c2047_i32 : BitVec 32 := 2047#32
  let v1 : BitVec 32 := Scalar.addi v0 c2047_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.maxsi v18 c1_i32_4
  let v20 : BitVec 32 := Scalar.addi c0_i32_5 v19
  let c2047_i32_9 : BitVec 32 := 2047#32
  let v25 : BitVec 32 := Scalar.addi v24 c2047_i32_9
  let c0_i32_11 : BitVec 32 := 0#32
  let v27 : BitVec 1 := Scalar.cmpi .sgt v25 c0_i32_11
  let v28 : BitVec 32 := Scalar.extui v27
  let c0_i32_12 : BitVec 32 := 0#32
  let v29 : BitVec 1 := Scalar.cmpi .slt v25 c0_i32_12
  let v30 : BitVec 32 := Scalar.extui v29
  let v31 : BitVec 32 := Scalar.subi v28 v30
  let c2048_i32_10 : BitVec 32 := 2048#32
  let c0_i32_13 : BitVec 32 := 0#32
  let v32 : BitVec 1 := Scalar.cmpi .sgt c2048_i32_10 c0_i32_13
  let v33 : BitVec 32 := Scalar.extui v32
  let c0_i32_14 : BitVec 32 := 0#32
  let v34 : BitVec 1 := Scalar.cmpi .slt c2048_i32_10 c0_i32_14
  let v35 : BitVec 32 := Scalar.extui v34
  let v36 : BitVec 32 := Scalar.subi v33 v35
  let v37 : BitVec 1 := Scalar.cmpi .ne v31 v36
  let v38 : BitVec 32 := Scalar.remsi v25 c2048_i32_10
  let c0_i32_15 : BitVec 32 := 0#32
  let v39 : BitVec 1 := Scalar.cmpi .ne v38 c0_i32_15
  let v40 : BitVec 1 := Scalar.andi v37 v39
  let v26 : BitVec 32 := Scalar.divsi v25 c2048_i32_10
  let c1_i32_16 : BitVec 32 := 1#32
  let v41 : BitVec 32 := Scalar.subi v26 c1_i32_16
  let v42 : BitVec 32 := Scalar.select v40 v41 v26
  let c1_i32_17 : BitVec 32 := 1#32
  let v43 : BitVec 32 := Scalar.maxsi v42 c1_i32_17
  let v44 : BitVec 32 := Scalar.addi v20 v43
  let v45 : BitVec 1 := Scalar.cmpi .sge arg0 v44
  let v21 : BitVec 1 := Scalar.cmpi .sge arg0 v20
  let c0_i32_8 : BitVec 32 := 0#32
  let v23 : BitVec 32 := Scalar.select v21 v20 c0_i32_8
  let v47 : BitVec 32 := Scalar.select v45 v44 v23
  let v48 : BitVec 32 := Scalar.subi arg0 v47
  let c2047_i32_342 : BitVec 32 := 2047#32
  let v723 : BitVec 32 := Scalar.addi v50 c2047_i32_342
  let c0_i32_344 : BitVec 32 := 0#32
  let v725 : BitVec 1 := Scalar.cmpi .sgt v723 c0_i32_344
  let v726 : BitVec 32 := Scalar.extui v725
  let c0_i32_345 : BitVec 32 := 0#32
  let v727 : BitVec 1 := Scalar.cmpi .slt v723 c0_i32_345
  let v728 : BitVec 32 := Scalar.extui v727
  let v729 : BitVec 32 := Scalar.subi v726 v728
  let c2048_i32_343 : BitVec 32 := 2048#32
  let c0_i32_346 : BitVec 32 := 0#32
  let v730 : BitVec 1 := Scalar.cmpi .sgt c2048_i32_343 c0_i32_346
  let v731 : BitVec 32 := Scalar.extui v730
  let c0_i32_347 : BitVec 32 := 0#32
  let v732 : BitVec 1 := Scalar.cmpi .slt c2048_i32_343 c0_i32_347
  let v733 : BitVec 32 := Scalar.extui v732
  let v734 : BitVec 32 := Scalar.subi v731 v733
  let v735 : BitVec 1 := Scalar.cmpi .ne v729 v734
  let v736 : BitVec 32 := Scalar.remsi v723 c2048_i32_343
  let c0_i32_348 : BitVec 32 := 0#32
  let v737 : BitVec 1 := Scalar.cmpi .ne v736 c0_i32_348
  let v738 : BitVec 1 := Scalar.andi v735 v737
  let v724 : BitVec 32 := Scalar.divsi v723 c2048_i32_343
  let c1_i32_349 : BitVec 32 := 1#32
  let v739 : BitVec 32 := Scalar.subi v724 c1_i32_349
  let v740 : BitVec 32 := Scalar.select v738 v739 v724
  let c1_i32_350 : BitVec 32 := 1#32
  let v741 : BitVec 32 := Scalar.maxsi v740 c1_i32_350
  let c1_i32_351 : BitVec 32 := 1#32
  let v742 : BitVec 32 := Scalar.subi v741 c1_i32_351
  let v743 : BitVec 1 := Scalar.cmpi .eq v48 v742
  let v744 : BitVec 32 := Scalar.extui v743
  let c0_i32_352 : BitVec 32 := 0#32
  let v745 : BitVec 1 := Scalar.cmpi .ne v744 c0_i32_352
  v745

def cc0_transform_0 (inb_S3_S1_0 : ∀ a, (![0] : Fin 1 → Nat) a + S1.size a ≤ S3.size a) (numel1_S1 : S1.numel = 1) (inb_S3_S1_1 : ∀ a, (![1] : Fin 1 → Nat) a + S1.size a ≤ S3.size a) (pf : pre0.Contents (Elt F)) (b : grid0.Bounds) (i : (grid0.at b).Coords) : Fin 4 → Nat :=
  let arg0 : BitVec 32 := BitVec.ofNat 32 (i 0).val
  let c0 : Index := 0#32
  let v0 : BitVec 32 := pf.at 1 (Rect.unit (s := S3) ![0] S1.size inb_S3_S1_0) numel1_S1
  let c2047_i32 : BitVec 32 := 2047#32
  let v1 : BitVec 32 := Scalar.addi v0 c2047_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.maxsi v18 c1_i32_4
  let c0_i32_5 : BitVec 32 := 0#32
  let v20 : BitVec 32 := Scalar.addi c0_i32_5 v19
  let v21 : BitVec 1 := Scalar.cmpi .sge arg0 v20
  let c1_i32_6 : BitVec 32 := 1#32
  let c0_i32_7 : BitVec 32 := 0#32
  let v22 : BitVec 32 := Scalar.select v21 c1_i32_6 c0_i32_7
  let c0_i32_8 : BitVec 32 := 0#32
  let v23 : BitVec 32 := Scalar.select v21 v20 c0_i32_8
  let c1 : Index := 1#32
  let v24 : BitVec 32 := pf.at 1 (Rect.unit (s := S3) ![1] S1.size inb_S3_S1_1) numel1_S1
  let c2047_i32_9 : BitVec 32 := 2047#32
  let v25 : BitVec 32 := Scalar.addi v24 c2047_i32_9
  let c2048_i32_10 : BitVec 32 := 2048#32
  let v26 : BitVec 32 := Scalar.divsi v25 c2048_i32_10
  let c0_i32_11 : BitVec 32 := 0#32
  let v27 : BitVec 1 := Scalar.cmpi .sgt v25 c0_i32_11
  let v28 : BitVec 32 := Scalar.extui v27
  let c0_i32_12 : BitVec 32 := 0#32
  let v29 : BitVec 1 := Scalar.cmpi .slt v25 c0_i32_12
  let v30 : BitVec 32 := Scalar.extui v29
  let v31 : BitVec 32 := Scalar.subi v28 v30
  let c0_i32_13 : BitVec 32 := 0#32
  let v32 : BitVec 1 := Scalar.cmpi .sgt c2048_i32_10 c0_i32_13
  let v33 : BitVec 32 := Scalar.extui v32
  let c0_i32_14 : BitVec 32 := 0#32
  let v34 : BitVec 1 := Scalar.cmpi .slt c2048_i32_10 c0_i32_14
  let v35 : BitVec 32 := Scalar.extui v34
  let v36 : BitVec 32 := Scalar.subi v33 v35
  let v37 : BitVec 1 := Scalar.cmpi .ne v31 v36
  let v38 : BitVec 32 := Scalar.remsi v25 c2048_i32_10
  let c0_i32_15 : BitVec 32 := 0#32
  let v39 : BitVec 1 := Scalar.cmpi .ne v38 c0_i32_15
  let v40 : BitVec 1 := Scalar.andi v37 v39
  let c1_i32_16 : BitVec 32 := 1#32
  let v41 : BitVec 32 := Scalar.subi v26 c1_i32_16
  let v42 : BitVec 32 := Scalar.select v40 v41 v26
  let c1_i32_17 : BitVec 32 := 1#32
  let v43 : BitVec 32 := Scalar.maxsi v42 c1_i32_17
  let v44 : BitVec 32 := Scalar.addi v20 v43
  let v45 : BitVec 1 := Scalar.cmpi .sge arg0 v44
  let c2_i32 : BitVec 32 := 2#32
  let v46 : BitVec 32 := Scalar.select v45 c2_i32 v22
  let v47 : BitVec 32 := Scalar.select v45 v44 v23
  let v48 : BitVec 32 := Scalar.subi arg0 v47
  let c0_i32_18 : BitVec 32 := 0#32
  let c0_i32_19 : BitVec 32 := 0#32
  let c0_i32_20 : BitVec 32 := 0#32
  let c0_i32_21 : BitVec 32 := 0#32
  ![v46.toNat, c0_i32_18.toNat, c0_i32_19.toNat, c0_i32_20.toNat]

def cc0_transform_1 (inb_S3_S1_0 : ∀ a, (![0] : Fin 1 → Nat) a + S1.size a ≤ S3.size a) (numel1_S1 : S1.numel = 1) (inb_S3_S1_1 : ∀ a, (![1] : Fin 1 → Nat) a + S1.size a ≤ S3.size a) (pf : pre0.Contents (Elt F)) (b : grid0.Bounds) (i : (grid0.at b).Coords) : Fin 4 → Nat :=
  let arg0 : BitVec 32 := BitVec.ofNat 32 (i 0).val
  let c0 : Index := 0#32
  let v0 : BitVec 32 := pf.at 1 (Rect.unit (s := S3) ![0] S1.size inb_S3_S1_0) numel1_S1
  let c2047_i32 : BitVec 32 := 2047#32
  let v1 : BitVec 32 := Scalar.addi v0 c2047_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.maxsi v18 c1_i32_4
  let c0_i32_5 : BitVec 32 := 0#32
  let v20 : BitVec 32 := Scalar.addi c0_i32_5 v19
  let v21 : BitVec 1 := Scalar.cmpi .sge arg0 v20
  let c1_i32_6 : BitVec 32 := 1#32
  let c0_i32_7 : BitVec 32 := 0#32
  let v22 : BitVec 32 := Scalar.select v21 c1_i32_6 c0_i32_7
  let c0_i32_8 : BitVec 32 := 0#32
  let v23 : BitVec 32 := Scalar.select v21 v20 c0_i32_8
  let c1 : Index := 1#32
  let v24 : BitVec 32 := pf.at 1 (Rect.unit (s := S3) ![1] S1.size inb_S3_S1_1) numel1_S1
  let c2047_i32_9 : BitVec 32 := 2047#32
  let v25 : BitVec 32 := Scalar.addi v24 c2047_i32_9
  let c2048_i32_10 : BitVec 32 := 2048#32
  let v26 : BitVec 32 := Scalar.divsi v25 c2048_i32_10
  let c0_i32_11 : BitVec 32 := 0#32
  let v27 : BitVec 1 := Scalar.cmpi .sgt v25 c0_i32_11
  let v28 : BitVec 32 := Scalar.extui v27
  let c0_i32_12 : BitVec 32 := 0#32
  let v29 : BitVec 1 := Scalar.cmpi .slt v25 c0_i32_12
  let v30 : BitVec 32 := Scalar.extui v29
  let v31 : BitVec 32 := Scalar.subi v28 v30
  let c0_i32_13 : BitVec 32 := 0#32
  let v32 : BitVec 1 := Scalar.cmpi .sgt c2048_i32_10 c0_i32_13
  let v33 : BitVec 32 := Scalar.extui v32
  let c0_i32_14 : BitVec 32 := 0#32
  let v34 : BitVec 1 := Scalar.cmpi .slt c2048_i32_10 c0_i32_14
  let v35 : BitVec 32 := Scalar.extui v34
  let v36 : BitVec 32 := Scalar.subi v33 v35
  let v37 : BitVec 1 := Scalar.cmpi .ne v31 v36
  let v38 : BitVec 32 := Scalar.remsi v25 c2048_i32_10
  let c0_i32_15 : BitVec 32 := 0#32
  let v39 : BitVec 1 := Scalar.cmpi .ne v38 c0_i32_15
  let v40 : BitVec 1 := Scalar.andi v37 v39
  let c1_i32_16 : BitVec 32 := 1#32
  let v41 : BitVec 32 := Scalar.subi v26 c1_i32_16
  let v42 : BitVec 32 := Scalar.select v40 v41 v26
  let c1_i32_17 : BitVec 32 := 1#32
  let v43 : BitVec 32 := Scalar.maxsi v42 c1_i32_17
  let v44 : BitVec 32 := Scalar.addi v20 v43
  let v45 : BitVec 1 := Scalar.cmpi .sge arg0 v44
  let c2_i32 : BitVec 32 := 2#32
  let v46 : BitVec 32 := Scalar.select v45 c2_i32 v22
  let v47 : BitVec 32 := Scalar.select v45 v44 v23
  let v48 : BitVec 32 := Scalar.subi arg0 v47
  let c0_i32_18 : BitVec 32 := 0#32
  let c0_i32_19 : BitVec 32 := 0#32
  let c0_i32_20 : BitVec 32 := 0#32
  let c0_i32_21 : BitVec 32 := 0#32
  ![v46.toNat, c0_i32_18.toNat, c0_i32_19.toNat, c0_i32_20.toNat]

def cc0_transform_2 (inb_S3_S1_0 : ∀ a, (![0] : Fin 1 → Nat) a + S1.size a ≤ S3.size a) (numel1_S1 : S1.numel = 1) (inb_S3_S1_1 : ∀ a, (![1] : Fin 1 → Nat) a + S1.size a ≤ S3.size a) (pf : pre0.Contents (Elt F)) (b : grid0.Bounds) (i : (grid0.at b).Coords) : Fin 4 → Nat :=
  let arg0 : BitVec 32 := BitVec.ofNat 32 (i 0).val
  let c0 : Index := 0#32
  let v0 : BitVec 32 := pf.at 1 (Rect.unit (s := S3) ![0] S1.size inb_S3_S1_0) numel1_S1
  let c2047_i32 : BitVec 32 := 2047#32
  let v1 : BitVec 32 := Scalar.addi v0 c2047_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.maxsi v18 c1_i32_4
  let c0_i32_5 : BitVec 32 := 0#32
  let v20 : BitVec 32 := Scalar.addi c0_i32_5 v19
  let v21 : BitVec 1 := Scalar.cmpi .sge arg0 v20
  let c1_i32_6 : BitVec 32 := 1#32
  let c0_i32_7 : BitVec 32 := 0#32
  let v22 : BitVec 32 := Scalar.select v21 c1_i32_6 c0_i32_7
  let c0_i32_8 : BitVec 32 := 0#32
  let v23 : BitVec 32 := Scalar.select v21 v20 c0_i32_8
  let c1 : Index := 1#32
  let v24 : BitVec 32 := pf.at 1 (Rect.unit (s := S3) ![1] S1.size inb_S3_S1_1) numel1_S1
  let c2047_i32_9 : BitVec 32 := 2047#32
  let v25 : BitVec 32 := Scalar.addi v24 c2047_i32_9
  let c2048_i32_10 : BitVec 32 := 2048#32
  let v26 : BitVec 32 := Scalar.divsi v25 c2048_i32_10
  let c0_i32_11 : BitVec 32 := 0#32
  let v27 : BitVec 1 := Scalar.cmpi .sgt v25 c0_i32_11
  let v28 : BitVec 32 := Scalar.extui v27
  let c0_i32_12 : BitVec 32 := 0#32
  let v29 : BitVec 1 := Scalar.cmpi .slt v25 c0_i32_12
  let v30 : BitVec 32 := Scalar.extui v29
  let v31 : BitVec 32 := Scalar.subi v28 v30
  let c0_i32_13 : BitVec 32 := 0#32
  let v32 : BitVec 1 := Scalar.cmpi .sgt c2048_i32_10 c0_i32_13
  let v33 : BitVec 32 := Scalar.extui v32
  let c0_i32_14 : BitVec 32 := 0#32
  let v34 : BitVec 1 := Scalar.cmpi .slt c2048_i32_10 c0_i32_14
  let v35 : BitVec 32 := Scalar.extui v34
  let v36 : BitVec 32 := Scalar.subi v33 v35
  let v37 : BitVec 1 := Scalar.cmpi .ne v31 v36
  let v38 : BitVec 32 := Scalar.remsi v25 c2048_i32_10
  let c0_i32_15 : BitVec 32 := 0#32
  let v39 : BitVec 1 := Scalar.cmpi .ne v38 c0_i32_15
  let v40 : BitVec 1 := Scalar.andi v37 v39
  let c1_i32_16 : BitVec 32 := 1#32
  let v41 : BitVec 32 := Scalar.subi v26 c1_i32_16
  let v42 : BitVec 32 := Scalar.select v40 v41 v26
  let c1_i32_17 : BitVec 32 := 1#32
  let v43 : BitVec 32 := Scalar.maxsi v42 c1_i32_17
  let v44 : BitVec 32 := Scalar.addi v20 v43
  let v45 : BitVec 1 := Scalar.cmpi .sge arg0 v44
  let c2_i32 : BitVec 32 := 2#32
  let v46 : BitVec 32 := Scalar.select v45 c2_i32 v22
  let v47 : BitVec 32 := Scalar.select v45 v44 v23
  let v48 : BitVec 32 := Scalar.subi arg0 v47
  let c0_i32_18 : BitVec 32 := 0#32
  let c0_i32_19 : BitVec 32 := 0#32
  let c0_i32_20 : BitVec 32 := 0#32
  let c0_i32_21 : BitVec 32 := 0#32
  ![v46.toNat, c0_i32_18.toNat, c0_i32_19.toNat, c0_i32_20.toNat]

def cc0_transform_3 (inb_S3_S1_0 : ∀ a, (![0] : Fin 1 → Nat) a + S1.size a ≤ S3.size a) (numel1_S1 : S1.numel = 1) (inb_S3_S1_1 : ∀ a, (![1] : Fin 1 → Nat) a + S1.size a ≤ S3.size a) (pf : pre0.Contents (Elt F)) (b : grid0.Bounds) (i : (grid0.at b).Coords) : Fin 4 → Nat :=
  let arg0 : BitVec 32 := BitVec.ofNat 32 (i 0).val
  let c0 : Index := 0#32
  let v0 : BitVec 32 := pf.at 1 (Rect.unit (s := S3) ![0] S1.size inb_S3_S1_0) numel1_S1
  let c2047_i32 : BitVec 32 := 2047#32
  let v1 : BitVec 32 := Scalar.addi v0 c2047_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.maxsi v18 c1_i32_4
  let c0_i32_5 : BitVec 32 := 0#32
  let v20 : BitVec 32 := Scalar.addi c0_i32_5 v19
  let v21 : BitVec 1 := Scalar.cmpi .sge arg0 v20
  let c1_i32_6 : BitVec 32 := 1#32
  let c0_i32_7 : BitVec 32 := 0#32
  let v22 : BitVec 32 := Scalar.select v21 c1_i32_6 c0_i32_7
  let c0_i32_8 : BitVec 32 := 0#32
  let v23 : BitVec 32 := Scalar.select v21 v20 c0_i32_8
  let c1 : Index := 1#32
  let v24 : BitVec 32 := pf.at 1 (Rect.unit (s := S3) ![1] S1.size inb_S3_S1_1) numel1_S1
  let c2047_i32_9 : BitVec 32 := 2047#32
  let v25 : BitVec 32 := Scalar.addi v24 c2047_i32_9
  let c2048_i32_10 : BitVec 32 := 2048#32
  let v26 : BitVec 32 := Scalar.divsi v25 c2048_i32_10
  let c0_i32_11 : BitVec 32 := 0#32
  let v27 : BitVec 1 := Scalar.cmpi .sgt v25 c0_i32_11
  let v28 : BitVec 32 := Scalar.extui v27
  let c0_i32_12 : BitVec 32 := 0#32
  let v29 : BitVec 1 := Scalar.cmpi .slt v25 c0_i32_12
  let v30 : BitVec 32 := Scalar.extui v29
  let v31 : BitVec 32 := Scalar.subi v28 v30
  let c0_i32_13 : BitVec 32 := 0#32
  let v32 : BitVec 1 := Scalar.cmpi .sgt c2048_i32_10 c0_i32_13
  let v33 : BitVec 32 := Scalar.extui v32
  let c0_i32_14 : BitVec 32 := 0#32
  let v34 : BitVec 1 := Scalar.cmpi .slt c2048_i32_10 c0_i32_14
  let v35 : BitVec 32 := Scalar.extui v34
  let v36 : BitVec 32 := Scalar.subi v33 v35
  let v37 : BitVec 1 := Scalar.cmpi .ne v31 v36
  let v38 : BitVec 32 := Scalar.remsi v25 c2048_i32_10
  let c0_i32_15 : BitVec 32 := 0#32
  let v39 : BitVec 1 := Scalar.cmpi .ne v38 c0_i32_15
  let v40 : BitVec 1 := Scalar.andi v37 v39
  let c1_i32_16 : BitVec 32 := 1#32
  let v41 : BitVec 32 := Scalar.subi v26 c1_i32_16
  let v42 : BitVec 32 := Scalar.select v40 v41 v26
  let c1_i32_17 : BitVec 32 := 1#32
  let v43 : BitVec 32 := Scalar.maxsi v42 c1_i32_17
  let v44 : BitVec 32 := Scalar.addi v20 v43
  let v45 : BitVec 1 := Scalar.cmpi .sge arg0 v44
  let c2_i32 : BitVec 32 := 2#32
  let v46 : BitVec 32 := Scalar.select v45 c2_i32 v22
  let v47 : BitVec 32 := Scalar.select v45 v44 v23
  let v48 : BitVec 32 := Scalar.subi arg0 v47
  let c0_i32_18 : BitVec 32 := 0#32
  let c0_i32_19 : BitVec 32 := 0#32
  let c0_i32_20 : BitVec 32 := 0#32
  ![v46.toNat, c0_i32_18.toNat, c0_i32_19.toNat, v48.toNat]

def cc0_transform_4 (inb_S3_S1_0 : ∀ a, (![0] : Fin 1 → Nat) a + S1.size a ≤ S3.size a) (numel1_S1 : S1.numel = 1) (inb_S3_S1_1 : ∀ a, (![1] : Fin 1 → Nat) a + S1.size a ≤ S3.size a) (pf : pre0.Contents (Elt F)) (b : grid0.Bounds) (i : (grid0.at b).Coords) : Fin 4 → Nat :=
  let arg0 : BitVec 32 := BitVec.ofNat 32 (i 0).val
  let c0 : Index := 0#32
  let v0 : BitVec 32 := pf.at 1 (Rect.unit (s := S3) ![0] S1.size inb_S3_S1_0) numel1_S1
  let c2047_i32 : BitVec 32 := 2047#32
  let v1 : BitVec 32 := Scalar.addi v0 c2047_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.maxsi v18 c1_i32_4
  let c0_i32_5 : BitVec 32 := 0#32
  let v20 : BitVec 32 := Scalar.addi c0_i32_5 v19
  let v21 : BitVec 1 := Scalar.cmpi .sge arg0 v20
  let c1_i32_6 : BitVec 32 := 1#32
  let c0_i32_7 : BitVec 32 := 0#32
  let v22 : BitVec 32 := Scalar.select v21 c1_i32_6 c0_i32_7
  let c0_i32_8 : BitVec 32 := 0#32
  let v23 : BitVec 32 := Scalar.select v21 v20 c0_i32_8
  let c1 : Index := 1#32
  let v24 : BitVec 32 := pf.at 1 (Rect.unit (s := S3) ![1] S1.size inb_S3_S1_1) numel1_S1
  let c2047_i32_9 : BitVec 32 := 2047#32
  let v25 : BitVec 32 := Scalar.addi v24 c2047_i32_9
  let c2048_i32_10 : BitVec 32 := 2048#32
  let v26 : BitVec 32 := Scalar.divsi v25 c2048_i32_10
  let c0_i32_11 : BitVec 32 := 0#32
  let v27 : BitVec 1 := Scalar.cmpi .sgt v25 c0_i32_11
  let v28 : BitVec 32 := Scalar.extui v27
  let c0_i32_12 : BitVec 32 := 0#32
  let v29 : BitVec 1 := Scalar.cmpi .slt v25 c0_i32_12
  let v30 : BitVec 32 := Scalar.extui v29
  let v31 : BitVec 32 := Scalar.subi v28 v30
  let c0_i32_13 : BitVec 32 := 0#32
  let v32 : BitVec 1 := Scalar.cmpi .sgt c2048_i32_10 c0_i32_13
  let v33 : BitVec 32 := Scalar.extui v32
  let c0_i32_14 : BitVec 32 := 0#32
  let v34 : BitVec 1 := Scalar.cmpi .slt c2048_i32_10 c0_i32_14
  let v35 : BitVec 32 := Scalar.extui v34
  let v36 : BitVec 32 := Scalar.subi v33 v35
  let v37 : BitVec 1 := Scalar.cmpi .ne v31 v36
  let v38 : BitVec 32 := Scalar.remsi v25 c2048_i32_10
  let c0_i32_15 : BitVec 32 := 0#32
  let v39 : BitVec 1 := Scalar.cmpi .ne v38 c0_i32_15
  let v40 : BitVec 1 := Scalar.andi v37 v39
  let c1_i32_16 : BitVec 32 := 1#32
  let v41 : BitVec 32 := Scalar.subi v26 c1_i32_16
  let v42 : BitVec 32 := Scalar.select v40 v41 v26
  let c1_i32_17 : BitVec 32 := 1#32
  let v43 : BitVec 32 := Scalar.maxsi v42 c1_i32_17
  let v44 : BitVec 32 := Scalar.addi v20 v43
  let v45 : BitVec 1 := Scalar.cmpi .sge arg0 v44
  let c2_i32 : BitVec 32 := 2#32
  let v46 : BitVec 32 := Scalar.select v45 c2_i32 v22
  let v47 : BitVec 32 := Scalar.select v45 v44 v23
  let v48 : BitVec 32 := Scalar.subi arg0 v47
  let c0_i32_18 : BitVec 32 := 0#32
  let c0_i32_19 : BitVec 32 := 0#32
  let c0_i32_20 : BitVec 32 := 0#32
  ![v46.toNat, c0_i32_18.toNat, c0_i32_19.toNat, v48.toNat]

def cc0_transform_5 (inb_S3_S1_0 : ∀ a, (![0] : Fin 1 → Nat) a + S1.size a ≤ S3.size a) (numel1_S1 : S1.numel = 1) (inb_S3_S1_1 : ∀ a, (![1] : Fin 1 → Nat) a + S1.size a ≤ S3.size a) (pf : pre0.Contents (Elt F)) (b : grid0.Bounds) (i : (grid0.at b).Coords) : Fin 3 → Nat :=
  let arg0 : BitVec 32 := BitVec.ofNat 32 (i 0).val
  let c0 : Index := 0#32
  let v0 : BitVec 32 := pf.at 1 (Rect.unit (s := S3) ![0] S1.size inb_S3_S1_0) numel1_S1
  let c2047_i32 : BitVec 32 := 2047#32
  let v1 : BitVec 32 := Scalar.addi v0 c2047_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.maxsi v18 c1_i32_4
  let c0_i32_5 : BitVec 32 := 0#32
  let v20 : BitVec 32 := Scalar.addi c0_i32_5 v19
  let v21 : BitVec 1 := Scalar.cmpi .sge arg0 v20
  let c1_i32_6 : BitVec 32 := 1#32
  let c0_i32_7 : BitVec 32 := 0#32
  let v22 : BitVec 32 := Scalar.select v21 c1_i32_6 c0_i32_7
  let c0_i32_8 : BitVec 32 := 0#32
  let v23 : BitVec 32 := Scalar.select v21 v20 c0_i32_8
  let c1 : Index := 1#32
  let v24 : BitVec 32 := pf.at 1 (Rect.unit (s := S3) ![1] S1.size inb_S3_S1_1) numel1_S1
  let c2047_i32_9 : BitVec 32 := 2047#32
  let v25 : BitVec 32 := Scalar.addi v24 c2047_i32_9
  let c2048_i32_10 : BitVec 32 := 2048#32
  let v26 : BitVec 32 := Scalar.divsi v25 c2048_i32_10
  let c0_i32_11 : BitVec 32 := 0#32
  let v27 : BitVec 1 := Scalar.cmpi .sgt v25 c0_i32_11
  let v28 : BitVec 32 := Scalar.extui v27
  let c0_i32_12 : BitVec 32 := 0#32
  let v29 : BitVec 1 := Scalar.cmpi .slt v25 c0_i32_12
  let v30 : BitVec 32 := Scalar.extui v29
  let v31 : BitVec 32 := Scalar.subi v28 v30
  let c0_i32_13 : BitVec 32 := 0#32
  let v32 : BitVec 1 := Scalar.cmpi .sgt c2048_i32_10 c0_i32_13
  let v33 : BitVec 32 := Scalar.extui v32
  let c0_i32_14 : BitVec 32 := 0#32
  let v34 : BitVec 1 := Scalar.cmpi .slt c2048_i32_10 c0_i32_14
  let v35 : BitVec 32 := Scalar.extui v34
  let v36 : BitVec 32 := Scalar.subi v33 v35
  let v37 : BitVec 1 := Scalar.cmpi .ne v31 v36
  let v38 : BitVec 32 := Scalar.remsi v25 c2048_i32_10
  let c0_i32_15 : BitVec 32 := 0#32
  let v39 : BitVec 1 := Scalar.cmpi .ne v38 c0_i32_15
  let v40 : BitVec 1 := Scalar.andi v37 v39
  let c1_i32_16 : BitVec 32 := 1#32
  let v41 : BitVec 32 := Scalar.subi v26 c1_i32_16
  let v42 : BitVec 32 := Scalar.select v40 v41 v26
  let c1_i32_17 : BitVec 32 := 1#32
  let v43 : BitVec 32 := Scalar.maxsi v42 c1_i32_17
  let v44 : BitVec 32 := Scalar.addi v20 v43
  let v45 : BitVec 1 := Scalar.cmpi .sge arg0 v44
  let c2_i32 : BitVec 32 := 2#32
  let v46 : BitVec 32 := Scalar.select v45 c2_i32 v22
  let v47 : BitVec 32 := Scalar.select v45 v44 v23
  let v48 : BitVec 32 := Scalar.subi arg0 v47
  let c0_i32_18 : BitVec 32 := 0#32
  let c0_i32_19 : BitVec 32 := 0#32
  ![v46.toNat, c0_i32_18.toNat, v48.toNat]

def cc0_transform_6 (inb_S3_S1_0 : ∀ a, (![0] : Fin 1 → Nat) a + S1.size a ≤ S3.size a) (numel1_S1 : S1.numel = 1) (inb_S3_S1_1 : ∀ a, (![1] : Fin 1 → Nat) a + S1.size a ≤ S3.size a) (pf : pre0.Contents (Elt F)) (b : grid0.Bounds) (i : (grid0.at b).Coords) : Fin 3 → Nat :=
  let arg0 : BitVec 32 := BitVec.ofNat 32 (i 0).val
  let c0 : Index := 0#32
  let v0 : BitVec 32 := pf.at 1 (Rect.unit (s := S3) ![0] S1.size inb_S3_S1_0) numel1_S1
  let c2047_i32 : BitVec 32 := 2047#32
  let v1 : BitVec 32 := Scalar.addi v0 c2047_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.maxsi v18 c1_i32_4
  let c0_i32_5 : BitVec 32 := 0#32
  let v20 : BitVec 32 := Scalar.addi c0_i32_5 v19
  let v21 : BitVec 1 := Scalar.cmpi .sge arg0 v20
  let c1_i32_6 : BitVec 32 := 1#32
  let c0_i32_7 : BitVec 32 := 0#32
  let v22 : BitVec 32 := Scalar.select v21 c1_i32_6 c0_i32_7
  let c0_i32_8 : BitVec 32 := 0#32
  let v23 : BitVec 32 := Scalar.select v21 v20 c0_i32_8
  let c1 : Index := 1#32
  let v24 : BitVec 32 := pf.at 1 (Rect.unit (s := S3) ![1] S1.size inb_S3_S1_1) numel1_S1
  let c2047_i32_9 : BitVec 32 := 2047#32
  let v25 : BitVec 32 := Scalar.addi v24 c2047_i32_9
  let c2048_i32_10 : BitVec 32 := 2048#32
  let v26 : BitVec 32 := Scalar.divsi v25 c2048_i32_10
  let c0_i32_11 : BitVec 32 := 0#32
  let v27 : BitVec 1 := Scalar.cmpi .sgt v25 c0_i32_11
  let v28 : BitVec 32 := Scalar.extui v27
  let c0_i32_12 : BitVec 32 := 0#32
  let v29 : BitVec 1 := Scalar.cmpi .slt v25 c0_i32_12
  let v30 : BitVec 32 := Scalar.extui v29
  let v31 : BitVec 32 := Scalar.subi v28 v30
  let c0_i32_13 : BitVec 32 := 0#32
  let v32 : BitVec 1 := Scalar.cmpi .sgt c2048_i32_10 c0_i32_13
  let v33 : BitVec 32 := Scalar.extui v32
  let c0_i32_14 : BitVec 32 := 0#32
  let v34 : BitVec 1 := Scalar.cmpi .slt c2048_i32_10 c0_i32_14
  let v35 : BitVec 32 := Scalar.extui v34
  let v36 : BitVec 32 := Scalar.subi v33 v35
  let v37 : BitVec 1 := Scalar.cmpi .ne v31 v36
  let v38 : BitVec 32 := Scalar.remsi v25 c2048_i32_10
  let c0_i32_15 : BitVec 32 := 0#32
  let v39 : BitVec 1 := Scalar.cmpi .ne v38 c0_i32_15
  let v40 : BitVec 1 := Scalar.andi v37 v39
  let c1_i32_16 : BitVec 32 := 1#32
  let v41 : BitVec 32 := Scalar.subi v26 c1_i32_16
  let v42 : BitVec 32 := Scalar.select v40 v41 v26
  let c1_i32_17 : BitVec 32 := 1#32
  let v43 : BitVec 32 := Scalar.maxsi v42 c1_i32_17
  let v44 : BitVec 32 := Scalar.addi v20 v43
  let v45 : BitVec 1 := Scalar.cmpi .sge arg0 v44
  let c2_i32 : BitVec 32 := 2#32
  let v46 : BitVec 32 := Scalar.select v45 c2_i32 v22
  let v47 : BitVec 32 := Scalar.select v45 v44 v23
  let v48 : BitVec 32 := Scalar.subi arg0 v47
  let c0_i32_18 : BitVec 32 := 0#32
  let c0_i32_19 : BitVec 32 := 0#32
  ![v46.toNat, c0_i32_18.toNat, v48.toNat]

def cc0_transform_7 (inb_S3_S1_0 : ∀ a, (![0] : Fin 1 → Nat) a + S1.size a ≤ S3.size a) (numel1_S1 : S1.numel = 1) (inb_S3_S1_1 : ∀ a, (![1] : Fin 1 → Nat) a + S1.size a ≤ S3.size a) (pf : pre0.Contents (Elt F)) (b : grid0.Bounds) (i : (grid0.at b).Coords) : Fin 4 → Nat :=
  let arg0 : BitVec 32 := BitVec.ofNat 32 (i 0).val
  let c0 : Index := 0#32
  let v0 : BitVec 32 := pf.at 1 (Rect.unit (s := S3) ![0] S1.size inb_S3_S1_0) numel1_S1
  let c2047_i32 : BitVec 32 := 2047#32
  let v1 : BitVec 32 := Scalar.addi v0 c2047_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.maxsi v18 c1_i32_4
  let c0_i32_5 : BitVec 32 := 0#32
  let v20 : BitVec 32 := Scalar.addi c0_i32_5 v19
  let v21 : BitVec 1 := Scalar.cmpi .sge arg0 v20
  let c1_i32_6 : BitVec 32 := 1#32
  let c0_i32_7 : BitVec 32 := 0#32
  let v22 : BitVec 32 := Scalar.select v21 c1_i32_6 c0_i32_7
  let c0_i32_8 : BitVec 32 := 0#32
  let v23 : BitVec 32 := Scalar.select v21 v20 c0_i32_8
  let c1 : Index := 1#32
  let v24 : BitVec 32 := pf.at 1 (Rect.unit (s := S3) ![1] S1.size inb_S3_S1_1) numel1_S1
  let c2047_i32_9 : BitVec 32 := 2047#32
  let v25 : BitVec 32 := Scalar.addi v24 c2047_i32_9
  let c2048_i32_10 : BitVec 32 := 2048#32
  let v26 : BitVec 32 := Scalar.divsi v25 c2048_i32_10
  let c0_i32_11 : BitVec 32 := 0#32
  let v27 : BitVec 1 := Scalar.cmpi .sgt v25 c0_i32_11
  let v28 : BitVec 32 := Scalar.extui v27
  let c0_i32_12 : BitVec 32 := 0#32
  let v29 : BitVec 1 := Scalar.cmpi .slt v25 c0_i32_12
  let v30 : BitVec 32 := Scalar.extui v29
  let v31 : BitVec 32 := Scalar.subi v28 v30
  let c0_i32_13 : BitVec 32 := 0#32
  let v32 : BitVec 1 := Scalar.cmpi .sgt c2048_i32_10 c0_i32_13
  let v33 : BitVec 32 := Scalar.extui v32
  let c0_i32_14 : BitVec 32 := 0#32
  let v34 : BitVec 1 := Scalar.cmpi .slt c2048_i32_10 c0_i32_14
  let v35 : BitVec 32 := Scalar.extui v34
  let v36 : BitVec 32 := Scalar.subi v33 v35
  let v37 : BitVec 1 := Scalar.cmpi .ne v31 v36
  let v38 : BitVec 32 := Scalar.remsi v25 c2048_i32_10
  let c0_i32_15 : BitVec 32 := 0#32
  let v39 : BitVec 1 := Scalar.cmpi .ne v38 c0_i32_15
  let v40 : BitVec 1 := Scalar.andi v37 v39
  let c1_i32_16 : BitVec 32 := 1#32
  let v41 : BitVec 32 := Scalar.subi v26 c1_i32_16
  let v42 : BitVec 32 := Scalar.select v40 v41 v26
  let c1_i32_17 : BitVec 32 := 1#32
  let v43 : BitVec 32 := Scalar.maxsi v42 c1_i32_17
  let v44 : BitVec 32 := Scalar.addi v20 v43
  let v45 : BitVec 1 := Scalar.cmpi .sge arg0 v44
  let c2_i32 : BitVec 32 := 2#32
  let v46 : BitVec 32 := Scalar.select v45 c2_i32 v22
  let v47 : BitVec 32 := Scalar.select v45 v44 v23
  let v48 : BitVec 32 := Scalar.subi arg0 v47
  let c0_i32_18 : BitVec 32 := 0#32
  let c0_i32_19 : BitVec 32 := 0#32
  let c0_i32_20 : BitVec 32 := 0#32
  let c0_i32_21 : BitVec 32 := 0#32
  ![v46.toNat, c0_i32_18.toNat, c0_i32_19.toNat, c0_i32_20.toNat]

abbrev stage0_0 : Fin 2 → Memref sig .tc .vmem S1x8x24x160 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128x160 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x160 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x160x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x160x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x24x160 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "scale_log2e" => some (((Real.sqrt 160)⁻¹ * (Real.log 2)⁻¹ : ℝ) : EReal)
  | _ => none
-- ==== ReferenceIdeal.lean ====
abbrev S3x5x32x160 : Shape := ⟨4, ![3, 5, 32, 160]⟩
abbrev S3x5x8x160 : Shape := ⟨4, ![3, 5, 8, 160]⟩
abbrev S3x65536x8x160 : Shape := ⟨4, ![3, 65536, 8, 160]⟩
abbrev S3x65536x8 : Shape := ⟨3, ![3, 65536, 8]⟩
abbrev S3 : Shape := ⟨1, ![3]⟩
abbrev S3x5x8x4x160 : Shape := ⟨5, ![3, 5, 8, 4, 160]⟩
abbrev S3x8x65536x5x4 : Shape := ⟨5, ![3, 8, 65536, 5, 4]⟩
abbrev S3x5x8x4x65536 : Shape := ⟨5, ![3, 5, 8, 4, 65536]⟩
abbrev S_ : Shape := ⟨0, ![]⟩
abbrev S3x8x65536 : Shape := ⟨3, ![3, 8, 65536]⟩
abbrev S3x1x8x1x65536 : Shape := ⟨5, ![3, 1, 8, 1, 65536]⟩
abbrev S65536 : Shape := ⟨1, ![65536]⟩
abbrev S1x65536 : Shape := ⟨2, ![1, 65536]⟩
abbrev S3x1 : Shape := ⟨2, ![3, 1]⟩
abbrev S3x65536 : Shape := ⟨2, ![3, 65536]⟩
abbrev S5x8x4x65536 : Shape := ⟨4, ![5, 8, 4, 65536]⟩
abbrev S3x8x5x5x4 : Shape := ⟨5, ![3, 8, 5, 5, 4]⟩
abbrev S3x5x8x4x5 : Shape := ⟨5, ![3, 5, 8, 4, 5]⟩
abbrev S5 : Shape := ⟨1, ![5]⟩
abbrev S5x1 : Shape := ⟨2, ![5, 1]⟩
abbrev S1x5 : Shape := ⟨2, ![1, 5]⟩
abbrev S5x5 : Shape := ⟨2, ![5, 5]⟩
abbrev S5x1x1x5 : Shape := ⟨4, ![5, 1, 1, 5]⟩
abbrev S5x8x4x5 : Shape := ⟨4, ![5, 8, 4, 5]⟩
abbrev S3x5x8x4 : Shape := ⟨4, ![3, 5, 8, 4]⟩
abbrev S3x5x8x4x1 : Shape := ⟨5, ![3, 5, 8, 4, 1]⟩
abbrev S3x8x160x5x4 : Shape := ⟨5, ![3, 8, 160, 5, 4]⟩

abbrev nBuf : Space → Nat
  | .hbm => 93
  | .vmem => 4
  | .smem => 0
  | _ => 0

abbrev bufTy : (tb : Table) → Fin (tcTables nBuf tb) → BufTy
  | .hbm, ⟨0, _⟩ => ⟨S3x5x32x160, .bf16⟩
  | .hbm, ⟨1, _⟩ => ⟨S3x5x8x160, .bf16⟩
  | .hbm, ⟨2, _⟩ => ⟨S3x5x8x160, .bf16⟩
  | .hbm, ⟨3, _⟩ => ⟨S3x65536x8x160, .fp8e4m3⟩
  | .hbm, ⟨4, _⟩ => ⟨S3x65536x8x160, .fp8e4m3⟩
  | .hbm, ⟨5, _⟩ => ⟨S3x65536x8, .f32⟩
  | .hbm, ⟨6, _⟩ => ⟨S3x65536x8, .f32⟩
  | .hbm, ⟨7, _⟩ => ⟨S3, .i32⟩
  | .hbm, ⟨8, _⟩ => ⟨S3x65536x8x160, .bf16⟩
  | .hbm, ⟨9, _⟩ => ⟨S3x65536x8x160, .bf16⟩
  | .hbm, ⟨10, _⟩ => ⟨S3x5x8x4x160, .bf16⟩
  | .hbm, ⟨11, _⟩ => ⟨S3x8x65536x5x4, .f32⟩
  | .hbm, ⟨12, _⟩ => ⟨S3x5x8x4x65536, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S3x8x65536, .f32⟩
  | .hbm, ⟨18, _⟩ => ⟨S3x8x65536, .f32⟩
  | .hbm, ⟨19, _⟩ => ⟨S3x8x65536, .f32⟩
  | .hbm, ⟨20, _⟩ => ⟨S3x1x8x1x65536, .f32⟩
  | .hbm, ⟨21, _⟩ => ⟨S3x5x8x4x65536, .f32⟩
  | .hbm, ⟨22, _⟩ => ⟨S3x5x8x4x65536, .f32⟩
  | .hbm, ⟨23, _⟩ => ⟨S65536, .i32⟩
  | .hbm, ⟨24, _⟩ => ⟨S1x65536, .i32⟩
  | .hbm, ⟨25, _⟩ => ⟨S3x1, .i32⟩
  | .hbm, ⟨26, _⟩ => ⟨S3x65536, .i32⟩
  | .hbm, ⟨27, _⟩ => ⟨S3x65536, .i32⟩
  | .hbm, ⟨28, _⟩ => ⟨S3x65536, .i1⟩
  | .hbm, ⟨29, _⟩ => ⟨S_, .f32⟩
  | .hbm, ⟨30, _⟩ => ⟨S_, .f32⟩
  | .hbm, ⟨31, _⟩ => ⟨S3x5x8x4x65536, .i1⟩
  | .hbm, ⟨32, _⟩ => ⟨S5x8x4x65536, .f32⟩
  | .hbm, ⟨33, _⟩ => ⟨S3x5x8x4x65536, .f32⟩
  | .hbm, ⟨34, _⟩ => ⟨S3x5x8x4x65536, .f32⟩
  | .hbm, ⟨35, _⟩ => ⟨S3x8x5x5x4, .f32⟩
  | .hbm, ⟨36, _⟩ => ⟨S3x5x8x4x5, .f32⟩
  | .hbm, ⟨37, _⟩ => ⟨S3x5x8x4x5, .f32⟩
  | .hbm, ⟨38, _⟩ => ⟨S3x5x8x4x5, .f32⟩
  | .hbm, ⟨39, _⟩ => ⟨S5, .i32⟩
  | .hbm, ⟨40, _⟩ => ⟨S5x1, .i32⟩
  | .hbm, ⟨41, _⟩ => ⟨S5, .i32⟩
  | .hbm, ⟨42, _⟩ => ⟨S1x5, .i32⟩
  | .hbm, ⟨43, _⟩ => ⟨S5x5, .i32⟩
  | .hbm, ⟨44, _⟩ => ⟨S5x5, .i32⟩
  | .hbm, ⟨45, _⟩ => ⟨S5x5, .i1⟩
  | .hbm, ⟨46, _⟩ => ⟨S5x1x1x5, .i1⟩
  | .hbm, ⟨47, _⟩ => ⟨S_, .f32⟩
  | .hbm, ⟨48, _⟩ => ⟨S_, .f32⟩
  | .hbm, ⟨49, _⟩ => ⟨S5x8x4x5, .i1⟩
  | .hbm, ⟨50, _⟩ => ⟨S5x8x4x5, .f32⟩
  | .hbm, ⟨51, _⟩ => ⟨S3x5x8x4x5, .i1⟩
  | .hbm, ⟨52, _⟩ => ⟨S3x5x8x4x5, .f32⟩
  | .hbm, ⟨53, _⟩ => ⟨S3x5x8x4x5, .f32⟩
  | .hbm, ⟨54, _⟩ => ⟨S_, .f32⟩
  | .hbm, ⟨55, _⟩ => ⟨S3x5x8x4, .f32⟩
  | .hbm, ⟨56, _⟩ => ⟨S_, .f32⟩
  | .hbm, ⟨57, _⟩ => ⟨S3x5x8x4, .f32⟩
  | .hbm, ⟨58, _⟩ => ⟨S3x5x8x4, .f32⟩
  | .hbm, ⟨59, _⟩ => ⟨S3x5x8x4x1, .f32⟩
  | .hbm, ⟨60, _⟩ => ⟨S3x5x8x4x65536, .f32⟩
  | .hbm, ⟨61, _⟩ => ⟨S3x5x8x4x65536, .f32⟩
  | .hbm, ⟨62, _⟩ => ⟨S3x5x8x4x65536, .f32⟩
  | .hbm, ⟨63, _⟩ => ⟨S3x5x8x4x5, .f32⟩
  | .hbm, ⟨64, _⟩ => ⟨S3x5x8x4x5, .f32⟩
  | .hbm, ⟨65, _⟩ => ⟨S3x5x8x4x5, .f32⟩
  | .hbm, ⟨66, _⟩ => ⟨S_, .f32⟩
  | .hbm, ⟨67, _⟩ => ⟨S3x5x8x4, .f32⟩
  | .hbm, ⟨68, _⟩ => ⟨S3x5x8x4x1, .f32⟩
  | .hbm, ⟨69, _⟩ => ⟨S_, .f32⟩
  | .hbm, ⟨70, _⟩ => ⟨S3x5x8x4, .f32⟩
  | .hbm, ⟨71, _⟩ => ⟨S3x5x8x4x1, .f32⟩
  | .hbm, ⟨72, _⟩ => ⟨S3x5x8x4x1, .f32⟩
  | .hbm, ⟨73, _⟩ => ⟨S_, .f32⟩
  | .hbm, ⟨74, _⟩ => ⟨S3x5x8x4x1, .f32⟩
  | .hbm, ⟨75, _⟩ => ⟨S3x5x8x4x1, .f32⟩
  | .hbm, ⟨76, _⟩ => ⟨S3x5x8x4x65536, .f32⟩
  | .hbm, ⟨77, _⟩ => ⟨S3x5x8x4x65536, .f32⟩
  | .hbm, ⟨78, _⟩ => ⟨S3x8x65536, .f32⟩
  | .hbm, ⟨79, _⟩ => ⟨S3x1x8x1x65536, .f32⟩
  | .hbm, ⟨80, _⟩ => ⟨S3x5x8x4x65536, .f32⟩
  | .hbm, ⟨81, _⟩ => ⟨S3x5x8x4x65536, .f32⟩
  | .hbm, ⟨82, _⟩ => ⟨S3x5x8x4x65536, .bf16⟩
  | .hbm, ⟨83, _⟩ => ⟨S3x8x160x5x4, .f32⟩
  | .hbm, ⟨84, _⟩ => ⟨S3x5x8x4x160, .f32⟩
  | .hbm, ⟨85, _⟩ => ⟨S3x5x8x4x5, .f32⟩
  | .hbm, ⟨86, _⟩ => ⟨S3x5x8x4x5, .f32⟩
  | .hbm, ⟨87, _⟩ => ⟨S3x5x8x4x5, .bf16⟩
  | .hbm, ⟨88, _⟩ => ⟨S3x8x160x5x4, .f32⟩
  | .hbm, ⟨89, _⟩ => ⟨S3x5x8x4x160, .f32⟩
  | .hbm, ⟨90, _⟩ => ⟨S3x5x8x4x160, .f32⟩
  | .hbm, ⟨91, _⟩ => ⟨S3x5x8x4x160, .bf16⟩
  | .hbm, ⟨92, _⟩ => ⟨S3x5x32x160, .bf16⟩
  | .local _ .vmem, ⟨0, _⟩ => ⟨S3x65536x8x160, .fp8e4m3⟩
  | .local _ .vmem, ⟨1, _⟩ => ⟨S3x65536x8x160, .fp8e4m3⟩
  | .local _ .vmem, ⟨2, _⟩ => ⟨S3x65536x8x160, .bf16⟩
  | .local _ .vmem, ⟨3, _⟩ => ⟨S3x65536x8x160, .bf16⟩
  | _, _ => ⟨S3x5x32x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x65536x8x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x65536x8x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x65536x8x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x65536x8x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.IdealCuts.lean ====
/-
  The kernel's body cut into three stretches: `s1` reads the sequence lengths and, at a sequence's first block, starts the running
  softmax; `s2` takes the block of all eight heads into it; what is left (`s2.tail`) writes the result at a sequence's last block.
-/
module

public import proofs.«01_k».proof.Proof.Gen.KernelIdeal.Skeleton
public import Idealize.ShloMosaic.Lib.Tactic
public import Idealize.ShloMosaic.Lib.Tactic.OpenCalls
public import Idealize.ShloMosaic.Lib.Tactic.Stretches

@[expose] public section
set_option maxRecDepth 16384
noncomputable section
namespace Cert.KernelIdeal.Body
open Idealize.ShloMosaic Idealize.SL.Sem Cert.KernelIdeal Cert.KernelIdeal.Gen

set_option maxHeartbeats 4000000
open_calls flat := cc0_gqa_decode [k0_part12, k0_part13, k0_part14, k0_part15, k0_part16, k0_part17, k0_part18, k0_part19, k0_part20, k0_part21, k0_part22, k0_part23, k0_part24, k0_part25, k0_part26, k0_part27, k0_part28, k0_part29, k0_part30]
cut_chain s := flat at 6, 118

end Cert.KernelIdeal.Body
-- ==== Proof.Words.lean ====
/-
  The integer words that place the kernel's grid points, read as natural numbers.

  The kernel runs over a flat list of cache blocks: sequence 0's blocks, then sequence 1's, then sequence 2's. A sequence of `v` cached
  tokens has `max (ceil (v / 2048)) 1` blocks (`nb`). Each program point computes, from the lengths, which sequence it belongs to (`seqOf`)
  and which of that sequence's blocks it is (`blkOf`); the printed programs spell this by chains of 32-bit words, and the lemmas here say
  what those chains are for lengths of at most 65536.
-/
module

public import Idealize.ShloMosaic.Lib.WordArith
public import Idealize.ShloMosaic.Lib.WordCmp
public import Idealize.ShloMosaic.Lib.Affine

@[expose] public section
noncomputable section
namespace Cert.Words
open Idealize.ShloMosaic

/-- The number of 2048-token blocks of a sequence of `v` cached tokens (at least one). -/
def nb (v : BitVec 32) : ℕ := max ((v.toInt + 2047) / 2048).toNat 1

theorem nb_pos (v : BitVec 32) : 1 ≤ nb v := le_max_right _ _

theorem nb_le {v : BitVec 32} (hv : v.toInt ≤ 65536) : nb v ≤ 32 := by
  unfold nb; omega

/-- `max (floor (x / 2048)) 1` as the programs spell it (a truncating quotient, corrected when the signs differ and the
    remainder is not zero), on either unit: `c` is the bit that says the signs differ. -/
theorem maxsi_floordiv (u : ArithUnit) {v : BitVec 32} (hv : v.toInt ≤ 65536) (c : BitVec 1)
    (hc : c = 1#1 ↔ ¬ 0 < (v + 2047#32).toInt) :
    IntOp.maxsi (Scalar.select (IntOp.andi c (IntOp.cmpi .ne (IntOp.remsi u (v + 2047#32) 2048#32) 0#32))
      (IntOp.divsi u (v + 2047#32) 2048#32 - 1#32) (IntOp.divsi u (v + 2047#32) 2048#32)) 1#32 = BitVec.ofNat 32 (nb v) := by
  have hlo : -2 ^ 31 ≤ v.toInt := by have := BitVec.le_toInt v; simpa using this
  have h47 : (2047#32 : BitVec 32).toInt = 2047 := by decide
  have h48 : (2048#32 : BitVec 32).toInt = 2048 := by decide
  have hx : (v + 2047#32).toInt = v.toInt + 2047 := by
    rw [WordArith.toInt_add_of_bounds _ _ (by rw [h47]; omega) (by rw [h47]; omega), h47]
  have hne : ¬IntOp.SDivCorner (v + 2047#32) 2048#32 := IntOp.not_corner_of_pos (by rw [h48]; omega)
  have hd : IntOp.divsi u (v + 2047#32) 2048#32 = (v + 2047#32).sdiv 2048#32 := by unfold IntOp.divsi; rw [if_neg hne]
  have hdi : (IntOp.divsi u (v + 2047#32) 2048#32).toInt = (v.toInt + 2047).tdiv 2048 := by
    rw [hd, BitVec.toInt_sdiv_of_ne_or_ne _ _ (Or.inr (by decide)), hx, h48]
  generalize IntOp.divsi u (v + 2047#32) 2048#32 = q at hdi ⊢
  have h1 : (1#32 : BitVec 32).toInt = 1 := by decide
  apply BitVec.eq_of_toInt_eq
  have hnb : (BitVec.ofNat 32 (nb v)).toInt = nb v := by
    apply WordArith.toInt_ofNat_small; have := nb_le hv; omega
  rw [hnb]
  by_cases hpos : 0 < (v + 2047#32).toInt
  · have hc0 : ¬ c = 1#1 := fun h => (hc.1 h) hpos
    have hsel : Scalar.select (IntOp.andi c (IntOp.cmpi .ne (IntOp.remsi u (v + 2047#32) 2048#32) 0#32)) (q - 1#32) q = q := by
      unfold Scalar.select; rw [if_neg]; intro h
      exact hc0 (IntOp.andi_eq_one.1 h).1
    rw [hsel, hx] at *
    rw [Int.tdiv_eq_ediv_of_nonneg (by omega)] at hdi
    unfold IntOp.maxsi nb
    split <;> rename_i h <;> rw [BitVec.slt_iff_toInt_lt, h1] at h
    · rw [hdi]; omega
    · rw [h1]; omega
  · have hx' : v.toInt + 2047 ≤ 0 := by omega
    have hq : (v.toInt + 2047).tdiv 2048 ≤ 0 := by
      have : (v.toInt + 2047).tdiv 2048 = -((-(v.toInt + 2047)).tdiv 2048) := by rw [Int.neg_tdiv, neg_neg]
      rw [this, Int.tdiv_eq_ediv_of_nonneg (by omega)]; omega
    have hq2 : -2 ^ 30 ≤ (v.toInt + 2047).tdiv 2048 := by
      have : (v.toInt + 2047).tdiv 2048 = -((-(v.toInt + 2047)).tdiv 2048) := by rw [Int.neg_tdiv, neg_neg]
      rw [this, Int.tdiv_eq_ediv_of_nonneg (by omega)]; omega
    have hq1 : (q - 1#32).toInt = q.toInt - 1 := by
      rw [WordArith.toInt_sub_of_bounds _ _ (by rw [h1]; omega) (by rw [h1]; omega), h1]
    have hle : (Scalar.select (IntOp.andi c (IntOp.cmpi .ne (IntOp.remsi u (v + 2047#32) 2048#32) 0#32)) (q - 1#32) q).toInt ≤ 0 := by
      unfold Scalar.select; split <;> omega
    unfold IntOp.maxsi nb
    split <;> rename_i h <;> rw [BitVec.slt_iff_toInt_lt, h1] at h
    · omega
    · rw [h1]; omega

/-- The number of blocks as the kernel's body and index maps spell it. -/
def nbW (v : BitVec 32) : BitVec 32 :=
  let x := Scalar.addi v 2047#32
  Scalar.maxsi (Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt 2048#32 0#32)) (Scalar.extui (Scalar.cmpi .slt 2048#32 0#32))))
      (Scalar.cmpi .ne (Scalar.remsi x 2048#32) 0#32))
    (Scalar.subi (Scalar.divsi x 2048#32) 1#32) (Scalar.divsi x 2048#32)) 1#32

theorem nbW_eq {v : BitVec 32} (hv : v.toInt ≤ 65536) : nbW v = BitVec.ofNat 32 (nb v) := by
  unfold nbW
  refine maxsi_floordiv .scalar hv _ ?_
  have hs : Scalar.subi (Scalar.extui (Scalar.cmpi .sgt 2048#32 0#32)) (Scalar.extui (Scalar.cmpi .slt 2048#32 0#32)) = 1#32 := by decide
  rw [hs]
  show Scalar.cmpi .ne (Scalar.subi (Scalar.extui (IntOp.cmpi .sgt (v + 2047#32) 0#32)) (Scalar.extui (IntOp.cmpi .slt (v + 2047#32) 0#32))) 1#32 = 1#1 ↔ _
  rw [show IntOp.cmpi .sgt (v + 2047#32) 0#32 = BitVec.ofBool (decide (0 < (v + 2047#32).toInt)) from rfl,
    show IntOp.cmpi .slt (v + 2047#32) 0#32 = BitVec.ofBool (decide ((v + 2047#32).toInt < 0)) from rfl]
  generalize (v + 2047#32).toInt = z
  by_cases h : 0 < z
  · have h2 : ¬ z < 0 := by omega
    simp only [h, h2, decide_true, decide_false, not_true, iff_false]; decide
  · by_cases h3 : z < 0
    · simp only [h, h3, decide_true, decide_false, not_false_eq_true, iff_true]; decide
    · simp only [h, h3, decide_false, not_false_eq_true, iff_true]; decide

/-! ## Which sequence, which block -/

/-- The sequence a flat point belongs to, sequences 0 and 1 having `a` and `b` blocks. -/
def seqOf (a b i : ℕ) : ℕ := if a + b ≤ i then 2 else if a ≤ i then 1 else 0
/-- The flat point of that sequence's first block. -/
def startOf (a b i : ℕ) : ℕ := if a + b ≤ i then a + b else if a ≤ i then a else 0

theorem seqOf_lt (a b i : ℕ) : seqOf a b i < 3 := by unfold seqOf; split <;> (try split) <;> omega
theorem startOf_le (a b i : ℕ) : startOf a b i ≤ i := by unfold startOf; split <;> (try split) <;> omega

/-- The sequence's number as the programs compute it. -/
def seqW (i v0 v1 : BitVec 32) : BitVec 32 :=
  Scalar.select (Scalar.cmpi .sge i (Scalar.addi (Scalar.addi 0#32 (nbW v0)) (nbW v1))) 2#32
    (Scalar.select (Scalar.cmpi .sge i (Scalar.addi 0#32 (nbW v0))) 1#32 0#32)
/-- The block's number within its sequence as the programs compute it. -/
def blkW (i v0 v1 : BitVec 32) : BitVec 32 :=
  Scalar.subi i (Scalar.select (Scalar.cmpi .sge i (Scalar.addi (Scalar.addi 0#32 (nbW v0)) (nbW v1)))
    (Scalar.addi (Scalar.addi 0#32 (nbW v0)) (nbW v1))
    (Scalar.select (Scalar.cmpi .sge i (Scalar.addi 0#32 (nbW v0))) (Scalar.addi 0#32 (nbW v0)) 0#32))

private theorem sge_ofNat {a b : ℕ} (ha : a < 2 ^ 31) (hb : b < 2 ^ 31) :
    Scalar.cmpi .sge (BitVec.ofNat 32 a) (BitVec.ofNat 32 b) = 1 ↔ b ≤ a := by
  show IntOp.cmpi .sge _ _ = 1#1 ↔ _
  rw [IntOp.cmpi_sge, WordArith.toInt_ofNat_small _ ha, WordArith.toInt_ofNat_small _ hb]; omega

variable {v0 v1 : BitVec 32} {i : ℕ} (h0 : v0.toInt ≤ 65536) (h1 : v1.toInt ≤ 65536) (hi : i < 2 ^ 31)
include h0 h1

private theorem adds : Scalar.addi 0#32 (nbW v0) = BitVec.ofNat 32 (nb v0) ∧
    Scalar.addi (Scalar.addi 0#32 (nbW v0)) (nbW v1) = BitVec.ofNat 32 (nb v0 + nb v1) := by
  rw [nbW_eq h0, nbW_eq h1]
  have : Scalar.addi 0#32 (BitVec.ofNat 32 (nb v0)) = BitVec.ofNat 32 (nb v0) := by
    show 0#32 + _ = _; exact BitVec.zero_add _
  rw [this]
  exact ⟨rfl, (BitVec.ofNat_add _ _).symm⟩

include hi
theorem seqW_eq : seqW (BitVec.ofNat 32 i) v0 v1 = BitVec.ofNat 32 (seqOf (nb v0) (nb v1) i) := by
  have := nb_le h0; have := nb_le h1
  unfold seqW seqOf
  rw [(adds h0 h1).2, (adds h0 h1).1]
  unfold Scalar.select
  simp only [sge_ofNat hi (show nb v0 + nb v1 < 2 ^ 31 by omega), sge_ofNat hi (show nb v0 < 2 ^ 31 by omega)]
  split <;> (try split) <;> rfl

theorem blkW_eq : blkW (BitVec.ofNat 32 i) v0 v1 = BitVec.ofNat 32 (i - startOf (nb v0) (nb v1) i) := by
  have := nb_le h0; have := nb_le h1
  have hs := startOf_le (nb v0) (nb v1) i
  have : blkW (BitVec.ofNat 32 i) v0 v1 = BitVec.ofNat 32 i - BitVec.ofNat 32 (startOf (nb v0) (nb v1) i) := by
    unfold blkW startOf
    rw [(adds h0 h1).2, (adds h0 h1).1]
    unfold Scalar.select
    simp only [sge_ofNat hi (show nb v0 + nb v1 < 2 ^ 31 by omega), sge_ofNat hi (show nb v0 < 2 ^ 31 by omega)]
    split <;> (try split) <;> rfl
  rw [this]
  apply BitVec.eq_of_toNat_eq
  rw [BitVec.toNat_sub, BitVec.toNat_ofNat, BitVec.toNat_ofNat, BitVec.toNat_ofNat]
  omega

end Cert.Words
-- ==== Proof.IdealBody.lean ====
/-
  What one run of the kernel's body does.  The running softmax of a sequence is a state of three arrays over the eight heads: the greatest
  score so far, the sums of the exponentials, the weighted sums of the values.  A sequence's first block starts it (`startSt`), every
  block is taken into it (`stepSt`), and the last block's state gives the output (`outV`).  `body_spec` says that the body does this.
-/
module

public import proofs.«01_k».proof.Proof.IdealCuts
public import proofs.«01_k».proof.Proof.Words
public import proofs.«01_k».proof.Proof.Gen.KernelIdeal.Launch
public import Idealize.ShloMosaic.Lib.Ring
public import Idealize.ShloMosaic.Lib.Pipeline.FrameBody
public import Idealize.ShloMosaic.Lib.Pipeline.ValueKit.Tiles

@[expose] public section
set_option maxRecDepth 16384
noncomputable section
namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
local notation "𝕄" => MT nD τ sig Unit (Elt F) ℕ (UR sig nD τ) ℕ

/-! ## One head's part of each array -/

theorem inb3 {n a b : ℕ} (h : n < 8) : ∀ i, (![n, 0, 0] : Fin 3 → ℕ) i + (![1, a, b] : Fin 3 → ℕ) i ≤ (![8, a, b] : Fin 3 → ℕ) i := by
  intro i; fin_cases i <;> simp <;> omega
theorem inb3' {n a : ℕ} (h : n < 8) : ∀ i, (![0, n, 0] : Fin 3 → ℕ) i + (![1, 1, a] : Fin 3 → ℕ) i ≤ (![1, 8, a] : Fin 3 → ℕ) i := by
  intro i; fin_cases i <;> simp <;> omega
theorem inb4 {n a b : ℕ} (h : n < 8) :
    ∀ i, (![0, n, 0, 0] : Fin 4 → ℕ) i + (![1, 1, a, b] : Fin 4 → ℕ) i ≤ (![1, 8, a, b] : Fin 4 → ℕ) i := by
  intro i; fin_cases i <;> simp <;> omega

def rM (h : Fin 8) : Rect S8x24x128 := Rect.unit (s := S8x24x128) ![h.val, 0, 0] S1x24x128.size (inb3 h.isLt)
def rA (h : Fin 8) : Rect S8x24x160 := Rect.unit (s := S8x24x160) ![h.val, 0, 0] S1x24x160.size (inb3 h.isLt)
def rQ (h : Fin 8) : Rect S1x8x24x160 := Rect.unit (s := S1x8x24x160) ![0, h.val, 0, 0] S1x1x24x160.size (inb4 h.isLt)
def rN (h : Fin 8) : Rect S1x8x128x160 := Rect.unit (s := S1x8x128x160) ![0, h.val, 0, 0] S1x1x128x160.size (inb4 h.isLt)
def rK (h : Fin 8) : Rect S1x8x160x2048 := Rect.unit (s := S1x8x160x2048) ![0, h.val, 0, 0] S1x1x160x2048.size (inb4 h.isLt)
def rS (h : Fin 8) : Rect S1x8x2048 := Rect.unit (s := S1x8x2048) ![0, h.val, 0] S1x1x2048.size (inb3' h.isLt)

abbrev ldM (X : Vec F S8x24x128 .f32) (h : Fin 8) : Vec F S1x24x128 .f32 := View.ld X (rM h)
abbrev ldA (X : Vec F S8x24x160 .f32) (h : Fin 8) : Vec F S1x24x160 .f32 := View.ld X (rA h)
abbrev ldQ (X : Vec F S1x8x24x160 .bf16) (h : Fin 8) : Vec F S1x1x24x160 .bf16 := View.ld X (rQ h)
abbrev ldN (X : Vec F S1x8x128x160 .bf16) (h : Fin 8) : Vec F S1x1x128x160 .bf16 := View.ld X (rN h)
abbrev ldK (X : Vec F S1x8x160x2048 .fp8e4m3) (h : Fin 8) : Vec F S1x1x160x2048 .fp8e4m3 := View.ld X (rK h)
abbrev ldS (X : Vec F S1x8x2048 .f32) (h : Fin 8) : Vec F S1x1x2048 .f32 := View.ld X (rS h)

/-- Eight heads' parts written one after the other. -/
def piecesM (p : Fin 8 → Vec F S1x24x128 .f32) : List (View.Piece (Elt F) S8x24x128 .f32) :=
  [⟨rM ⟨7, by decide⟩, p ⟨7, by decide⟩⟩, ⟨rM ⟨6, by decide⟩, p ⟨6, by decide⟩⟩, ⟨rM ⟨5, by decide⟩, p ⟨5, by decide⟩⟩,
    ⟨rM ⟨4, by decide⟩, p ⟨4, by decide⟩⟩, ⟨rM ⟨3, by decide⟩, p ⟨3, by decide⟩⟩, ⟨rM ⟨2, by decide⟩, p ⟨2, by decide⟩⟩,
    ⟨rM ⟨1, by decide⟩, p ⟨1, by decide⟩⟩, ⟨rM ⟨0, by decide⟩, p ⟨0, by decide⟩⟩]
def piecesA (p : Fin 8 → Vec F S1x24x160 .f32) : List (View.Piece (Elt F) S8x24x160 .f32) :=
  [⟨rA ⟨7, by decide⟩, p ⟨7, by decide⟩⟩, ⟨rA ⟨6, by decide⟩, p ⟨6, by decide⟩⟩, ⟨rA ⟨5, by decide⟩, p ⟨5, by decide⟩⟩,
    ⟨rA ⟨4, by decide⟩, p ⟨4, by decide⟩⟩, ⟨rA ⟨3, by decide⟩, p ⟨3, by decide⟩⟩, ⟨rA ⟨2, by decide⟩, p ⟨2, by decide⟩⟩,
    ⟨rA ⟨1, by decide⟩, p ⟨1, by decide⟩⟩, ⟨rA ⟨0, by decide⟩, p ⟨0, by decide⟩⟩]
def piecesO (p : Fin 8 → Vec F S1x1x24x160 .bf16) : List (View.Piece (Elt F) S1x8x24x160 .bf16) :=
  [⟨rQ ⟨7, by decide⟩, p ⟨7, by decide⟩⟩, ⟨rQ ⟨6, by decide⟩, p ⟨6, by decide⟩⟩, ⟨rQ ⟨5, by decide⟩, p ⟨5, by decide⟩⟩,
    ⟨rQ ⟨4, by decide⟩, p ⟨4, by decide⟩⟩, ⟨rQ ⟨3, by decide⟩, p ⟨3, by decide⟩⟩, ⟨rQ ⟨2, by decide⟩, p ⟨2, by decide⟩⟩,
    ⟨rQ ⟨1, by decide⟩, p ⟨1, by decide⟩⟩, ⟨rQ ⟨0, by decide⟩, p ⟨0, by decide⟩⟩]

/-- The array whose head `h` is `p h`. -/
def glueM (p : Fin 8 → Vec F S1x24x128 .f32) : Vec F S8x24x128 .f32 := View.canon (piecesM p)
def glueA (p : Fin 8 → Vec F S1x24x160 .f32) : Vec F S8x24x160 .f32 := View.canon (piecesA p)
def glueO (p : Fin 8 → Vec F S1x1x24x160 .bf16) : Vec F S1x8x24x160 .bf16 := View.canon (piecesO p)

theorem coverM (p : Fin 8 → Vec F S1x24x128 .f32) (y) : ∃ q ∈ piecesM p, y ∈ q.1.set :=
  View.cover_of_tiled (piecesM p) S1x24x128.size (by rfl) y
theorem coverA (p : Fin 8 → Vec F S1x24x160 .f32) (y) : ∃ q ∈ piecesA p, y ∈ q.1.set :=
  View.cover_of_tiled (piecesA p) S1x24x160.size (by rfl) y
theorem coverO (p : Fin 8 → Vec F S1x1x24x160 .bf16) (y) : ∃ q ∈ piecesO p, y ∈ q.1.set :=
  View.cover_of_tiled (piecesO p) S1x1x24x160.size (by rfl) y

theorem read_glueM {κ : Kind} {sp : Space} (v : View sig κ sp S8x24x128 .f32) (f : v.ty.Contents (Elt F)) {p : Fin 8 → Vec F S1x24x128 .f32}
    {i7 : ∀ a, (![7, 0, 0] : Fin 3 → ℕ) a + S1x24x128.size a ≤ S8x24x128.size a} {i6 : ∀ a, (![6, 0, 0] : Fin 3 → ℕ) a + S1x24x128.size a ≤ S8x24x128.size a} {i5 : ∀ a, (![5, 0, 0] : Fin 3 → ℕ) a + S1x24x128.size a ≤ S8x24x128.size a} {i4 : ∀ a, (![4, 0, 0] : Fin 3 → ℕ) a + S1x24x128.size a ≤ S8x24x128.size a} {i3 : ∀ a, (![3, 0, 0] : Fin 3 → ℕ) a + S1x24x128.size a ≤ S8x24x128.size a} {i2 : ∀ a, (![2, 0, 0] : Fin 3 → ℕ) a + S1x24x128.size a ≤ S8x24x128.size a} {i1 : ∀ a, (![1, 0, 0] : Fin 3 → ℕ) a + S1x24x128.size a ≤ S8x24x128.size a} {i0 : ∀ a, (![0, 0, 0] : Fin 3 → ℕ) a + S1x24x128.size a ≤ S8x24x128.size a}
    {w7 w6 w5 w4 w3 w2 w1 w0 : Vec F S1x24x128 .f32}
    (h7 : w7 = p ⟨7, by decide⟩) (h6 : w6 = p ⟨6, by decide⟩) (h5 : w5 = p ⟨5, by decide⟩) (h4 : w4 = p ⟨4, by decide⟩) (h3 : w3 = p ⟨3, by decide⟩) (h2 : w2 = p ⟨2, by decide⟩) (h1 : w1 = p ⟨1, by decide⟩) (h0 : w0 = p ⟨0, by decide⟩) :
    v.read (Elt F) (v.writes (Elt F) f [⟨Rect.unit (s := S8x24x128) ![7, 0, 0] S1x24x128.size i7, w7⟩, ⟨Rect.unit (s := S8x24x128) ![6, 0, 0] S1x24x128.size i6, w6⟩, ⟨Rect.unit (s := S8x24x128) ![5, 0, 0] S1x24x128.size i5, w5⟩, ⟨Rect.unit (s := S8x24x128) ![4, 0, 0] S1x24x128.size i4, w4⟩, ⟨Rect.unit (s := S8x24x128) ![3, 0, 0] S1x24x128.size i3, w3⟩, ⟨Rect.unit (s := S8x24x128) ![2, 0, 0] S1x24x128.size i2, w2⟩, ⟨Rect.unit (s := S8x24x128) ![1, 0, 0] S1x24x128.size i1, w1⟩, ⟨Rect.unit (s := S8x24x128) ![0, 0, 0] S1x24x128.size i0, w0⟩]) = glueM p := by
  subst h7 h6 h5 h4 h3 h2 h1 h0
  exact View.read_writes_eq_canon _ _ (piecesM p) (coverM p)
theorem read_glueA {κ : Kind} {sp : Space} (v : View sig κ sp S8x24x160 .f32) (f : v.ty.Contents (Elt F)) {p : Fin 8 → Vec F S1x24x160 .f32}
    {i7 : ∀ a, (![7, 0, 0] : Fin 3 → ℕ) a + S1x24x160.size a ≤ S8x24x160.size a} {i6 : ∀ a, (![6, 0, 0] : Fin 3 → ℕ) a + S1x24x160.size a ≤ S8x24x160.size a} {i5 : ∀ a, (![5, 0, 0] : Fin 3 → ℕ) a + S1x24x160.size a ≤ S8x24x160.size a} {i4 : ∀ a, (![4, 0, 0] : Fin 3 → ℕ) a + S1x24x160.size a ≤ S8x24x160.size a} {i3 : ∀ a, (![3, 0, 0] : Fin 3 → ℕ) a + S1x24x160.size a ≤ S8x24x160.size a} {i2 : ∀ a, (![2, 0, 0] : Fin 3 → ℕ) a + S1x24x160.size a ≤ S8x24x160.size a} {i1 : ∀ a, (![1, 0, 0] : Fin 3 → ℕ) a + S1x24x160.size a ≤ S8x24x160.size a} {i0 : ∀ a, (![0, 0, 0] : Fin 3 → ℕ) a + S1x24x160.size a ≤ S8x24x160.size a}
    {w7 w6 w5 w4 w3 w2 w1 w0 : Vec F S1x24x160 .f32}
    (h7 : w7 = p ⟨7, by decide⟩) (h6 : w6 = p ⟨6, by decide⟩) (h5 : w5 = p ⟨5, by decide⟩) (h4 : w4 = p ⟨4, by decide⟩) (h3 : w3 = p ⟨3, by decide⟩) (h2 : w2 = p ⟨2, by decide⟩) (h1 : w1 = p ⟨1, by decide⟩) (h0 : w0 = p ⟨0, by decide⟩) :
    v.read (Elt F) (v.writes (Elt F) f [⟨Rect.unit (s := S8x24x160) ![7, 0, 0] S1x24x160.size i7, w7⟩, ⟨Rect.unit (s := S8x24x160) ![6, 0, 0] S1x24x160.size i6, w6⟩, ⟨Rect.unit (s := S8x24x160) ![5, 0, 0] S1x24x160.size i5, w5⟩, ⟨Rect.unit (s := S8x24x160) ![4, 0, 0] S1x24x160.size i4, w4⟩, ⟨Rect.unit (s := S8x24x160) ![3, 0, 0] S1x24x160.size i3, w3⟩, ⟨Rect.unit (s := S8x24x160) ![2, 0, 0] S1x24x160.size i2, w2⟩, ⟨Rect.unit (s := S8x24x160) ![1, 0, 0] S1x24x160.size i1, w1⟩, ⟨Rect.unit (s := S8x24x160) ![0, 0, 0] S1x24x160.size i0, w0⟩]) = glueA p := by
  subst h7 h6 h5 h4 h3 h2 h1 h0
  exact View.read_writes_eq_canon _ _ (piecesA p) (coverA p)
theorem read_glueO {κ : Kind} {sp : Space} (v : View sig κ sp S1x8x24x160 .bf16) (f : v.ty.Contents (Elt F)) {p : Fin 8 → Vec F S1x1x24x160 .bf16}
    {i7 : ∀ a, (![0, 7, 0, 0] : Fin 4 → ℕ) a + S1x1x24x160.size a ≤ S1x8x24x160.size a} {i6 : ∀ a, (![0, 6, 0, 0] : Fin 4 → ℕ) a + S1x1x24x160.size a ≤ S1x8x24x160.size a} {i5 : ∀ a, (![0, 5, 0, 0] : Fin 4 → ℕ) a + S1x1x24x160.size a ≤ S1x8x24x160.size a} {i4 : ∀ a, (![0, 4, 0, 0] : Fin 4 → ℕ) a + S1x1x24x160.size a ≤ S1x8x24x160.size a} {i3 : ∀ a, (![0, 3, 0, 0] : Fin 4 → ℕ) a + S1x1x24x160.size a ≤ S1x8x24x160.size a} {i2 : ∀ a, (![0, 2, 0, 0] : Fin 4 → ℕ) a + S1x1x24x160.size a ≤ S1x8x24x160.size a} {i1 : ∀ a, (![0, 1, 0, 0] : Fin 4 → ℕ) a + S1x1x24x160.size a ≤ S1x8x24x160.size a} {i0 : ∀ a, (![0, 0, 0, 0] : Fin 4 → ℕ) a + S1x1x24x160.size a ≤ S1x8x24x160.size a}
    {w7 w6 w5 w4 w3 w2 w1 w0 : Vec F S1x1x24x160 .bf16}
    (h7 : w7 = p ⟨7, by decide⟩) (h6 : w6 = p ⟨6, by decide⟩) (h5 : w5 = p ⟨5, by decide⟩) (h4 : w4 = p ⟨4, by decide⟩) (h3 : w3 = p ⟨3, by decide⟩) (h2 : w2 = p ⟨2, by decide⟩) (h1 : w1 = p ⟨1, by decide⟩) (h0 : w0 = p ⟨0, by decide⟩) :
    v.read (Elt F) (v.writes (Elt F) f [⟨Rect.unit (s := S1x8x24x160) ![0, 7, 0, 0] S1x1x24x160.size i7, w7⟩, ⟨Rect.unit (s := S1x8x24x160) ![0, 6, 0, 0] S1x1x24x160.size i6, w6⟩, ⟨Rect.unit (s := S1x8x24x160) ![0, 5, 0, 0] S1x1x24x160.size i5, w5⟩, ⟨Rect.unit (s := S1x8x24x160) ![0, 4, 0, 0] S1x1x24x160.size i4, w4⟩, ⟨Rect.unit (s := S1x8x24x160) ![0, 3, 0, 0] S1x1x24x160.size i3, w3⟩, ⟨Rect.unit (s := S1x8x24x160) ![0, 2, 0, 0] S1x1x24x160.size i2, w2⟩, ⟨Rect.unit (s := S1x8x24x160) ![0, 1, 0, 0] S1x1x24x160.size i1, w1⟩, ⟨Rect.unit (s := S1x8x24x160) ![0, 0, 0, 0] S1x1x24x160.size i0, w0⟩]) = glueO p := by
  subst h7 h6 h5 h4 h3 h2 h1 h0
  exact View.read_writes_eq_canon _ _ (piecesO p) (coverO p)

/-! ## The state and its steps -/

/-- A sequence's running softmax. -/
structure St (F : FTy → Type) [FloatOps F] where
  m : Vec F S8x24x128 .f32
  l : Vec F S8x24x128 .f32
  a : Vec F S8x24x160 .f32

/-- The softmax of the new keys alone. -/
def startSt (X2 : Vec F S1x8x24x160 .bf16) (X3 X4 : Vec F S1x8x128x160 .bf16) : St F where
  m := glueM fun h => k0_pay5 (ldQ X2 h) (ldN X3 h)
  l := glueM fun h => k0_pay6 (ldQ X2 h) (ldN X3 h)
  a := glueA fun h => k0_pay8 (k0_pay7 (ldQ X2 h) (ldN X3 h)) (ldN X4 h)

/-- One head's scores of a block of which the first `w` positions are filled. -/
def score (w : BitVec 32) (q : Vec F S1x1x24x160 .bf16) (k : Vec F S1x1x160x2048 .fp8e4m3) (ks : Vec F S1x1x2048 .f32) : FVec F S24x2048 .f32 :=
  select (cmpi .slt (iota .tc S24x2048 32 [1] iota_S24x2048_d1_w32) (broadcast S24x2048 w)) (k0_pay79 q k ks)
    (broadcast S24x2048 (Scalar.ofBits .f32 0xFF800000#32))

/-- The state with one block taken into it. -/
def stepSt (w : BitVec 32) (X2 : Vec F S1x8x24x160 .bf16) (X5 X6 : Vec F S1x8x160x2048 .fp8e4m3) (X7 X8 : Vec F S1x8x2048 .f32) (s : St F) : St F where
  m := glueM fun h => k0_pay72 (score w (ldQ X2 h) (ldK X5 h) (ldS X7 h)) (ldM s.m h)
  l := glueM fun h => k0_pay77 (k0_pay73 (score w (ldQ X2 h) (ldK X5 h) (ldS X7 h)) (ldM s.m h))
    (k0_pay75 (score w (ldQ X2 h) (ldK X5 h) (ldS X7 h)) (ldM s.m h) (ldM s.l h))
    (k0_pay76 (score w (ldQ X2 h) (ldK X5 h) (ldS X7 h)) (ldM s.m h))
  a := glueA fun h => k0_pay78 (k0_pay71 (score w (ldQ X2 h) (ldK X5 h) (ldS X7 h)) (ldM s.m h))
    (k0_pay74 (score w (ldQ X2 h) (ldK X5 h) (ldS X7 h)) (ldM s.m h) (ldS X8 h)) (ldK X6 h) (ldA s.a h)

/-- The output of a finished state. -/
def outV (s : St F) : Vec F S1x8x24x160 .bf16 := glueO fun h => k0_pay156 (ldM s.l h) (ldA s.a h)

/-! ## The stretches -/

section
variable (c : Dev nD)

/-- A word of the table of lengths. -/
abbrev rd {c : Dev nD} (arg1 : Memref sig .tc .smem S3 .i32) (f : Buf (Elt F) (arg1.view.loc (c : Thread nD τ))) (off : Fin S3.rank → ℕ)
    (h : ∀ a, off a + S1.size a ≤ S3.size a) : BitVec 32 :=
  View.readAt (Elt F) arg1.view (Rect.unit (s := S3) off S1.size h).toLoadRect f (Shape.Idx.first (numel1_S1.symm ▸ Nat.one_pos))

variable (b : grid0.Bounds) (i : grid0.Static) (arg0 : BitVec 32) (arg1 : Memref sig .tc .smem S3 .i32) (harg1 : arg1.IsWhole)
  (arg2 : Memref sig .tc .vmem S1x8x24x160 .bf16) (harg2 : arg2.IsWhole) (arg3 : Memref sig .tc .vmem S1x8x128x160 .bf16) (harg3 : arg3.IsWhole)
  (arg4 : Memref sig .tc .vmem S1x8x128x160 .bf16) (harg4 : arg4.IsWhole) (arg5 : Memref sig .tc .vmem S1x8x160x2048 .fp8e4m3) (harg5 : arg5.IsWhole)
  (arg6 : Memref sig .tc .vmem S1x8x160x2048 .fp8e4m3) (harg6 : arg6.IsWhole) (arg7 : Memref sig .tc .vmem S1x8x2048 .f32) (harg7 : arg7.IsWhole)
  (arg8 : Memref sig .tc .vmem S1x8x2048 .f32) (harg8 : arg8.IsWhole) (arg9 : Memref sig .tc .vmem S1x8x24x160 .bf16) (harg9 : arg9.IsWhole)
  (arg10 : Memref sig .tc .vmem S8x24x128 .f32) (harg10 : arg10.IsWhole) (arg11 : Memref sig .tc .vmem S8x24x128 .f32) (harg11 : arg11.IsWhole)
  (arg12 : Memref sig .tc .vmem S8x24x160 .f32) (harg12 : arg12.IsWhole)
variable (f1 : Buf (Elt F) (arg1.view.loc (c : Thread nD τ)))
  (X2 : Vec F S1x8x24x160 .bf16) (X3 X4 : Vec F S1x8x128x160 .bf16) (X5 X6 : Vec F S1x8x160x2048 .fp8e4m3) (X7 X8 : Vec F S1x8x2048 .f32)
  (X9 : Vec F S1x8x24x160 .bf16) (s : St F)

/-- The state in the scratch arrays. -/
def stOwns (s : St F) : sProp 𝕄 :=
  iprop(owns (c : Thread nD τ) arg10 fullShare s.m ∗ owns (c : Thread nD τ) arg11 fullShare s.l ∗ owns (c : Thread nD τ) arg12 fullShare s.a)

/-- Whether the block is the sequence's first, as the body asks it. -/
def isStart (arg0 v0 v1 : BitVec 32) : Prop := Scalar.cmpi .ne (Scalar.extui (Scalar.cmpi .eq (Words.blkW arg0 v0 v1) 0#32)) 0#32 = 1#1

set_option maxHeartbeats 8000000 in
theorem s1_start (κ) (Q : PUnit → sProp 𝕄)
    (hchk : k0_chk1 arg0 (rd (F := F) arg1 f1 ![0] inb_S3_S1_0) (rd (F := F) arg1 f1 ![1] inb_S3_S1_1))
    (hC : isStart arg0 (rd (F := F) arg1 f1 ![0] inb_S3_S1_0) (rd (F := F) arg1 f1 ![1] inb_S3_S1_1)) :
    iprop((arg1.view.loc (c : Thread nD τ) ↦{fullShare.right} f1) ∗ owns (c : Thread nD τ) arg2 fullShare X2 ∗ owns (c : Thread nD τ) arg3 fullShare X3
        ∗ owns (c : Thread nD τ) arg4 fullShare X4 ∗ stOwns c arg10 arg11 arg12 s) ⊢
      iprop(((arg1.view.loc (c : Thread nD τ) ↦{fullShare.right} f1) ∗ owns (c : Thread nD τ) arg2 fullShare X2 ∗ owns (c : Thread nD τ) arg3 fullShare X3
          ∗ owns (c : Thread nD τ) arg4 fullShare X4 ∗ stOwns c arg10 arg11 arg12 (startSt X2 X3 X4) -∗
          wp frame (wpE (defs₀ (F := F)) Variants.none c none) Set.univ
            (κ (rd (F := F) arg1 f1 ![0] inb_S3_S1_0) (rd (F := F) arg1 f1 ![1] inb_S3_S1_1) (rd (F := F) arg1 f1 _ hchk)) Q) -∗
        wp frame (wpE (defs₀ (F := F)) Variants.none c none) Set.univ (s1 b i arg0 arg1 harg1 arg2 harg2 arg3 harg3 arg4 harg4 arg5 harg5 arg6 harg6
          arg7 harg7 arg8 harg8 arg9 harg9 arg10 harg10 arg11 harg11 arg12 harg12 κ) Q) := by
  unfold stOwns owns
  iintro ⟨H1, ⟨%f2, %h2, H2⟩, ⟨%f3, %h3, H3⟩, ⟨%f4, %h4, H4⟩, ⟨%f10, %h10, H10⟩, ⟨%f11, %h11, H11⟩, ⟨%f12, %h12, H12⟩⟩ Hκ
  subst h2 h3 h4
  unfold s1
  sl_exec (disch := first | exact hC | exact hchk)
  iapply Hκ
  isplitl [H1]; · iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H10]
  · iexists _; isplitr; swap; · iexact H10
    ipureintro; dsimp only [startSt]; refine read_glueM _ _ ?_ ?_ ?_ ?_ ?_ ?_ ?_ ?_ <;> beta_reduce <;> rfl
  isplitl [H11]
  · iexists _; isplitr; swap; · iexact H11
    ipureintro; dsimp only [startSt]; refine read_glueM _ _ ?_ ?_ ?_ ?_ ?_ ?_ ?_ ?_ <;> beta_reduce <;> rfl
  iexists _; isplitr; swap; · iexact H12
  ipureintro; dsimp only [startSt]; refine read_glueA _ _ ?_ ?_ ?_ ?_ ?_ ?_ ?_ ?_ <;> beta_reduce <;> rfl

set_option maxHeartbeats 8000000 in
theorem s1_skip (κ) (Q : PUnit → sProp 𝕄)
    (hchk : k0_chk1 arg0 (rd (F := F) arg1 f1 ![0] inb_S3_S1_0) (rd (F := F) arg1 f1 ![1] inb_S3_S1_1))
    (hC : ¬ isStart arg0 (rd (F := F) arg1 f1 ![0] inb_S3_S1_0) (rd (F := F) arg1 f1 ![1] inb_S3_S1_1)) :
    iprop(arg1.view.loc (c : Thread nD τ) ↦{fullShare.right} f1) ⊢
      iprop(((arg1.view.loc (c : Thread nD τ) ↦{fullShare.right} f1) -∗
          wp frame (wpE (defs₀ (F := F)) Variants.none c none) Set.univ
            (κ (rd (F := F) arg1 f1 ![0] inb_S3_S1_0) (rd (F := F) arg1 f1 ![1] inb_S3_S1_1) (rd (F := F) arg1 f1 _ hchk)) Q) -∗
        wp frame (wpE (defs₀ (F := F)) Variants.none c none) Set.univ (s1 b i arg0 arg1 harg1 arg2 harg2 arg3 harg3 arg4 harg4 arg5 harg5 arg6 harg6
          arg7 harg7 arg8 harg8 arg9 harg9 arg10 harg10 arg11 harg11 arg12 harg12 κ) Q) := by
  iintro H1 Hκ
  unfold s1
  sl_exec (disch := first | exact hC | exact hchk)
  iapply Hκ
  iexact H1

/-- How many positions of a block are filled, as the body computes it. -/
def fillW (arg0 v0 v1 vs : BitVec 32) : BitVec 32 := Scalar.subi vs (Scalar.muli (Words.blkW arg0 v0 v1) 2048#32)

set_option maxHeartbeats 8000000 in
theorem s2_spec (v0 v1 vs : BitVec 32) (R) (Q : PUnit → sProp 𝕄) :
    iprop(owns (c : Thread nD τ) arg2 fullShare X2 ∗ owns (c : Thread nD τ) arg5 fullShare X5 ∗ owns (c : Thread nD τ) arg6 fullShare X6
        ∗ owns (c : Thread nD τ) arg7 fullShare X7 ∗ owns (c : Thread nD τ) arg8 fullShare X8 ∗ stOwns c arg10 arg11 arg12 s) ⊢
      iprop((owns (c : Thread nD τ) arg2 fullShare X2 ∗ owns (c : Thread nD τ) arg5 fullShare X5 ∗ owns (c : Thread nD τ) arg6 fullShare X6
          ∗ owns (c : Thread nD τ) arg7 fullShare X7 ∗ owns (c : Thread nD τ) arg8 fullShare X8
          ∗ stOwns c arg10 arg11 arg12 (stepSt (fillW arg0 v0 v1 vs) X2 X5 X6 X7 X8 s) -∗
          wp frame (wpE (defs₀ (F := F)) Variants.none c none) Set.univ R Q) -∗
        wp frame (wpE (defs₀ (F := F)) Variants.none c none) Set.univ (s2 arg0 arg2 arg5 arg6 arg7 arg8 arg10 arg11 arg12 v0 v1 vs R) Q) := by
  unfold stOwns owns
  iintro ⟨⟨%f2, %h2, H2⟩, ⟨%f5, %h5, H5⟩, ⟨%f6, %h6, H6⟩, ⟨%f7, %h7, H7⟩, ⟨%f8, %h8, H8⟩, ⟨%f10, %h10, H10⟩, ⟨%f11, %h11, H11⟩, ⟨%f12, %h12, H12⟩⟩ Hκ
  obtain ⟨M, L, A⟩ := s; dsimp only at h10 h11 h12
  subst h2 h5 h6 h7 h8 h10 h11 h12
  unfold s2
  sl_exec
  iapply Hκ
  isplitl [H2]; · iexists f2; isplitr; · ipureintro; rfl
                  iexact H2
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H10]
  · iexists _; isplitr; swap; · iexact H10
    ipureintro; dsimp only [stepSt]; refine read_glueM _ _ ?_ ?_ ?_ ?_ ?_ ?_ ?_ ?_ <;> beta_reduce <;> rfl
  isplitl [H11]
  · iexists _; isplitr; swap; · iexact H11
    ipureintro; dsimp only [stepSt]; refine read_glueM _ _ ?_ ?_ ?_ ?_ ?_ ?_ ?_ ?_ <;> beta_reduce <;> rfl
  iexists _; isplitr; swap; · iexact H12
  ipureintro; dsimp only [stepSt]; refine read_glueA _ _ ?_ ?_ ?_ ?_ ?_ ?_ ?_ ?_ <;> beta_reduce <;> rfl

set_option maxHeartbeats 8000000 in
theorem tail_finish (v0 v1 vs : BitVec 32) (Q : PUnit → sProp 𝕄) (hC : k0_cond2 arg0 v0 v1 vs = 1#1) :
    iprop(owns (c : Thread nD τ) arg9 fullShare X9 ∗ stOwns c arg10 arg11 arg12 s) ⊢
      iprop((owns (c : Thread nD τ) arg9 fullShare (outV s) ∗ stOwns c arg10 arg11 arg12 s -∗ Q PUnit.unit) -∗
        wp frame (wpE (defs₀ (F := F)) Variants.none c none) Set.univ (s2.tail b i arg0 arg1 harg1 arg2 harg2 arg3 harg3 arg4 harg4 arg5 harg5 arg6 harg6
          arg7 harg7 arg8 harg8 arg9 harg9 arg10 harg10 arg11 harg11 arg12 harg12 v0 v1 vs) Q) := by
  unfold stOwns owns
  iintro ⟨⟨%f9, %h9, H9⟩, ⟨%f10, %h10, H10⟩, ⟨%f11, %h11, H11⟩, ⟨%f12, %h12, H12⟩⟩ Hκ
  obtain ⟨M, L, A⟩ := s; dsimp only at h10 h11 h12
  subst h10 h11 h12
  unfold s2.tail
  sl_exec (disch := exact hC)
  sl_step
  iapply Hκ
  isplitl [H9]
  · iexists _; isplitr; swap; · iexact H9
    ipureintro; dsimp only [outV]; refine read_glueO _ _ ?_ ?_ ?_ ?_ ?_ ?_ ?_ ?_ <;> beta_reduce <;> rfl
  isplitl [H10]; · iexists f10; isplitr; · ipureintro; rfl
                   iexact H10
  isplitl [H11]; · iexists f11; isplitr; · ipureintro; rfl
                   iexact H11
  iexists f12; isplitr; · ipureintro; rfl
  iexact H12

set_option maxHeartbeats 8000000 in
theorem tail_skip (v0 v1 vs : BitVec 32) (Q : PUnit → sProp 𝕄) (hC : ¬ k0_cond2 arg0 v0 v1 vs = 1#1) :
    Q PUnit.unit ⊢ wp frame (wpE (defs₀ (F := F)) Variants.none c none) Set.univ (s2.tail b i arg0 arg1 harg1 arg2 harg2 arg3 harg3 arg4 harg4 arg5 harg5 arg6 harg6
          arg7 harg7 arg8 harg8 arg9 harg9 arg10 harg10 arg11 harg11 arg12 harg12 v0 v1 vs) Q := by
  iintro Hκ
  unfold s2.tail
  sl_exec (disch := exact hC)
  sl_step
  iexact Hκ

instance (a b d : BitVec 32) : Decidable (isStart a b d) := inferInstanceAs (Decidable (_ = _))

/-- The state after the point's block, from the state before the point. -/
def nextSt (arg0 v0 v1 vs : BitVec 32) (X2 : Vec F S1x8x24x160 .bf16) (X3 X4 : Vec F S1x8x128x160 .bf16) (X5 X6 : Vec F S1x8x160x2048 .fp8e4m3)
    (X7 X8 : Vec F S1x8x2048 .f32) (s : St F) : St F :=
  stepSt (fillW arg0 v0 v1 vs) X2 X5 X6 X7 X8 (if isStart arg0 v0 v1 then startSt X2 X3 X4 else s)

set_option maxHeartbeats 8000000 in
/-- What follows the start of a point: the block, then the result if the block is the sequence's last. -/
theorem rest_spec (v0 v1 vs : BitVec 32) (Q : PUnit → sProp 𝕄) :
    iprop(owns (c : Thread nD τ) arg2 fullShare X2 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ stOwns c arg10 arg11 arg12 s) ⊢
      iprop((owns (c : Thread nD τ) arg2 fullShare X2 ∗ owns (c : Thread nD τ) arg5 fullShare X5 ∗ owns (c : Thread nD τ) arg6 fullShare X6 ∗ owns (c : Thread nD τ) arg7 fullShare X7 ∗ owns (c : Thread nD τ) arg8 fullShare X8
          ∗ owns (c : Thread nD τ) arg9 fullShare (if k0_cond2 arg0 v0 v1 vs = 1#1 then outV (stepSt (fillW arg0 v0 v1 vs) X2 X5 X6 X7 X8 s) else X9)
          ∗ stOwns c arg10 arg11 arg12 (stepSt (fillW arg0 v0 v1 vs) X2 X5 X6 X7 X8 s) -∗ Q PUnit.unit) -∗
        wp frame (wpE (defs₀ (F := F)) Variants.none c none) Set.univ (s1.tail b i arg0 arg1 harg1 arg2 harg2 arg3 harg3 arg4 harg4 arg5 harg5 arg6 harg6
          arg7 harg7 arg8 harg8 arg9 harg9 arg10 harg10 arg11 harg11 arg12 harg12 v0 v1 vs) Q) := by
  rw [s2.eq]
  by_cases hF : k0_cond2 arg0 v0 v1 vs = 1#1
  · rw [if_pos hF]
    iintro ⟨H2, H5, H6, H7, H8, H9, HS⟩ HK
    iapply (s2_spec (F := F) c arg0 arg2 arg5 arg6 arg7 arg8 arg10 arg11 arg12 X2 X5 X6 X7 X8 s v0 v1 vs _ _) $$ [H2 H5 H6 H7 H8 HS]
    · isplitl [H2]; · iexact H2
      isplitl [H5]; · iexact H5
      isplitl [H6]; · iexact H6
      isplitl [H7]; · iexact H7
      isplitl [H8]; · iexact H8
      iexact HS
    iintro ⟨H2, H5, H6, H7, H8, HS⟩
    iapply (tail_finish (F := F) c b i arg0 arg1 harg1 arg2 harg2 arg3 harg3 arg4 harg4 arg5 harg5 arg6 harg6 arg7 harg7 arg8 harg8 arg9 harg9 arg10 harg10
      arg11 harg11 arg12 harg12 X9 _ v0 v1 vs _ hF) $$ [H9 HS]
    · isplitl [H9]; · iexact H9
      iexact HS
    iintro ⟨H9, HS⟩
    iapply HK
    isplitl [H2]; · iexact H2
    isplitl [H5]; · iexact H5
    isplitl [H6]; · iexact H6
    isplitl [H7]; · iexact H7
    isplitl [H8]; · iexact H8
    isplitl [H9]; · iexact H9
    iexact HS
  · rw [if_neg hF]
    iintro ⟨H2, H5, H6, H7, H8, H9, HS⟩ HK
    iapply (s2_spec (F := F) c arg0 arg2 arg5 arg6 arg7 arg8 arg10 arg11 arg12 X2 X5 X6 X7 X8 s v0 v1 vs _ _) $$ [H2 H5 H6 H7 H8 HS]
    · isplitl [H2]; · iexact H2
      isplitl [H5]; · iexact H5
      isplitl [H6]; · iexact H6
      isplitl [H7]; · iexact H7
      isplitl [H8]; · iexact H8
      iexact HS
    iintro ⟨H2, H5, H6, H7, H8, HS⟩
    iapply (tail_skip (F := F) c b i arg0 arg1 harg1 arg2 harg2 arg3 harg3 arg4 harg4 arg5 harg5 arg6 harg6 arg7 harg7 arg8 harg8 arg9 harg9 arg10 harg10
      arg11 harg11 arg12 harg12 v0 v1 vs _ hF)
    iapply HK
    isplitl [H2]; · iexact H2
    isplitl [H5]; · iexact H5
    isplitl [H6]; · iexact H6
    isplitl [H7]; · iexact H7
    isplitl [H8]; · iexact H8
    isplitl [H9]; · iexact H9
    iexact HS

set_option maxHeartbeats 8000000 in
/-- One grid point: from the blocks and the running state to the state after the block, and the result at a sequence's last block. -/
theorem body_spec (Q : PUnit → sProp 𝕄) (v0 v1 vs : BitVec 32)
    (hchk : k0_chk1 arg0 (rd (F := F) arg1 f1 ![0] inb_S3_S1_0) (rd (F := F) arg1 f1 ![1] inb_S3_S1_1))
    (h0 : (rd (F := F) arg1 f1 ![0] inb_S3_S1_0) = v0) (h1 : (rd (F := F) arg1 f1 ![1] inb_S3_S1_1) = v1) (hs : (rd (F := F) arg1 f1 _ hchk) = vs) :
    iprop((arg1.view.loc (c : Thread nD τ) ↦{fullShare.right} f1) ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ stOwns c arg10 arg11 arg12 s) ⊢
      iprop(((arg1.view.loc (c : Thread nD τ) ↦{fullShare.right} f1) ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8
          ∗ owns (c : Thread nD τ) arg9 fullShare (if k0_cond2 arg0 v0 v1 vs = 1#1 then outV (nextSt arg0 v0 v1 vs X2 X3 X4 X5 X6 X7 X8 s) else X9)
          ∗ stOwns c arg10 arg11 arg12 (nextSt arg0 v0 v1 vs X2 X3 X4 X5 X6 X7 X8 s) -∗ Q PUnit.unit) -∗
        wp frame (wpE (defs₀ (F := F)) Variants.none c none) Set.univ (cc0_gqa_decode b i arg0 arg1 harg1 arg2 harg2 arg3 harg3 arg4 harg4 arg5 harg5 arg6 harg6
          arg7 harg7 arg8 harg8 arg9 harg9 arg10 harg10 arg11 harg11 arg12 harg12) Q) := by
  rw [flat.eq, s1.eq]
  subst h0 h1 hs
  by_cases hC : isStart arg0 (rd (F := F) arg1 f1 ![0] inb_S3_S1_0) (rd (F := F) arg1 f1 ![1] inb_S3_S1_1)
  · unfold nextSt
    rw [if_pos hC]
    iintro ⟨H1, H2, H3, H4, H5, H6, H7, H8, H9, HS⟩ HK
    iapply (s1_start (F := F) c b i arg0 arg1 harg1 arg2 harg2 arg3 harg3 arg4 harg4 arg5 harg5 arg6 harg6 arg7 harg7 arg8 harg8 arg9 harg9 arg10 harg10
      arg11 harg11 arg12 harg12 f1 X2 X3 X4 s _ _ hchk hC) $$ [H1 H2 H3 H4 HS]
    · isplitl [H1]; · iexact H1
      isplitl [H2]; · iexact H2
      isplitl [H3]; · iexact H3
      isplitl [H4]; · iexact H4
      iexact HS
    iintro ⟨H1, H2, H3, H4, HS⟩
    iapply (rest_spec (F := F) c b i arg0 arg1 harg1 arg2 harg2 arg3 harg3 arg4 harg4 arg5 harg5 arg6 harg6 arg7 harg7 arg8 harg8 arg9 harg9 arg10 harg10
      arg11 harg11 arg12 harg12 X2 X5 X6 X7 X8 X9 _ _ _ _ _) $$ [H2 H5 H6 H7 H8 H9 HS]
    · isplitl [H2]; · iexact H2
      isplitl [H5]; · iexact H5
      isplitl [H6]; · iexact H6
      isplitl [H7]; · iexact H7
      isplitl [H8]; · iexact H8
      isplitl [H9]; · iexact H9
      iexact HS
    iintro ⟨H2, H5, H6, H7, H8, H9, HS⟩
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  · unfold nextSt
    rw [if_neg hC]
    iintro ⟨H1, H2, H3, H4, H5, H6, H7, H8, H9, HS⟩ HK
    iapply (s1_skip (F := F) c b i arg0 arg1 harg1 arg2 harg2 arg3 harg3 arg4 harg4 arg5 harg5 arg6 harg6 arg7 harg7 arg8 harg8 arg9 harg9 arg10 harg10
      arg11 harg11 arg12 harg12 f1 _ _ hchk hC) $$ H1
    iintro H1
    iapply (rest_spec (F := F) c b i arg0 arg1 harg1 arg2 harg2 arg3 harg3 arg4 harg4 arg5 harg5 arg6 harg6 arg7 harg7 arg8 harg8 arg9 harg9 arg10 harg10
      arg11 harg11 arg12 harg12 X2 X5 X6 X7 X8 X9 _ _ _ _ _) $$ [H2 H5 H6 H7 H8 H9 HS]
    · isplitl [H2]; · iexact H2
      isplitl [H5]; · iexact H5
      isplitl [H6]; · iexact H6
      isplitl [H7]; · iexact H7
      isplitl [H8]; · iexact H8
      isplitl [H9]; · iexact H9
      iexact HS
    iintro ⟨H2, H5, H6, H7, H8, H9, HS⟩
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS

end
end Cert.KernelIdeal.Body
-- ==== Proof.IdealTables.lean ====
/-
  What the two prefetched tables of the kernel's grid hold when the grid starts: the sequences' lengths as they were given, and the number
  of grid points, the sum of the sequences' block counts.  With lengths that fit, every table-dependent side condition of the grid holds.
-/
module

public import proofs.«01_k».proof.Proof.IdealBody
public import Idealize.ShloMosaic.Lib.Pipeline.FrameSuffix
public import Idealize.ShloMosaic.Lib.Claim
public import Idealize.ShloMosaic.Lib.WordCmp
public import Idealize.ShloMosaic.Lib.Routing.Ops

@[expose] public section
set_option maxRecDepth 16384
noncomputable section
namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable (m : (ℓ : Loc nD τ sig) → Buf (Elt F) ℓ)

/-- The host operations before the grid. -/
abbrev pfx : List (List (HloOp τ sig (Elt F))) :=
  [hostOps0, hostOps0_1, hostOps0_2, hostOps0_3, hostOps0_4, hostOps0_5, hostOps0_6, hostOps0_7, hostOps0_8]

/-- The buffers' contents when the grid starts. -/
abbrev V0 (c : Dev nD) : Valuation τ sig (Elt F) := StableHlo.after pfx.flatten (fun b => m (c, b))
abbrev V (c : Dev nD) (b : Ref sig .tc) : Buf (Elt F) ((c : Thread nD τ).loc b) := V0 m c (Proc.devRef .tc b)

/-- The length of a sequence. -/
def len (c : Dev nD) (j : Fin 3) : BitVec 32 := (m ((c : Thread nD τ).loc main_arg7) : IVec S3 32) (ValueIdx.ix1 j)

set_option maxHeartbeats 4000000 in
theorem V_main_arg7 (c : Dev nD) : V m c main_arg7 = m ((c : Thread nD τ).loc main_arg7) := by
  dsimp only [V, V0, pfx, List.flatten, List.append]
  after_results

/-- The block counts as the host computes them. -/
def counts (x : IVec S3 32) : IVec S3 32 :=
  let y := addi x (broadcastInDim S3 ![] bcast_S_S3 (constantI S_ 32 2047#32))
  let k := broadcastInDim S3 ![] bcast_S_S3 (constantI S_ 32 2048#32)
  maxsi (select (andi (cmpi .ne (signi y) (broadcastInDim S3 ![] bcast_S_S3 (signi (constantI S_ 32 2048#32))))
      (cmpi .ne (Host.remsi y k) (broadcastInDim S3 ![] bcast_S_S3 (constantI S_ 32 0#32))))
    (subi (Host.divsi y k) (broadcastInDim S3 ![] bcast_S_S3 (constantI S_ 32 1#32))) (Host.divsi y k))
    (broadcastInDim S3 ![] bcast_S_S3 (constantI S_ 32 1#32))

set_option maxHeartbeats 4000000 in
theorem V_main_v17_eq (c : Dev nD) : V m c main_v17
    = Host.reduce IntOp.addi (counts (m ((c : Thread nD τ).loc main_arg7))) (constantI S_ 32 0#32) reducesTo_S3_S_d0 h_S_ := by
  dsimp only [V, V0, pfx, List.flatten, List.append]
  after_results
  simp only [StableHlo.TRef.ofBuf_toBuf, id_eq]
  simp only [StableHlo.TRef.ofBuf, StableHlo.TRef.toBuf, cast_eq]
  unfold counts
  with_reducible rfl

theorem counts_apply (x : IVec S3 32) (j : S3.Idx) (hx : (x j).toInt ≤ 65536) : counts x j = BitVec.ofNat 32 (Words.nb (x j)) := by
  have hs : signi (constantI S_ 32 2048#32) = constantI S_ 32 1#32 := by
    funext _; show (if (2048#32 : BitVec 32) = 0 then (0 : BitVec 32) else if (2048#32 : BitVec 32).msb then -1 else 1) = 1#32; decide
  have h := Words.maxsi_floordiv .host hx (IntOp.cmpi .ne (if x j + 2047#32 = 0 then 0 else if (x j + 2047#32).msb then -1 else 1) 1#32) ?_
  · rw [← h]
    unfold counts
    rw [hs]
    simp only [maxsi, select, andi, cmpi, subi, Host.divsi, Host.remsi, addi, broadcastInDim, constantI, signi, IntOp.addi, IntOp.subi, Scalar.select]
    rfl
  · generalize x j + 2047#32 = y
    by_cases h0 : y = 0
    · subst h0; decide
    · rw [if_neg h0, BitVec.msb_eq_toInt]
      by_cases hn : y.toInt < 0
      · rw [if_pos (by simpa using hn)]
        exact ⟨fun _ => by omega, fun _ => by decide⟩
      · rw [if_neg (by simpa using hn)]
        have : y.toInt ≠ 0 := fun e => h0 (BitVec.eq_of_toInt_eq (by simpa using e))
        exact ⟨fun h => absurd h (by decide), fun h => absurd (show 0 < y.toInt by omega) h⟩

variable (hfit : ∀ c j, (len m c j).toInt ≤ 65536)

/-- How many grid points there are. -/
def npts (c : Dev nD) : ℕ := Words.nb (len m c 0) + Words.nb (len m c 1) + Words.nb (len m c 2)

include hfit in
theorem V_main_v17 (c : Dev nD) (i : S_.Idx) : V m c main_v17 i = BitVec.ofNat 32 (npts m c) := by
  rw [V_main_v17_eq, ValueIdx.eq_ix0 i]
  exact Routing.reduce_sum (N := 3) _ (fun j => if h : j < 3 then Words.nb (len m c ⟨j, h⟩) else 0)
    (fun j => (counts_apply _ _ (hfit c j)).trans (by rw [dif_pos j.isLt]; rfl)) _ _ |>.trans
    (show BitVec.ofNat 32 (Words.nb (len m c 0) + (Words.nb (len m c 1) + (Words.nb (len m c 2) + 0))) = _ by rw [Nat.add_zero, ← Nat.add_assoc]; rfl)

/-! ## The tables -/

def tbl : pre0.Contents (Elt F) := fun j => V m (0 : Dev nD) (pre0.ref j)
theorem V_pre (c : Dev nD) (j : Fin 2) : V m c (pre0.ref j) = tbl m j := by
  obtain rfl : c = 0 := Subsingleton.elim _ _; rfl

theorem tbl_one : tbl m 1 = m (((0 : Dev nD) : Thread nD τ).loc main_arg7) := V_main_arg7 m 0

theorem tbl_at0 (hb : ∀ a, (![0] : Fin 1 → Nat) a + S1.size a ≤ S3.size a) (h1 : S1.numel = 1) :
    (tbl m).at 1 (Rect.unit (s := S3) ![0] S1.size hb) h1 = len m 0 0 := by
  unfold Pipeline.Prefetch.Contents.at
  rw [tbl_one]
  exact congrArg (m (((0 : Dev nD) : Thread nD τ).loc main_arg7) : IVec S3 32) (by funext a; fin_cases a; rfl)
theorem tbl_at1 (hb : ∀ a, (![1] : Fin 1 → Nat) a + S1.size a ≤ S3.size a) (h1 : S1.numel = 1) :
    (tbl m).at 1 (Rect.unit (s := S3) ![1] S1.size hb) h1 = len m 0 1 := by
  unfold Pipeline.Prefetch.Contents.at
  rw [tbl_one]
  exact congrArg (m (((0 : Dev nD) : Thread nD τ).loc main_arg7) : IVec S3 32) (by funext a; fin_cases a; rfl)

/-- A point's sequence and its block number in that sequence. -/
abbrev seqN (i : ℕ) : ℕ := Words.seqOf (Words.nb (len m 0 0)) (Words.nb (len m 0 1)) i
abbrev blkN (i : ℕ) : ℕ := i - Words.startOf (Words.nb (len m 0 0)) (Words.nb (len m 0 1)) i

section
variable (b : grid0.Bounds) (i : (grid0.at b).Coords)
set_option maxHeartbeats 1000000 in
theorem tr0 : cc0_transform_0 inb_S3_S1_0 numel1_S1 inb_S3_S1_1 (tbl m) b i = ![(Words.seqW (BitVec.ofNat 32 (i 0).val) (len m 0 0) (len m 0 1)).toNat, 0, 0, 0] := by
  unfold cc0_transform_0
  dsimp only
  rw [tbl_at0, tbl_at1]
  rfl
set_option maxHeartbeats 1000000 in
theorem tr1 : cc0_transform_1 inb_S3_S1_0 numel1_S1 inb_S3_S1_1 (tbl m) b i = ![(Words.seqW (BitVec.ofNat 32 (i 0).val) (len m 0 0) (len m 0 1)).toNat, 0, 0, 0] := by
  unfold cc0_transform_1
  dsimp only
  rw [tbl_at0, tbl_at1]
  rfl
set_option maxHeartbeats 1000000 in
theorem tr2 : cc0_transform_2 inb_S3_S1_0 numel1_S1 inb_S3_S1_1 (tbl m) b i = ![(Words.seqW (BitVec.ofNat 32 (i 0).val) (len m 0 0) (len m 0 1)).toNat, 0, 0, 0] := by
  unfold cc0_transform_2
  dsimp only
  rw [tbl_at0, tbl_at1]
  rfl
set_option maxHeartbeats 1000000 in
theorem tr7 : cc0_transform_7 inb_S3_S1_0 numel1_S1 inb_S3_S1_1 (tbl m) b i = ![(Words.seqW (BitVec.ofNat 32 (i 0).val) (len m 0 0) (len m 0 1)).toNat, 0, 0, 0] := by
  unfold cc0_transform_7
  dsimp only
  rw [tbl_at0, tbl_at1]
  rfl
set_option maxHeartbeats 1000000 in
theorem tr3 : cc0_transform_3 inb_S3_S1_0 numel1_S1 inb_S3_S1_1 (tbl m) b i = ![(Words.seqW (BitVec.ofNat 32 (i 0).val) (len m 0 0) (len m 0 1)).toNat, 0, 0, (Words.blkW (BitVec.ofNat 32 (i 0).val) (len m 0 0) (len m 0 1)).toNat] := by
  unfold cc0_transform_3
  dsimp only
  rw [tbl_at0, tbl_at1]
  rfl
set_option maxHeartbeats 1000000 in
theorem tr4 : cc0_transform_4 inb_S3_S1_0 numel1_S1 inb_S3_S1_1 (tbl m) b i = ![(Words.seqW (BitVec.ofNat 32 (i 0).val) (len m 0 0) (len m 0 1)).toNat, 0, 0, (Words.blkW (BitVec.ofNat 32 (i 0).val) (len m 0 0) (len m 0 1)).toNat] := by
  unfold cc0_transform_4
  dsimp only
  rw [tbl_at0, tbl_at1]
  rfl
set_option maxHeartbeats 1000000 in
theorem tr5 : cc0_transform_5 inb_S3_S1_0 numel1_S1 inb_S3_S1_1 (tbl m) b i = ![(Words.seqW (BitVec.ofNat 32 (i 0).val) (len m 0 0) (len m 0 1)).toNat, 0, (Words.blkW (BitVec.ofNat 32 (i 0).val) (len m 0 0) (len m 0 1)).toNat] := by
  unfold cc0_transform_5
  dsimp only
  rw [tbl_at0, tbl_at1]
  rfl
set_option maxHeartbeats 1000000 in
theorem tr6 : cc0_transform_6 inb_S3_S1_0 numel1_S1 inb_S3_S1_1 (tbl m) b i = ![(Words.seqW (BitVec.ofNat 32 (i 0).val) (len m 0 0) (len m 0 1)).toNat, 0, (Words.blkW (BitVec.ofNat 32 (i 0).val) (len m 0 0) (len m 0 1)).toNat] := by
  unfold cc0_transform_6
  dsimp only
  rw [tbl_at0, tbl_at1]
  rfl
end

include hfit in
theorem npts_le (c : Dev nD) : npts m c ≤ 96 := by
  have h0 := Words.nb_le (hfit c 0); have h1 := Words.nb_le (hfit c 1); have h2 := Words.nb_le (hfit c 2)
  unfold npts; omega

include hfit in
theorem dynb_eq (a : Fin 1) : dynb0 (tbl m) a = npts m 0 := by
  have h := npts_le m hfit 0
  obtain rfl : a = 0 := Subsingleton.elim _ _
  have e : dynb0 (tbl m) 0 = (BitVec.ofNat 32 (npts m 0)).toNat :=
    congrArg BitVec.toNat (V_main_v17 m hfit 0 _)
  rw [e, BitVec.toNat_ofNat]
  omega

include hfit in
theorem coord_lt (i : (grid0.at (dynb0 (tbl m))).Coords) : (i 0).val < npts m 0 := by
  have h := (i 0).isLt
  rw [← dynb_eq m hfit 0]
  exact h

include hfit in
theorem seq_toNat {i : ℕ} (hi : i < npts m 0) : (Words.seqW (BitVec.ofNat 32 i) (len m 0 0) (len m 0 1)).toNat = seqN m i := by
  have h := npts_le m hfit 0
  have hs := Words.seqOf_lt (Words.nb (len m 0 0)) (Words.nb (len m 0 1)) i
  rw [Words.seqW_eq (hfit 0 0) (hfit 0 1) (by omega), BitVec.toNat_ofNat]
  unfold seqN
  omega
include hfit in
theorem blk_toNat {i : ℕ} (hi : i < npts m 0) : (Words.blkW (BitVec.ofNat 32 i) (len m 0 0) (len m 0 1)).toNat = blkN m i := by
  have h := npts_le m hfit 0
  rw [Words.blkW_eq (hfit 0 0) (hfit 0 1) (by omega), BitVec.toNat_ofNat]
  unfold blkN
  omega

theorem seqN_lt (i : ℕ) : seqN m i < 3 := Words.seqOf_lt _ _ i

/-- A point's block number is below its sequence's block count. -/
theorem blkN_lt {i : ℕ} (hi : i < npts m 0) : blkN m i < Words.nb (len m 0 ⟨seqN m i, seqN_lt m i⟩) := by
  unfold npts at hi
  have key : ∀ k (hk : k < 3), seqN m i = k → i - Words.startOf (Words.nb (len m 0 0)) (Words.nb (len m 0 1)) i < Words.nb (len m 0 ⟨k, hk⟩) := by
    intro k hk he
    unfold seqN Words.seqOf at he
    unfold Words.startOf
    interval_cases k
    all_goals (split_ifs at he ⊢ <;> first | omega | skip)
    · show i - 0 < Words.nb (len m 0 0); omega
    · show _ < Words.nb (len m 0 1); omega
    · show _ < Words.nb (len m 0 2); omega
  exact key _ _ rfl

include hfit in
theorem ok : ok0 (F := F) (tbl m) := by
  have hN := npts_le m hfit 0
  refine ⟨?_, fun i => ?_, fun i => ?_, fun i => ?_, fun i => ?_, fun i => ?_, fun i => ?_, fun i => ?_, fun i => ?_⟩
  · show (grid0.at (dynb0 (tbl m))).N + 2 < 2 ^ 31
    have : (grid0.at (dynb0 (tbl m))).N = dynb0 (tbl m) 0 := by
      simp [Pipeline.Grid.N, Pipeline.Grid.boundAt]
    rw [this, dynb_eq m hfit]; omega
  all_goals
    have hi := coord_lt m hfit i
    have hs := seqN_lt m (i 0).val
    have hb := blkN_lt m hi
    have hb' := Words.nb_le (hfit 0 ⟨seqN m (i 0).val, hs⟩)
    simp only [tr0, tr1, tr2, tr3, tr4, tr5, tr6, tr7, seq_toNat m hfit hi, blk_toNat m hfit hi]
  case refine_7 => exact ⟨fun a => by fin_cases a <;> simp <;> omega, .inl rfl⟩
  case refine_8 => exact ⟨fun a => by fin_cases a <;> simp <;> omega, .inl rfl⟩
  all_goals exact ⟨fun a => by fin_cases a <;> simp <;> omega, .inr (.inr ⟨by decide, rfl, rfl, rfl⟩)⟩

end Cert.KernelIdeal.Body
-- ==== Proof.IdealPoints.lean ====
/-
  What the kernel asks at a grid point, in numbers: the sequence's length word, whether the block is its sequence's first or last, and that
  the next point of an unfinished sequence belongs to the same sequence.
-/
module

public import proofs.«01_k».proof.Proof.IdealTables

@[expose] public section
set_option maxRecDepth 16384
noncomputable section
namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable (m : (ℓ : Loc nD τ sig) → Buf (Elt F) ℓ)
variable (hfit : ∀ c j, (len m c j).toInt ≤ 65536)

theorem off1_eq (x v0 v1 : BitVec 32) : k0_off1 x v0 v1 = ![(Words.seqW x v0 v1).toNat] := rfl

/-- The length word of the point's sequence. -/
def lenAt (i : ℕ) : BitVec 32 := len m 0 ⟨seqN m i, seqN_lt m i⟩

/-- A word of the table of lengths as the body reads it. -/
theorem rd_eq (c : Dev nD) (off : Fin S3.rank → ℕ) (h : ∀ a, off a + S1.size a ≤ S3.size a) (k : Fin 3) (hk : off = ![k.val]) :
    rd (F := F) (c := c) (Memref.whole main_arg7) (tbl m 1) off h = len m 0 k := by
  subst hk
  unfold rd
  rw [tbl_one]
  exact congrArg (m (((0 : Dev nD) : Thread nD τ).loc main_arg7) : IVec S3 32) (by funext a; fin_cases a; rfl)

/-- A word of the table of lengths as the grid's idle table reads it. -/
theorem atD_eq (off : Fin 1 → ℕ) (k : Fin 3) (hk : off = ![k.val]) : (tbl m).atD 1 off = len m 0 k := by
  subst hk
  unfold Pipeline.Prefetch.Contents.atD
  refine (dif_pos (show ∀ a : Fin 1, (![k.val] : Fin 1 → ℕ) a + 1 ≤ (![3] : Fin 1 → ℕ) a from fun a => ?_)).trans ?_
  · obtain rfl : a = 0 := Subsingleton.elim _ _
    exact k.isLt
  · rw [tbl_one]
    exact congrArg (m (((0 : Dev nD) : Thread nD τ).loc main_arg7) : IVec S3 32) (by funext a; fin_cases a; rfl)

section
variable {i : ℕ} (hi : i < npts m 0)
include hfit hi

theorem off1_at : k0_off1 (BitVec.ofNat 32 i) (len m 0 0) (len m 0 1) = ![seqN m i] := by
  rw [off1_eq, seq_toNat m hfit hi]

theorem chk : k0_chk1 (BitVec.ofNat 32 i) (len m 0 0) (len m 0 1) := by
  intro a
  rw [off1_at m hfit hi]
  obtain rfl : a = 0 := Subsingleton.elim _ _
  have := seqN_lt m i
  show seqN m i + 1 ≤ 3
  omega

theorem isStart_iff : isStart (BitVec.ofNat 32 i) (len m 0 0) (len m 0 1) ↔ blkN m i = 0 := by
  have hN := npts_le m hfit 0
  have hb : blkN m i ≤ i := Nat.sub_le _ _
  unfold isStart
  rw [Words.blkW_eq (hfit 0 0) (hfit 0 1) (by omega), show i - Words.startOf (Words.nb (len m 0 0)) (Words.nb (len m 0 1)) i = blkN m i from rfl]
  have hz : (BitVec.ofNat 32 (blkN m i) = 0#32) ↔ blkN m i = 0 := by
    constructor
    · intro h
      have := congrArg BitVec.toNat h
      rw [BitVec.toNat_ofNat] at this
      simp at this
      omega
    · intro h; rw [h]
  rw [← hz]
  by_cases h : BitVec.ofNat 32 (blkN m i) = 0#32
  · rw [h]; decide
  · have : Scalar.cmpi .eq (BitVec.ofNat 32 (blkN m i)) 0#32 = 0#1 := by
      show BitVec.ofBool (BitVec.ofNat 32 (blkN m i) == 0#32) = _
      rw [beq_false_of_ne h]; rfl
    rw [this]
    simp only [h, iff_false]; decide

theorem cond2_iff : k0_cond2 (BitVec.ofNat 32 i) (len m 0 0) (len m 0 1) (lenAt m i) = 1#1 ↔ blkN m i + 1 = Words.nb (lenAt m i) := by
  have hN := npts_le m hfit 0
  have hb : blkN m i ≤ i := Nat.sub_le _ _
  have hlen : (lenAt m i).toInt ≤ 65536 := hfit 0 _
  have hnb := Words.nb_le hlen
  have hnb1 := Words.nb_pos (lenAt m i)
  have e : k0_cond2 (BitVec.ofNat 32 i) (len m 0 0) (len m 0 1) (lenAt m i)
      = Scalar.cmpi .ne (Scalar.extui (Scalar.cmpi .eq (Words.blkW (BitVec.ofNat 32 i) (len m 0 0) (len m 0 1)) (Scalar.subi (Words.nbW (lenAt m i)) 1#32))) 0#32 := rfl
  rw [e, Words.blkW_eq (hfit 0 0) (hfit 0 1) (by omega), show i - Words.startOf (Words.nb (len m 0 0)) (Words.nb (len m 0 1)) i = blkN m i from rfl,
    Words.nbW_eq hlen]
  have hs : Scalar.subi (BitVec.ofNat 32 (Words.nb (lenAt m i))) 1#32 = BitVec.ofNat 32 (Words.nb (lenAt m i) - 1) := by
    show BitVec.ofNat 32 (Words.nb (lenAt m i)) - 1#32 = _
    apply BitVec.eq_of_toNat_eq
    rw [BitVec.toNat_sub, BitVec.toNat_ofNat, BitVec.toNat_ofNat, BitVec.toNat_ofNat]
    omega
  rw [hs]
  have hz : (BitVec.ofNat 32 (blkN m i) = BitVec.ofNat 32 (Words.nb (lenAt m i) - 1)) ↔ blkN m i + 1 = Words.nb (lenAt m i) := by
    constructor
    · intro h
      have := congrArg BitVec.toNat h
      rw [BitVec.toNat_ofNat, BitVec.toNat_ofNat] at this
      omega
    · intro h; rw [← h]; rfl
  rw [← hz]
  by_cases h : BitVec.ofNat 32 (blkN m i) = BitVec.ofNat 32 (Words.nb (lenAt m i) - 1)
  · rw [h]
    have : Scalar.cmpi .eq (BitVec.ofNat 32 (Words.nb (lenAt m i) - 1)) (BitVec.ofNat 32 (Words.nb (lenAt m i) - 1)) = 1#1 := by
      show BitVec.ofBool _ = _
      simp
    rw [this]
    exact ⟨fun _ => rfl, fun _ => by decide⟩
  · have : Scalar.cmpi .eq (BitVec.ofNat 32 (blkN m i)) (BitVec.ofNat 32 (Words.nb (lenAt m i) - 1)) = 0#1 := by
      show BitVec.ofBool (BitVec.ofNat 32 (blkN m i) == BitVec.ofNat 32 (Words.nb (lenAt m i) - 1)) = _
      rw [beq_false_of_ne h]; rfl
    rw [this]
    simp only [h, iff_false]; decide
end

/-- The first point starts a sequence. -/
theorem blkN_zero : blkN m 0 = 0 := Nat.zero_sub _

/-- The point after a block that is not its sequence's last. -/
theorem next_point {i : ℕ} (hi : i < npts m 0) (h : blkN m i + 1 ≠ Words.nb (lenAt m i)) :
    i + 1 < npts m 0 ∧ seqN m (i + 1) = seqN m i ∧ blkN m (i + 1) = blkN m i + 1 := by
  have hb := blkN_lt m hi
  have hp0 := Words.nb_pos (len m 0 0); have hp1 := Words.nb_pos (len m 0 1); have hp2 := Words.nb_pos (len m 0 2)
  have key : ∀ k (hk : k < 3), seqN m i = k → blkN m i + 1 < Words.nb (len m 0 ⟨k, hk⟩) →
      i + 1 < npts m 0 ∧ seqN m (i + 1) = k ∧ blkN m (i + 1) = blkN m i + 1 := by
    intro k hk he hlt
    unfold npts at hi ⊢
    unfold seqN Words.seqOf at he ⊢
    unfold blkN Words.startOf at hlt ⊢
    interval_cases k
    · change _ < Words.nb (len m 0 0) at hlt
      split_ifs at he hlt ⊢ <;> omega
    · change _ < Words.nb (len m 0 1) at hlt
      split_ifs at he hlt ⊢ <;> omega
    · change _ < Words.nb (len m 0 2) at hlt
      split_ifs at he hlt ⊢ <;> omega
  exact key _ (seqN_lt m i) rfl (lt_of_le_of_ne hb h)

end Cert.KernelIdeal.Body
-- ==== Proof.IdealLaunch.lean ====
/-
  The kernel's run.  The grid carries the running state from point to point in the scratch arrays; `stN` is the state before each point.  From it
  follow the proof data of the pipeline, the body's obligation at every point, and the run: the launch ends, every counter at zero, the argument
  arrays as they were.
-/
module

public import proofs.«01_k».proof.Proof.IdealPoints
public import Idealize.ShloMosaic.Lib.Tactic

@[expose] public section
set_option maxRecDepth 16384
noncomputable section
namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

/-! ## @main around the grid -/

theorem pfx_fresh : (pfx : List (List (HloOp τ sig (Elt F)))).Forall fun ops => ops.Forall fun op => op.fresh = ∅ := by
  simp only [List.Forall]; repeat' constructor
theorem pfx_sub : (pfx : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub⟩

abbrev hostOps1_W : List (Ref sig .tc) := [main_v19, main_v20, main_v21, main_v22]
theorem hostOps1_writes : (hostOps1 : List (HloOp τ sig (Elt F))).Forall fun op => op.writes ⊆ (hostOps1_W.map (Proc.devRef (τ := τ) .tc)).toFinset :=
  StableHlo.forall_writes_sub_of_map rfl
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainPK (Ix := Unit) (Name := ℕ) (U := UR sig nD τ) (Lvl := ℕ) (pcfgs (F := F)) 0 defs₀ 𝒱₀ m (main (F := F)) (V m)
      (fun _ => Pipeline.chain ([hostOps1].map StableHlo.seq)) :=
  Pipeline.hmainP_around pcfgs 0 defs₀ 𝒱₀ m main pfx [hostOps1] pfx_sub pfx_fresh main_chain

theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) fun k hk => ?_
  have hb : (hostOps1 : List (HloOp τ sig (Elt F))).Forall fun op =>
      op.bufs ⊆ (([main_v18, main_v19, main_v20, main_v21, main_v22] : List (Ref sig .tc)).map (Proc.devRef (τ := τ) .tc)).toFinset := by
    simp only [List.Forall]
    refine ⟨?_, ?_, ?_, ?_⟩
    all_goals
      intro r hr
      rcases Finset.mem_insert.1 hr with h | h
      · rw [h]; simp
      · rw [Finset.mem_singleton.1 h]; simp
  obtain ⟨y, hy, he⟩ := List.mem_map.mp (List.mem_toFinset.mp ((List.forall_iff_forall_mem.mp hb) op hop hk))
  exact (by decide +kernel : ∀ k, pre0.ref k ∉ ([main_v18, main_v19, main_v20, main_v21, main_v22] : List (Ref sig .tc))) k (Proc.devRef_injective _ he ▸ hy)
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  subst hops
  intro w hb
  obtain ⟨y, hy, he⟩ := List.mem_map.mp (List.mem_toFinset.mp ((List.forall_iff_forall_mem.mp hostOps1_writes) op hop hb))
  exact (by decide +kernel : ∀ w, Pipeline.arrRef spec0 w ∉ hostOps1_W) w (Proc.devRef_injective _ he ▸ hy)

/-! ## The state from point to point -/

variable (hfit : ∀ c j, (len m c j).toInt ≤ 65536)

abbrev adm : (pcfg0 (F := F)).Adm := ⟨tbl m, ok m hfit⟩
abbrev cfgM : Cfg sig Λ₀ := cfg0 (adm m hfit)

theorem cfg_N : (cfgM m hfit).N = npts m 0 := by
  show (grid0.at (dynb0 (tbl m))).N = _
  have : (grid0.at (dynb0 (tbl m))).N = dynb0 (tbl m) 0 := by
    simp [Pipeline.Grid.N, Pipeline.Grid.boundAt]
  rw [this, dynb_eq m hfit]

theorem pt_lt (t : Fin (cfgM m hfit).N) : t.val < npts m 0 := lt_of_lt_of_eq t.isLt (cfg_N m hfit)

theorem coords_val (t : Fin (cfgM m hfit).N) : ((cfgM m hfit).grid.coords t 0).val = t.val := by
  have h := Pipeline.Grid.coords_val (G := grid0.at (dynb0 (tbl m))) t 0 (S := 1) (B := npts m 0) rfl
    (show dynb0 (tbl m) 0 = _ from dynb_eq m hfit 0)
  have := pt_lt m hfit t
  rw [Nat.div_one, Nat.mod_eq_of_lt this] at h
  exact h

/-- Window `w`'s block at point `t`. -/
def iblk (c : Dev nD) (w : Fin (cfgM m hfit).W) (t : Fin (cfgM m hfit).N) :
    (((cfgM m hfit).win w).xblock ((cfgM m hfit).grid.coords t)).Idx → Elt F ((cfgM m hfit).win w).elt :=
  (((cfgM m hfit).win w).blk t).view.read (Elt F) (V m c (Pipeline.arrRef spec0 w))

/-- The state after point `t` from the state before it. -/
def nextAt (c : Dev nD) (t : Fin (cfgM m hfit).N) (s : St F) : St F :=
  nextSt (BitVec.ofNat 32 t.val) (len m 0 0) (len m 0 1) (lenAt m t.val) (iblk m hfit c 0 t) (iblk m hfit c 1 t) (iblk m hfit c 2 t)
    (iblk m hfit c 3 t) (iblk m hfit c 4 t) (iblk m hfit c 5 t) (iblk m hfit c 6 t) s

/-- The state before point `n`. -/
def stN (c : Dev nD) : ℕ → St F
  | 0 => ⟨View.canon [], View.canon [], View.canon []⟩
  | n + 1 => if h : n < (cfgM m hfit).N then nextAt m hfit c ⟨n, h⟩ (stN c n) else stN c n

theorem stN_succ (c : Dev nD) (t : Fin (cfgM m hfit).N) : stN m hfit c (t.val + 1) = nextAt m hfit c t (stN m hfit c t.val) := by
  rw [stN, dif_pos t.isLt]

/-- The first point does not read the state it finds. -/
theorem nextAt_zero (c : Dev nD) (t : Fin (cfgM m hfit).N) (h : t.val = 0) (s s' : St F) : nextAt m hfit c t s = nextAt m hfit c t s' := by
  unfold nextAt nextSt
  have hC := (isStart_iff m hfit (pt_lt m hfit t)).2 (by rw [h]; exact blkN_zero m)
  rw [if_pos hC, if_pos hC]

/-! ## The proof data -/

abbrev sc0 : Memref sig .tc .vmem S8x24x128 .f32 := Memref.whole cc0_scratch0
abbrev sc1 : Memref sig .tc .vmem S8x24x128 .f32 := Memref.whole cc0_scratch1
abbrev sc2 : Memref sig .tc .vmem S8x24x160 .f32 := Memref.whole cc0_scratch2
abbrev tb0 : Memref sig .tc .smem S_ .i32 := Memref.whole main_v17
abbrev tb1 : Memref sig .tc .smem S3 .i32 := Memref.whole main_arg7

theorem PhiT_eq (c : Dev nD) : (Pipeline.ΦT pre0 (tbl m) c : sProp 𝕄)
    = iprop((tb0.view.loc (c : Thread nD τ) ↦{fullShare.right} (tbl m 0)) ∗ (tb1.view.loc (c : Thread nD τ) ↦{fullShare.right} (tbl m 1))) := by
  unfold Pipeline.ΦT Pipeline.prefHeld
  rw [show (Finset.univ : Finset (Fin 2)) = insert (0 : Fin 2) {(1 : Fin 2)} from by decide, bigSep_insert (by decide), bigSep_singleton]
  rfl

/-- Between points: the scratch arrays at the state (at anything before the first point), the generator's register, the tables. -/
def inv (c : Dev nD) (n : ℕ) : sProp 𝕄 :=
  iprop(∃ s, ⌜n ≠ 0 → s = stN m hfit c n⌝ ∗ stOwns c sc0 sc1 sc2 s ∗ (∃ r, prngReg c r) ∗ Pipeline.ΦT pre0 (tbl m) c)

def dats (_ : Fin 1) (c : Dev nD) : Dat τ (Elt F) Unit ℕ (UR sig nD τ) ℕ (cfgM m hfit) c where
  A w := V m c (Pipeline.arrRef spec0 w)
  after w t := match w with
    | ⟨0, _⟩ => iblk m hfit c 0 t
    | ⟨1, _⟩ => iblk m hfit c 1 t
    | ⟨2, _⟩ => iblk m hfit c 2 t
    | ⟨3, _⟩ => iblk m hfit c 3 t
    | ⟨4, _⟩ => iblk m hfit c 4 t
    | ⟨5, _⟩ => iblk m hfit c 5 t
    | ⟨6, _⟩ => iblk m hfit c 6 t
    | ⟨7, _⟩ => outV (stN m hfit c (t.val + 1))
  Φ t := inv m hfit c t.val
  q _ := fullShare
  owed _ := 0

theorem A_eq (c : Dev nD) (w : Fin (cfgM m hfit).W) : (dats m hfit 0 c).A w = V m c (Pipeline.arrRef spec0 w) := by
  dsimp only [dats]

variable (c : Dev nD) (t : Fin (cfgM m hfit).N)
theorem after0 : (dats m hfit 0 c).after 0 t = iblk m hfit c 0 t := by dsimp only [dats]; rfl
theorem after1 : (dats m hfit 0 c).after 1 t = iblk m hfit c 1 t := by dsimp only [dats]; rfl
theorem after2 : (dats m hfit 0 c).after 2 t = iblk m hfit c 2 t := by dsimp only [dats]; rfl
theorem after3 : (dats m hfit 0 c).after 3 t = iblk m hfit c 3 t := by dsimp only [dats]; rfl
theorem after4 : (dats m hfit 0 c).after 4 t = iblk m hfit c 4 t := by dsimp only [dats]; rfl
theorem after5 : (dats m hfit 0 c).after 5 t = iblk m hfit c 5 t := by dsimp only [dats]; rfl
theorem after6 : (dats m hfit 0 c).after 6 t = iblk m hfit c 6 t := by dsimp only [dats]; rfl
theorem after7 : (dats m hfit 0 c).after (7 : Fin 8) t = outV (stN m hfit c (t.val + 1)) := by dsimp only [dats]
theorem before0 (d) : (dats m hfit 0 c).before 0 t d = iblk m hfit c 0 t :=
  ((dats m hfit 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (d) : (dats m hfit 0 c).before 1 t d = iblk m hfit c 1 t :=
  ((dats m hfit 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (d) : (dats m hfit 0 c).before 2 t d = iblk m hfit c 2 t :=
  ((dats m hfit 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (d) : (dats m hfit 0 c).before 3 t d = iblk m hfit c 3 t :=
  ((dats m hfit 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (d) : (dats m hfit 0 c).before 4 t d = iblk m hfit c 4 t :=
  ((dats m hfit 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (d) : (dats m hfit 0 c).before 5 t d = iblk m hfit c 5 t :=
  ((dats m hfit 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (d) : (dats m hfit 0 c).before 6 t d = iblk m hfit c 6 t :=
  ((dats m hfit 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-! ## The body at a point -/

/-- The windows' current staging arrays. -/
def stg0 : Memref sig .tc .vmem S1x8x24x160 .bf16 := spec0_0.stage ((cfgM m hfit).slots t 0)
def stg1 : Memref sig .tc .vmem S1x8x128x160 .bf16 := spec0_1.stage ((cfgM m hfit).slots t 1)
def stg2 : Memref sig .tc .vmem S1x8x128x160 .bf16 := spec0_2.stage ((cfgM m hfit).slots t 2)
def stg3 : Memref sig .tc .vmem S1x8x160x2048 .fp8e4m3 := spec0_3.stage ((cfgM m hfit).slots t 3)
def stg4 : Memref sig .tc .vmem S1x8x160x2048 .fp8e4m3 := spec0_4.stage ((cfgM m hfit).slots t 4)
def stg5 : Memref sig .tc .vmem S1x8x2048 .f32 := spec0_5.stage ((cfgM m hfit).slots t 5)
def stg6 : Memref sig .tc .vmem S1x8x2048 .f32 := spec0_6.stage ((cfgM m hfit).slots t 6)
def stg7 : Memref sig .tc .vmem S1x8x24x160 .bf16 := spec0_7.stage ((cfgM m hfit).slots t 7)
theorem stg0_whole : (stg0 m hfit t).IsWhole := hstage0_0 (((cfgM m hfit).slots t 0 : Fin spec0_0.nbuf).cast nbuf0_0)
theorem stg1_whole : (stg1 m hfit t).IsWhole := hstage0_1 (((cfgM m hfit).slots t 1 : Fin spec0_1.nbuf).cast nbuf0_1)
theorem stg2_whole : (stg2 m hfit t).IsWhole := hstage0_2 (((cfgM m hfit).slots t 2 : Fin spec0_2.nbuf).cast nbuf0_2)
theorem stg3_whole : (stg3 m hfit t).IsWhole := hstage0_3 (((cfgM m hfit).slots t 3 : Fin spec0_3.nbuf).cast nbuf0_3)
theorem stg4_whole : (stg4 m hfit t).IsWhole := hstage0_4 (((cfgM m hfit).slots t 4 : Fin spec0_4.nbuf).cast nbuf0_4)
theorem stg5_whole : (stg5 m hfit t).IsWhole := hstage0_5 (((cfgM m hfit).slots t 5 : Fin spec0_5.nbuf).cast nbuf0_5)
theorem stg6_whole : (stg6 m hfit t).IsWhole := hstage0_6 (((cfgM m hfit).slots t 6 : Fin spec0_6.nbuf).cast nbuf0_6)
theorem stg7_whole : (stg7 m hfit t).IsWhole := hstage0_7 (((cfgM m hfit).slots t 7 : Fin spec0_7.nbuf).cast nbuf0_7)

def bodyAt : Prog (TpuEff nD τ sig (Elt F) Λ₀ .tc) PUnit :=
  cc0_gqa_decode (dynb0 (tbl m)) (Pipeline.Grid.Coords.static grid0 ((cfgM m hfit).grid.coords t)) (BitVec.ofNat 32 ((cfgM m hfit).grid.coords t 0).val)
    (Memref.whole main_arg7) (Memref.isWhole_whole _) (stg0 m hfit t) (stg0_whole m hfit t) (stg1 m hfit t) (stg1_whole m hfit t) (stg2 m hfit t) (stg2_whole m hfit t) (stg3 m hfit t) (stg3_whole m hfit t) (stg4 m hfit t) (stg4_whole m hfit t) (stg5 m hfit t) (stg5_whole m hfit t) (stg6 m hfit t) (stg6_whole m hfit t) (stg7 m hfit t) (stg7_whole m hfit t)
    (Memref.whole cc0_scratch0) (Memref.isWhole_whole _) (Memref.whole cc0_scratch1) (Memref.isWhole_whole _) (Memref.whole cc0_scratch2) (Memref.isWhole_whole _)

theorem defs₀_row : defs₀ (F := F) .tc (cfgM m hfit).body ((cfgM m hfit).bodyArgs t ((cfgM m hfit).slots t)) = bodyAt m hfit t := by
  unfold defs₀; rw [Defs.onTc_tc]; rfl

/-- What a point starts from. -/
def bodyPre : sProp 𝕄 :=
  iprop((dats m hfit 0 c).Φ t.castSucc ∗ (dats m hfit 0 c).owesAt () t.castSucc
    ∗ (∃ d, owns (c : Thread nD τ) (stg0 m hfit t) fullShare ((dats m hfit 0 c).before 0 t d))
    ∗ (∃ d, owns (c : Thread nD τ) (stg1 m hfit t) fullShare ((dats m hfit 0 c).before 1 t d))
    ∗ (∃ d, owns (c : Thread nD τ) (stg2 m hfit t) fullShare ((dats m hfit 0 c).before 2 t d))
    ∗ (∃ d, owns (c : Thread nD τ) (stg3 m hfit t) fullShare ((dats m hfit 0 c).before 3 t d))
    ∗ (∃ d, owns (c : Thread nD τ) (stg4 m hfit t) fullShare ((dats m hfit 0 c).before 4 t d))
    ∗ (∃ d, owns (c : Thread nD τ) (stg5 m hfit t) fullShare ((dats m hfit 0 c).before 5 t d))
    ∗ (∃ d, owns (c : Thread nD τ) (stg6 m hfit t) fullShare ((dats m hfit 0 c).before 6 t d))
    ∗ (∃ d, owns (c : Thread nD τ) (stg7 m hfit t) fullShare ((dats m hfit 0 c).before (7 : Fin 8) t d)))

/-- What the body leaves in a window's array. -/
def left (w : Fin 8) : sProp 𝕄 := (dats m hfit 0 c).leavesExact w t

theorem left_eq (w : Fin 8) : left m hfit c t w = (dats m hfit 0 c).leavesExact w t := rfl

/-- And what it leaves. -/
def bodyPost : sProp 𝕄 :=
  iprop((dats m hfit 0 c).Φ t.succ ∗ (dats m hfit 0 c).owesAt () t.succ
    ∗ owns (c : Thread nD τ) (stg0 m hfit t) fullShare ((dats m hfit 0 c).after 0 t)
    ∗ owns (c : Thread nD τ) (stg1 m hfit t) fullShare ((dats m hfit 0 c).after 1 t)
    ∗ owns (c : Thread nD τ) (stg2 m hfit t) fullShare ((dats m hfit 0 c).after 2 t)
    ∗ owns (c : Thread nD τ) (stg3 m hfit t) fullShare ((dats m hfit 0 c).after 3 t)
    ∗ owns (c : Thread nD τ) (stg4 m hfit t) fullShare ((dats m hfit 0 c).after 4 t)
    ∗ owns (c : Thread nD τ) (stg5 m hfit t) fullShare ((dats m hfit 0 c).after 5 t)
    ∗ owns (c : Thread nD τ) (stg6 m hfit t) fullShare ((dats m hfit 0 c).after 6 t)
    ∗ left m hfit c t 7)

/-- The output is written at a sequence's last block, -/
theorem idle_last (h : blkN m t.val + 1 = Words.nb (lenAt m t.val)) : (cfgM m hfit).idle (7 : Fin 8) ((cfgM m hfit).grid.coords t) = false := by
  have hi := pt_lt m hfit t
  show (!(k0_cond2 _ _ _ _ == 1#1)) = false
  rw [coords_val, atD_eq m ![0] 0 rfl, atD_eq m ![1] 1 rfl, atD_eq m _ ⟨seqN m t.val, seqN_lt m _⟩ (off1_at m hfit hi),
    show len m 0 ⟨seqN m t.val, seqN_lt m _⟩ = lenAt m t.val from rfl]
  rw [(cond2_iff m hfit hi).2 h]; rfl
/-- and at no other, -/
theorem idle_other (h : ¬ blkN m t.val + 1 = Words.nb (lenAt m t.val)) : (cfgM m hfit).idle (7 : Fin 8) ((cfgM m hfit).grid.coords t) = true := by
  have hi := pt_lt m hfit t
  show (!(k0_cond2 _ _ _ _ == 1#1)) = true
  rw [coords_val, atD_eq m ![0] 0 rfl, atD_eq m ![1] 1 rfl, atD_eq m _ ⟨seqN m t.val, seqN_lt m _⟩ (off1_at m hfit hi),
    show len m 0 ⟨seqN m t.val, seqN_lt m _⟩ = lenAt m t.val from rfl]
  rw [beq_false_of_ne (fun e => h ((cond2_iff m hfit hi).1 e))]; rfl

theorem index7 : ((cfgM m hfit).win (7 : Fin 8)).index t = ![seqN m t.val, 0, 0, 0] := by
  show cc0_transform_7 inb_S3_S1_0 numel1_S1 inb_S3_S1_1 (tbl m) _ _ = _
  rw [tr7, coords_val, seq_toNat m hfit (pt_lt m hfit t)]

/-- where its block is not sent back either. -/
theorem flush_other (h : ¬ blkN m t.val + 1 = Words.nb (lenAt m t.val)) : ((cfgM m hfit).win (7 : Fin 8)).flush t = false := by
  obtain ⟨h1, h2, -⟩ := next_point m (pt_lt m hfit t) h
  have hN := cfg_N m hfit
  rw [← Bool.not_eq_true, Pipeline.Window.flush_out _ rfl]
  rintro (h3 | ⟨h3, h4⟩)
  · have : t.val + 1 = (cfgM m hfit).N := h3
    omega
  · apply h4
    rw [index7, index7]
    exact congrArg (![·, 0, 0, 0]) h2

theorem leaves_last (h : blkN m t.val + 1 = Words.nb (lenAt m t.val)) :
    left m hfit c t 7 = owns (c : Thread nD τ) (stg7 m hfit t) fullShare (outV (stN m hfit c (t.val + 1))) := by
  unfold left Dat.leavesExact
  rw [idle_last m hfit t h]
  exact congrArg (fun X => (owns (c : Thread nD τ) (stg7 m hfit t) fullShare X : sProp 𝕄)) (after7 m hfit c t)
theorem leaves_other (h : ¬ blkN m t.val + 1 = Words.nb (lenAt m t.val)) :
    left m hfit c t 7 = iprop(∃ d, owns (c : Thread nD τ) (stg7 m hfit t) fullShare ((dats m hfit 0 c).before (7 : Fin 8) t d)) :=
  (left_eq m hfit c t 7).trans <| Dat.leavesExact_idle _ _ _ (idle_other m hfit t h) (flush_other m hfit t h)

end Cert.KernelIdeal.Body
-- ==== Proof.IdealPoint.lean ====
/-
  The body at one point of the grid, the windows' arrays and what they hold as variables.
-/
module

public import proofs.«01_k».proof.Proof.IdealLaunch
public import Idealize.ShloMosaic.Lib.Tactic

@[expose] public section
set_option maxRecDepth 16384
noncomputable section
namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

/-! ## One point, its parts as variables -/

section
variable (c : Dev nD) (b : grid0.Bounds) (i : grid0.Static) (arg0 : BitVec 32) (arg1 : Memref sig .tc .smem S3 .i32) (harg1 : arg1.IsWhole)
  (arg2 : Memref sig .tc .vmem S1x8x24x160 .bf16) (harg2 : arg2.IsWhole)
  (arg3 : Memref sig .tc .vmem S1x8x128x160 .bf16) (harg3 : arg3.IsWhole)
  (arg4 : Memref sig .tc .vmem S1x8x128x160 .bf16) (harg4 : arg4.IsWhole)
  (arg5 : Memref sig .tc .vmem S1x8x160x2048 .fp8e4m3) (harg5 : arg5.IsWhole)
  (arg6 : Memref sig .tc .vmem S1x8x160x2048 .fp8e4m3) (harg6 : arg6.IsWhole)
  (arg7 : Memref sig .tc .vmem S1x8x2048 .f32) (harg7 : arg7.IsWhole)
  (arg8 : Memref sig .tc .vmem S1x8x2048 .f32) (harg8 : arg8.IsWhole)
  (arg9 : Memref sig .tc .vmem S1x8x24x160 .bf16) (harg9 : arg9.IsWhole)
  (arg10 : Memref sig .tc .vmem S8x24x128 .f32) (harg10 : arg10.IsWhole) (arg11 : Memref sig .tc .vmem S8x24x128 .f32) (harg11 : arg11.IsWhole)
  (arg12 : Memref sig .tc .vmem S8x24x160 .f32) (harg12 : arg12.IsWhole) (f1 : Buf (Elt F) (arg1.view.loc (c : Thread nD τ)))
  (X2 A2 : Vec F S1x8x24x160 .bf16) {D2 : Type} (B2 : D2 → Vec F S1x8x24x160 .bf16)
  (X3 A3 : Vec F S1x8x128x160 .bf16) {D3 : Type} (B3 : D3 → Vec F S1x8x128x160 .bf16)
  (X4 A4 : Vec F S1x8x128x160 .bf16) {D4 : Type} (B4 : D4 → Vec F S1x8x128x160 .bf16)
  (X5 A5 : Vec F S1x8x160x2048 .fp8e4m3) {D5 : Type} (B5 : D5 → Vec F S1x8x160x2048 .fp8e4m3)
  (X6 A6 : Vec F S1x8x160x2048 .fp8e4m3) {D6 : Type} (B6 : D6 → Vec F S1x8x160x2048 .fp8e4m3)
  (X7 A7 : Vec F S1x8x2048 .f32) {D7 : Type} (B7 : D7 → Vec F S1x8x2048 .f32)
  (X8 A8 : Vec F S1x8x2048 .f32) {D8 : Type} (B8 : D8 → Vec F S1x8x2048 .f32)
  {D9 : Type} (B9 : D9 → Vec F S1x8x24x160 .bf16)

/-- The body at a point, from what the windows' arrays hold before it (`B2` … `B9`) to what they hold after it (`A2` … `A8`, `L9`), the state going
    from any allowed one to `s'`. -/
theorem point (L9 Ho HP HT : sProp 𝕄) (ok ok' : St F → Prop) (s' : St F) (v0 v1 vs : BitVec 32)
    (hchk : k0_chk1 arg0 (rd (F := F) (c := c) arg1 f1 ![0] inb_S3_S1_0) (rd (F := F) (c := c) arg1 f1 ![1] inb_S3_S1_1))
    (h0 : (rd (F := F) (c := c) arg1 f1 ![0] inb_S3_S1_0) = v0) (h1 : (rd (F := F) (c := c) arg1 f1 ![1] inb_S3_S1_1) = v1) (hs : (rd (F := F) (c := c) arg1 f1 _ hchk) = vs)
    (hB2 : ∀ d, B2 d = X2) (hA2 : A2 = X2) (hB3 : ∀ d, B3 d = X3) (hA3 : A3 = X3) (hB4 : ∀ d, B4 d = X4) (hA4 : A4 = X4) (hB5 : ∀ d, B5 d = X5) (hA5 : A5 = X5) (hB6 : ∀ d, B6 d = X6) (hA6 : A6 = X6) (hB7 : ∀ d, B7 d = X7) (hA7 : A7 = X7) (hB8 : ∀ d, B8 d = X8) (hA8 : A8 = X8)
    (hnext : ∀ s, ok s → nextSt arg0 v0 v1 vs X2 X3 X4 X5 X6 X7 X8 s = s') (hok : ok' s')
    (hout : ∀ d, owns (c : Thread nD τ) arg9 fullShare (if k0_cond2 arg0 v0 v1 vs = 1#1 then outV s' else B9 d) ⊢ L9) :
    iprop((∃ s, ⌜ok s⌝ ∗ stOwns c arg10 arg11 arg12 s ∗ HP ∗ (HT ∗ (arg1.view.loc (c : Thread nD τ) ↦{fullShare.right} f1))) ∗ Ho
      ∗ (∃ d, owns (c : Thread nD τ) arg2 fullShare (B2 d)) ∗ (∃ d, owns (c : Thread nD τ) arg3 fullShare (B3 d)) ∗ (∃ d, owns (c : Thread nD τ) arg4 fullShare (B4 d)) ∗ (∃ d, owns (c : Thread nD τ) arg5 fullShare (B5 d)) ∗ (∃ d, owns (c : Thread nD τ) arg6 fullShare (B6 d)) ∗ (∃ d, owns (c : Thread nD τ) arg7 fullShare (B7 d)) ∗ (∃ d, owns (c : Thread nD τ) arg8 fullShare (B8 d)) ∗ (∃ d, owns (c : Thread nD τ) arg9 fullShare (B9 d))) ⊢
    wp frame (wpE (defs₀ (F := F)) Variants.none c none) Set.univ (cc0_gqa_decode b i arg0 arg1 harg1 arg2 harg2 arg3 harg3 arg4 harg4 arg5 harg5 arg6 harg6 arg7 harg7 arg8 harg8 arg9 harg9 arg10 harg10 arg11 harg11 arg12 harg12)
      (fun _ => iprop((∃ s, ⌜ok' s⌝ ∗ stOwns c arg10 arg11 arg12 s ∗ HP ∗ (HT ∗ (arg1.view.loc (c : Thread nD τ) ↦{fullShare.right} f1))) ∗ Ho
      ∗ owns (c : Thread nD τ) arg2 fullShare A2 ∗ owns (c : Thread nD τ) arg3 fullShare A3 ∗ owns (c : Thread nD τ) arg4 fullShare A4 ∗ owns (c : Thread nD τ) arg5 fullShare A5 ∗ owns (c : Thread nD τ) arg6 fullShare A6 ∗ owns (c : Thread nD τ) arg7 fullShare A7 ∗ owns (c : Thread nD τ) arg8 fullShare A8 ∗ L9)) := by
  rw [hA2, hA3, hA4, hA5, hA6, hA7, hA8]
  iintro ⟨⟨%s, %hs0, HS, HP, HT0, HT1⟩, Ho, ⟨%d2, H2⟩, ⟨%d3, H3⟩, ⟨%d4, H4⟩, ⟨%d5, H5⟩, ⟨%d6, H6⟩, ⟨%d7, H7⟩, ⟨%d8, H8⟩, ⟨%d9, H9⟩⟩
  iapply (body_spec (F := F) c b i arg0 arg1 harg1 arg2 harg2 arg3 harg3 arg4 harg4 arg5 harg5 arg6 harg6 arg7 harg7 arg8 harg8 arg9 harg9 arg10 harg10 arg11 harg11 arg12 harg12 f1 X2 X3 X4 X5 X6 X7 X8 (B9 d9) s _ v0 v1 vs hchk h0 h1 hs) $$ [HT1 H2 H3 H4 H5 H6 H7 H8 H9 HS]
  · isplitl [HT1]; · iexact HT1
    isplitl [H2]; · iapply (Entails.of_eq (congrArg (fun X => (owns (c : Thread nD τ) arg2 fullShare X : sProp 𝕄)) (hB2 d2))) $$ H2
    isplitl [H3]; · iapply (Entails.of_eq (congrArg (fun X => (owns (c : Thread nD τ) arg3 fullShare X : sProp 𝕄)) (hB3 d3))) $$ H3
    isplitl [H4]; · iapply (Entails.of_eq (congrArg (fun X => (owns (c : Thread nD τ) arg4 fullShare X : sProp 𝕄)) (hB4 d4))) $$ H4
    isplitl [H5]; · iapply (Entails.of_eq (congrArg (fun X => (owns (c : Thread nD τ) arg5 fullShare X : sProp 𝕄)) (hB5 d5))) $$ H5
    isplitl [H6]; · iapply (Entails.of_eq (congrArg (fun X => (owns (c : Thread nD τ) arg6 fullShare X : sProp 𝕄)) (hB6 d6))) $$ H6
    isplitl [H7]; · iapply (Entails.of_eq (congrArg (fun X => (owns (c : Thread nD τ) arg7 fullShare X : sProp 𝕄)) (hB7 d7))) $$ H7
    isplitl [H8]; · iapply (Entails.of_eq (congrArg (fun X => (owns (c : Thread nD τ) arg8 fullShare X : sProp 𝕄)) (hB8 d8))) $$ H8
    isplitl [H9]; · iexact H9
    iexact HS
  iintro ⟨HT1, H2, H3, H4, H5, H6, H7, H8, H9, HS⟩
  isplitl [HS HP HT0 HT1]
  · iexists s'
    isplitr; · ipureintro; exact hok
    isplitl [HS]
    · iapply (Entails.of_eq (congrArg (stOwns c arg10 arg11 arg12) (hnext s hs0))) $$ HS
    isplitl [HP]; · iexact HP
    isplitl [HT0]; · iexact HT0
    iexact HT1
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (hout d9)
  iapply (Entails.of_eq (congrArg (fun s' => (owns (c : Thread nD τ) arg9 fullShare (if k0_cond2 arg0 v0 v1 vs = 1#1 then outV s' else B9 d9) : sProp 𝕄)) (hnext s hs0))) $$ H9
end

end Cert.KernelIdeal.Body
-- ==== Proof.IdealObligation.lean ====
/-
  The body's obligation at every point of the grid.
-/
module

public import proofs.«01_k».proof.Proof.IdealPoint
public import Idealize.ShloMosaic.Lib.Tactic

@[expose] public section
set_option maxRecDepth 16384
noncomputable section
namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

variable (hfit : ∀ c j, (len m c j).toInt ≤ 65536)

section
variable (c : Dev nD) (t : Fin (cfgM m hfit).N)

/-- What the output's array holds after the body is what the point leaves in it. -/
theorem out_at (d) : owns (c : Thread nD τ) (stg7 m hfit t) fullShare
      (if k0_cond2 (BitVec.ofNat 32 t.val) (len m 0 0) (len m 0 1) (lenAt m t.val) = 1#1 then outV (stN m hfit c (t.val + 1)) else (dats m hfit 0 c).before (7 : Fin 8) t d)
      ⊢ left m hfit c t 7 := by
  have hi := pt_lt m hfit t
  by_cases h : blkN m t.val + 1 = Words.nb (lenAt m t.val)
  · exact Entails.of_eq ((congrArg (fun X => (owns (c : Thread nD τ) (stg7 m hfit t) fullShare X : sProp 𝕄)) (if_pos ((cond2_iff m hfit hi).2 h))).trans
      (leaves_last m hfit c t h).symm)
  · refine (Entails.of_eq (congrArg (fun X => (owns (c : Thread nD τ) (stg7 m hfit t) fullShare X : sProp 𝕄)) (if_neg fun e => h ((cond2_iff m hfit hi).1 e)))).trans ?_
    rw [leaves_other m hfit c t h]
    iintro H; iexists d; iexact H

theorem chk_at : k0_chk1 (BitVec.ofNat 32 t.val) (rd (F := F) (c := c) (Memref.whole main_arg7) (tbl m 1) ![0] inb_S3_S1_0)
      (rd (F := F) (c := c) (Memref.whole main_arg7) (tbl m 1) ![1] inb_S3_S1_1) := by
  rw [rd_eq m c ![0] inb_S3_S1_0 0 rfl, rd_eq m c ![1] inb_S3_S1_1 1 rfl]; exact chk m hfit (pt_lt m hfit t)

theorem rd_at (h) : rd (F := F) (c := c) (Memref.whole main_arg7) (tbl m 1) (k0_off1 (BitVec.ofNat 32 t.val) (rd (F := F) (c := c) (Memref.whole main_arg7) (tbl m 1) ![0] inb_S3_S1_0)
      (rd (F := F) (c := c) (Memref.whole main_arg7) (tbl m 1) ![1] inb_S3_S1_1)) h = lenAt m t.val :=
  rd_eq m c _ h ⟨seqN m t.val, seqN_lt m _⟩ (by rw [rd_eq m c ![0] inb_S3_S1_0 0 rfl, rd_eq m c ![1] inb_S3_S1_1 1 rfl]; exact off1_at m hfit (pt_lt m hfit t))

theorem next_at (s : St F) (hs : t.val ≠ 0 → s = stN m hfit c t.val) : nextAt m hfit c t s = stN m hfit c (t.val + 1) := by
  rw [stN_succ]
  by_cases h0 : t.val = 0
  · exact nextAt_zero m hfit c t h0 _ _
  · rw [hs h0]

theorem inv_eq (n : ℕ) : inv m hfit c n = iprop(∃ s, ⌜n ≠ 0 → s = stN m hfit c n⌝ ∗ stOwns c sc0 sc1 sc2 s ∗ (∃ r, prngReg c r)
    ∗ ((tb0.view.loc (c : Thread nD τ) ↦{fullShare.right} (tbl m 0)) ∗ (tb1.view.loc (c : Thread nD τ) ↦{fullShare.right} (tbl m 1)))) := by
  unfold inv; rw [PhiT_eq]

theorem phi_eq (n : Fin ((cfgM m hfit).N + 1)) : (dats m hfit 0 c).Φ n = inv m hfit c n.val := by dsimp only [dats]
theorem phi_succ : (dats m hfit 0 c).Φ t.succ = inv m hfit c (t.val + 1) := (phi_eq m hfit c _).trans (congrArg (inv m hfit c) (Fin.val_succ t))
theorem phi_castSucc : (dats m hfit 0 c).Φ t.castSucc = inv m hfit c t.val := (phi_eq m hfit c _).trans (congrArg (inv m hfit c) (Fin.val_castSucc t))
theorem owes_succ : (dats m hfit 0 c).owesAt () t.succ = (dats m hfit 0 c).owesAt () t.castSucc := rfl

set_option maxHeartbeats 2000000 in
theorem sound_body : bodyPre m hfit c t ⊢ wp frame (wpE (defs₀ (F := F)) Variants.none c none) Set.univ (bodyAt m hfit t) (fun _ => bodyPost m hfit c t) := by
  unfold bodyPre bodyPost bodyAt
  rw [phi_succ, phi_castSucc, owes_succ, inv_eq, inv_eq, coords_val]
  refine point c (dynb0 (tbl m)) (Pipeline.Grid.Coords.static grid0 ((cfgM m hfit).grid.coords t)) (BitVec.ofNat 32 t.val)
    (Memref.whole main_arg7) (Memref.isWhole_whole _) (stg0 m hfit t) (stg0_whole m hfit t) (stg1 m hfit t) (stg1_whole m hfit t) (stg2 m hfit t) (stg2_whole m hfit t) (stg3 m hfit t) (stg3_whole m hfit t) (stg4 m hfit t) (stg4_whole m hfit t) (stg5 m hfit t) (stg5_whole m hfit t) (stg6 m hfit t) (stg6_whole m hfit t) (stg7 m hfit t) (stg7_whole m hfit t)
    (Memref.whole cc0_scratch0) (Memref.isWhole_whole _) (Memref.whole cc0_scratch1) (Memref.isWhole_whole _) (Memref.whole cc0_scratch2) (Memref.isWhole_whole _)
    (tbl m 1) (iblk m hfit c 0 t) ((dats m hfit 0 c).after 0 t) (fun d => (dats m hfit 0 c).before 0 t d) (iblk m hfit c 1 t) ((dats m hfit 0 c).after 1 t) (fun d => (dats m hfit 0 c).before 1 t d) (iblk m hfit c 2 t) ((dats m hfit 0 c).after 2 t) (fun d => (dats m hfit 0 c).before 2 t d) (iblk m hfit c 3 t) ((dats m hfit 0 c).after 3 t) (fun d => (dats m hfit 0 c).before 3 t d) (iblk m hfit c 4 t) ((dats m hfit 0 c).after 4 t) (fun d => (dats m hfit 0 c).before 4 t d) (iblk m hfit c 5 t) ((dats m hfit 0 c).after 5 t) (fun d => (dats m hfit 0 c).before 5 t d) (iblk m hfit c 6 t) ((dats m hfit 0 c).after 6 t) (fun d => (dats m hfit 0 c).before 6 t d)
    (fun d => (dats m hfit 0 c).before (7 : Fin 8) t d) _ _ _ _ _ _ (stN m hfit c (t.val + 1)) (len m 0 0) (len m 0 1) (lenAt m t.val)
    (chk_at m hfit c t) (rd_eq m c ![0] inb_S3_S1_0 0 rfl) (rd_eq m c ![1] inb_S3_S1_1 1 rfl) (rd_at m hfit c t _)
    (before0 m hfit c t) (after0 m hfit c t) (before1 m hfit c t) (after1 m hfit c t) (before2 m hfit c t) (after2 m hfit c t) (before3 m hfit c t) (after3 m hfit c t) (before4 m hfit c t) (after4 m hfit c t) (before5 m hfit c t) (after5 m hfit c t) (before6 m hfit c t) (after6 m hfit c t)
    (next_at m hfit c t) (fun _ => rfl) ?_
  exact out_at m hfit c t

/-- The obligation with each window's post as `leavesExact` names it. -/
theorem obligation_of {cfg : Cfg sig Λ₀} (D : Dat τ (Elt F) Unit ℕ (UR sig nD τ) ℕ cfg c) (L : Fin cfg.N → Fin cfg.W → sProp 𝕄) (hL : ∀ t w, L t w = D.leavesExact w t) (h : ∀ t,
    iprop(D.Φ t.castSucc ∗ D.owesAt () t.castSucc
        ∗ bigSep Finset.univ fun w : Fin cfg.W => iprop(∃ d, owns (c : Thread nD τ) ((cfg.win w).stage (cfg.slots t w)) fullShare (D.before w t d)))
      ⊢ wp frame (wpE (defs₀ (F := F)) Variants.none c none) Set.univ (defs₀ .tc cfg.body (cfg.bodyArgs t (cfg.slots t))) fun _ =>
          iprop(D.Φ t.succ ∗ D.owesAt () t.succ ∗ bigSep Finset.univ fun w : Fin cfg.W => L t w)) :
    BodyObligation D (defs₀ (F := F)) Variants.none () Set.univ := by
  obtain rfl : L = fun t w => D.leavesExact w t := funext fun t => funext fun w => hL t w
  exact h

theorem body_obligation : BodyObligation (dats (F := F) m hfit 0 c) (defs₀ (F := F)) Variants.none () Set.univ := by
  refine obligation_of c _ (left m hfit c) (fun _ _ => rfl) fun t => ?_
  rw [bigSep_W0, bigSep_W0]
  refine triple_restated (sound_body m hfit c t) (congrArg (fun p => wp frame (wpE (defs₀ (F := F)) Variants.none c none) Set.univ p) (defs₀_row m hfit t).symm) ?_ fun _ => ?_
  · unfold bodyPre
    exact Entails.of_eq rfl
  · unfold bodyPost
    exact sep_mono (Entails.of_eq rfl) (sep_mono (Entails.of_eq rfl) (sep_mono (Entails.of_eq rfl) (sep_mono (Entails.of_eq rfl) (sep_mono (Entails.of_eq rfl) (sep_mono (Entails.of_eq rfl) (sep_mono (Entails.of_eq rfl) (sep_mono (Entails.of_eq rfl) (sep_mono (Entails.of_eq rfl) (Entails.of_eq rfl)))))))))

end

end Cert.KernelIdeal.Body
-- ==== Proof.IdealRun.lean ====
/-
  The run: the launch ends, every counter at zero, the pipeline's arrays at what the proof data compute and the argument arrays as they were.
-/
module

public import proofs.«01_k».proof.Proof.IdealObligation
public import Idealize.ShloMosaic.Lib.Tactic

@[expose] public section
set_option maxRecDepth 16384
noncomputable section
namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

set_option maxHeartbeats 4000000 in
theorem V_main_arg0 (c : Dev nD) : V m c main_arg0 = m ((c : Thread nD τ).loc main_arg0) := by
  dsimp only [V, V0, pfx, List.flatten, List.append]
  after_results
set_option maxHeartbeats 4000000 in
theorem V_main_arg1 (c : Dev nD) : V m c main_arg1 = m ((c : Thread nD τ).loc main_arg1) := by
  dsimp only [V, V0, pfx, List.flatten, List.append]
  after_results
set_option maxHeartbeats 4000000 in
theorem V_main_arg2 (c : Dev nD) : V m c main_arg2 = m ((c : Thread nD τ).loc main_arg2) := by
  dsimp only [V, V0, pfx, List.flatten, List.append]
  after_results
set_option maxHeartbeats 4000000 in
theorem V_main_arg3 (c : Dev nD) : V m c main_arg3 = m ((c : Thread nD τ).loc main_arg3) := by
  dsimp only [V, V0, pfx, List.flatten, List.append]
  after_results
set_option maxHeartbeats 4000000 in
theorem V_main_arg4 (c : Dev nD) : V m c main_arg4 = m ((c : Thread nD τ).loc main_arg4) := by
  dsimp only [V, V0, pfx, List.flatten, List.append]
  after_results
set_option maxHeartbeats 4000000 in
theorem V_main_arg5 (c : Dev nD) : V m c main_arg5 = m ((c : Thread nD τ).loc main_arg5) := by
  dsimp only [V, V0, pfx, List.flatten, List.append]
  after_results
set_option maxHeartbeats 4000000 in
theorem V_main_arg6 (c : Dev nD) : V m c main_arg6 = m ((c : Thread nD τ).loc main_arg6) := by
  dsimp only [V, V0, pfx, List.flatten, List.append]
  after_results

variable (hfit : ∀ c j, (len m c j).toInt ≤ 65536)

theorem W_main_arg0 (c : Dev nD) :
    Pipeline.afterTail pcfgs (fun _ => adm m hfit) (dats m hfit) 0 (V0 m) [hostOps1] c main_arg0 = m ((c : Thread nD τ).loc main_arg0) := by
  unfold Pipeline.afterTail
  rw [List.flatten_cons, List.flatten_nil, List.append_nil, StableHlo.after_of_writes_sub (r := main_arg0) hostOps1 _ hostOps1_writes (by decide +kernel),
    Pipeline.withArrays_of_ne _ c (V0 m c) _ main_arg0 (by exact (by decide : ∀ w, Pipeline.arrRef spec0 w ≠ main_arg0))]
  exact V_main_arg0 m c
theorem W_main_arg1 (c : Dev nD) :
    Pipeline.afterTail pcfgs (fun _ => adm m hfit) (dats m hfit) 0 (V0 m) [hostOps1] c main_arg1 = m ((c : Thread nD τ).loc main_arg1) := by
  unfold Pipeline.afterTail
  rw [List.flatten_cons, List.flatten_nil, List.append_nil, StableHlo.after_of_writes_sub (r := main_arg1) hostOps1 _ hostOps1_writes (by decide +kernel),
    Pipeline.withArrays_of_ne _ c (V0 m c) _ main_arg1 (by exact (by decide : ∀ w, Pipeline.arrRef spec0 w ≠ main_arg1))]
  exact V_main_arg1 m c
theorem W_main_arg2 (c : Dev nD) :
    Pipeline.afterTail pcfgs (fun _ => adm m hfit) (dats m hfit) 0 (V0 m) [hostOps1] c main_arg2 = m ((c : Thread nD τ).loc main_arg2) := by
  unfold Pipeline.afterTail
  rw [List.flatten_cons, List.flatten_nil, List.append_nil, StableHlo.after_of_writes_sub (r := main_arg2) hostOps1 _ hostOps1_writes (by decide +kernel),
    Pipeline.withArrays_of_ne _ c (V0 m c) _ main_arg2 (by exact (by decide : ∀ w, Pipeline.arrRef spec0 w ≠ main_arg2))]
  exact V_main_arg2 m c
theorem W_main_arg3 (c : Dev nD) :
    Pipeline.afterTail pcfgs (fun _ => adm m hfit) (dats m hfit) 0 (V0 m) [hostOps1] c main_arg3 = m ((c : Thread nD τ).loc main_arg3) := by
  unfold Pipeline.afterTail
  rw [List.flatten_cons, List.flatten_nil, List.append_nil, StableHlo.after_of_writes_sub (r := main_arg3) hostOps1 _ hostOps1_writes (by decide +kernel),
    Pipeline.withArrays_of_ne _ c (V0 m c) _ main_arg3 (by exact (by decide : ∀ w, Pipeline.arrRef spec0 w ≠ main_arg3))]
  exact V_main_arg3 m c
theorem W_main_arg4 (c : Dev nD) :
    Pipeline.afterTail pcfgs (fun _ => adm m hfit) (dats m hfit) 0 (V0 m) [hostOps1] c main_arg4 = m ((c : Thread nD τ).loc main_arg4) := by
  unfold Pipeline.afterTail
  rw [List.flatten_cons, List.flatten_nil, List.append_nil, StableHlo.after_of_writes_sub (r := main_arg4) hostOps1 _ hostOps1_writes (by decide +kernel),
    Pipeline.withArrays_of_ne _ c (V0 m c) _ main_arg4 (by exact (by decide : ∀ w, Pipeline.arrRef spec0 w ≠ main_arg4))]
  exact V_main_arg4 m c
theorem W_main_arg5 (c : Dev nD) :
    Pipeline.afterTail pcfgs (fun _ => adm m hfit) (dats m hfit) 0 (V0 m) [hostOps1] c main_arg5 = m ((c : Thread nD τ).loc main_arg5) := by
  unfold Pipeline.afterTail
  rw [List.flatten_cons, List.flatten_nil, List.append_nil, StableHlo.after_of_writes_sub (r := main_arg5) hostOps1 _ hostOps1_writes (by decide +kernel),
    Pipeline.withArrays_of_ne _ c (V0 m c) _ main_arg5 (by exact (by decide : ∀ w, Pipeline.arrRef spec0 w ≠ main_arg5))]
  exact V_main_arg5 m c
theorem W_main_arg6 (c : Dev nD) :
    Pipeline.afterTail pcfgs (fun _ => adm m hfit) (dats m hfit) 0 (V0 m) [hostOps1] c main_arg6 = m ((c : Thread nD τ).loc main_arg6) := by
  unfold Pipeline.afterTail
  rw [List.flatten_cons, List.flatten_nil, List.append_nil, StableHlo.after_of_writes_sub (r := main_arg6) hostOps1 _ hostOps1_writes (by decide +kernel),
    Pipeline.withArrays_of_ne _ c (V0 m c) _ main_arg6 (by exact (by decide : ∀ w, Pipeline.arrRef spec0 w ≠ main_arg6))]
  exact V_main_arg6 m c
theorem W_main_arg7 (c : Dev nD) :
    Pipeline.afterTail pcfgs (fun _ => adm m hfit) (dats m hfit) 0 (V0 m) [hostOps1] c main_arg7 = m ((c : Thread nD τ).loc main_arg7) := by
  unfold Pipeline.afterTail
  rw [List.flatten_cons, List.flatten_nil, List.append_nil, StableHlo.after_of_writes_sub (r := main_arg7) hostOps1 _ hostOps1_writes (by decide +kernel),
    Pipeline.withArrays_of_ne _ c (V0 m c) _ main_arg7 (by exact (by decide : ∀ w, Pipeline.arrRef spec0 w ≠ main_arg7))]
  exact V_main_arg7 m c

/-- What the launch hands over is the state before the first point. -/
theorem inv_in (c : Dev nD) : iprop(Pipeline.ΦA spec0 c ∗ Pipeline.ΦT pre0 (tbl m) c) ⊢ inv m hfit c 0 := by
  unfold Pipeline.ΦA inv stOwns
  rw [scopedRest0_eq]
  simp only [owns_whole]
  iintro ⟨⟨⟨⟨%f0, H0⟩, ⟨%f1, H1⟩, ⟨%f2, H2⟩⟩, HP⟩, HT⟩
  iexists (⟨f0, f1, f2⟩ : St F)
  isplitr; · ipureintro; exact fun h => absurd rfl h
  isplitl [H0 H1 H2]
  · isplitl [H0]; · iexact H0
    isplitl [H1]; · iexact H1
    iexact H2
  isplitl [HP]; · iexact HP
  iexact HT

/-- And the state after the last gives it back. -/
theorem inv_out (c : Dev nD) (n : ℕ) : inv m hfit c n ⊢ Pipeline.ΦA spec0 c := by
  unfold Pipeline.ΦA inv stOwns
  rw [scopedRest0_eq]
  simp only [owns_whole]
  iintro ⟨%s, %hs, ⟨H0, H1, H2⟩, HP, HT⟩
  isplitl [H0 H1 H2]
  · isplitl [H0]; · iexists s.m; iexact H0
    isplitl [H1]; · iexists s.l; iexact H1
    iexists s.a; iexact H2
  iexact HP

set_option backward.isDefEq.respectTransparency.types false in
set_option maxHeartbeats 800000 in
/-- The run of @main, every counter at zero at its end. -/
theorem run_main_quiescent : θ_run defs (onTc (τ := τ) (main (F := F))) (s₀ m ρ) (fun r =>
    Pipeline.FramePost (Pipeline.pin pcfgs (fun _ => adm m hfit)) (dats m hfit) 0 (Pipeline.afterTail pcfgs (fun _ => adm m hfit) (dats m hfit) 0 (V0 m) [hostOps1]) r
      ∧ r.2.sem = fun _ => 0) :=
  Pipeline.θ_run_frameP_around_track (Q' := _) pcfgs (fun _ => adm m hfit) (dats m hfit) (0 : Fin 1) launch0 defs₀ Variants.none m ρ main
    (hbody := fun c => (body_obligation m hfit c).loose) (hshare := fun c => (dats m hfit 0 c).share_full fun _ => rfl)
    (howed := fun _ _ => rfl) (V₀ := V0 m) (opss := [hostOps1]) (hsub := sfx_sub) (hfresh := sfx_fresh) (hkeep := sfx_keeps)
    (hmain := hmain m Variants.none) (hA := A_eq m hfit) (hpf := V_pre m)
    (hin := fun c => inv_in m hfit c) (hout := fun c => inv_out m hfit c _)

theorem run_main : θ_run defs (onTc (τ := τ) (main (F := F))) (s₀ m ρ)
    (Pipeline.FramePost (Pipeline.pin pcfgs (fun _ => adm m hfit)) (dats m hfit) 0 (Pipeline.afterTail pcfgs (fun _ => adm m hfit) (dats m hfit) 0 (V0 m) [hostOps1])) :=
  (θ_run defs _ _).mono (fun _ h => h.1) (run_main_quiescent m ρ hfit)

include hfit in
/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by exact (by decide : ∀ w, Pipeline.arrRef spec0 w ≠ main_arg0)))).trans (W_main_arg0 m hfit c),
      ((h c).2 main_arg1 (Pipeline.mem_restRefs_of main_arg1 (by decide) (by exact (by decide : ∀ w, Pipeline.arrRef spec0 w ≠ main_arg1)))).trans (W_main_arg1 m hfit c),
      ((h c).2 main_arg2 (Pipeline.mem_restRefs_of main_arg2 (by decide) (by exact (by decide : ∀ w, Pipeline.arrRef spec0 w ≠ main_arg2)))).trans (W_main_arg2 m hfit c),
      ((h c).2 main_arg3 (Pipeline.mem_restRefs_of main_arg3 (by decide) (by exact (by decide : ∀ w, Pipeline.arrRef spec0 w ≠ main_arg3)))).trans (W_main_arg3 m hfit c),
      ((h c).2 main_arg4 (Pipeline.mem_restRefs_of main_arg4 (by decide) (by exact (by decide : ∀ w, Pipeline.arrRef spec0 w ≠ main_arg4)))).trans (W_main_arg4 m hfit c),
      ((h c).2 main_arg5 (Pipeline.mem_restRefs_of main_arg5 (by decide) (by exact (by decide : ∀ w, Pipeline.arrRef spec0 w ≠ main_arg5)))).trans (W_main_arg5 m hfit c),
      ((h c).2 main_arg6 (Pipeline.mem_restRefs_of main_arg6 (by decide) (by exact (by decide : ∀ w, Pipeline.arrRef spec0 w ≠ main_arg6)))).trans (W_main_arg6 m hfit c),
      ((h c).2 main_arg7 (Pipeline.mem_restRefs_of main_arg7 (by decide) (by exact (by decide : ∀ w, Pipeline.arrRef spec0 w ≠ main_arg7)))).trans (W_main_arg7 m hfit c)⟩) (run_main m ρ hfit)

include hfit in
/-- and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hfit) ((θ_run defs _ _).mono (fun _ h => h.2) (run_main_quiescent m ρ hfit))

end Cert.KernelIdeal.Body
-- ==== Proof.BitsCuts.lean ====
/-
  The kernel's body cut into three stretches: `s1` reads the sequence lengths and, at a sequence's first block, starts the running
  softmax; `s2` takes the block of all eight heads into it; what is left (`s2.tail`) writes the result at a sequence's last block.
-/
module

public import proofs.«01_k».proof.Proof.Gen.Kernel.Skeleton
public import Idealize.ShloMosaic.Lib.Tactic
public import Idealize.ShloMosaic.Lib.Tactic.OpenCalls
public import Idealize.ShloMosaic.Lib.Tactic.Stretches

@[expose] public section
set_option maxRecDepth 16384
noncomputable section
namespace Cert.Kernel.Body
open Idealize.ShloMosaic Idealize.SL.Sem Cert.Kernel Cert.Kernel.Gen

set_option maxHeartbeats 4000000
open_calls flat := cc0_gqa_decode [k0_part12, k0_part13, k0_part14, k0_part15, k0_part16, k0_part17, k0_part18, k0_part19, k0_part20, k0_part21, k0_part22, k0_part23, k0_part24, k0_part25, k0_part26, k0_part27, k0_part28, k0_part29, k0_part30]
cut_chain s := flat at 6, 118

end Cert.Kernel.Body
-- ==== Proof.BitsBody.lean ====
/-
  What one run of the kernel's body does.  The running softmax of a sequence is a state of three arrays over the eight heads: the greatest
  score so far, the sums of the exponentials, the weighted sums of the values.  A sequence's first block starts it (`startSt`), every
  block is taken into it (`stepSt`), and the last block's state gives the output (`outV`).  `body_spec` says that the body does this.
-/
module

public import proofs.«01_k».proof.Proof.BitsCuts
public import proofs.«01_k».proof.Proof.Words
public import proofs.«01_k».proof.Proof.Gen.Kernel.Launch
public import Idealize.ShloMosaic.Lib.Ring
public import Idealize.ShloMosaic.Lib.Pipeline.FrameBody
public import Idealize.ShloMosaic.Lib.Pipeline.ValueKit.Tiles

@[expose] public section
set_option maxRecDepth 16384
noncomputable section
namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]
local notation "𝕄" => MT nD τ sig Unit (Elt F) ℕ (UR sig nD τ) ℕ

/-! ## One head's part of each array -/

theorem inb3 {n a b : ℕ} (h : n < 8) : ∀ i, (![n, 0, 0] : Fin 3 → ℕ) i + (![1, a, b] : Fin 3 → ℕ) i ≤ (![8, a, b] : Fin 3 → ℕ) i := by
  intro i; fin_cases i <;> simp <;> omega
theorem inb3' {n a : ℕ} (h : n < 8) : ∀ i, (![0, n, 0] : Fin 3 → ℕ) i + (![1, 1, a] : Fin 3 → ℕ) i ≤ (![1, 8, a] : Fin 3 → ℕ) i := by
  intro i; fin_cases i <;> simp <;> omega
theorem inb4 {n a b : ℕ} (h : n < 8) :
    ∀ i, (![0, n, 0, 0] : Fin 4 → ℕ) i + (![1, 1, a, b] : Fin 4 → ℕ) i ≤ (![1, 8, a, b] : Fin 4 → ℕ) i := by
  intro i; fin_cases i <;> simp <;> omega

def rM (h : Fin 8) : Rect S8x24x128 := Rect.unit (s := S8x24x128) ![h.val, 0, 0] S1x24x128.size (inb3 h.isLt)
def rA (h : Fin 8) : Rect S8x24x160 := Rect.unit (s := S8x24x160) ![h.val, 0, 0] S1x24x160.size (inb3 h.isLt)
def rQ (h : Fin 8) : Rect S1x8x24x160 := Rect.unit (s := S1x8x24x160) ![0, h.val, 0, 0] S1x1x24x160.size (inb4 h.isLt)
def rN (h : Fin 8) : Rect S1x8x128x160 := Rect.unit (s := S1x8x128x160) ![0, h.val, 0, 0] S1x1x128x160.size (inb4 h.isLt)
def rK (h : Fin 8) : Rect S1x8x160x2048 := Rect.unit (s := S1x8x160x2048) ![0, h.val, 0, 0] S1x1x160x2048.size (inb4 h.isLt)
def rS (h : Fin 8) : Rect S1x8x2048 := Rect.unit (s := S1x8x2048) ![0, h.val, 0] S1x1x2048.size (inb3' h.isLt)

abbrev ldM (X : Vec F S8x24x128 .f32) (h : Fin 8) : Vec F S1x24x128 .f32 := View.ld X (rM h)
abbrev ldA (X : Vec F S8x24x160 .f32) (h : Fin 8) : Vec F S1x24x160 .f32 := View.ld X (rA h)
abbrev ldQ (X : Vec F S1x8x24x160 .bf16) (h : Fin 8) : Vec F S1x1x24x160 .bf16 := View.ld X (rQ h)
abbrev ldN (X : Vec F S1x8x128x160 .bf16) (h : Fin 8) : Vec F S1x1x128x160 .bf16 := View.ld X (rN h)
abbrev ldK (X : Vec F S1x8x160x2048 .fp8e4m3) (h : Fin 8) : Vec F S1x1x160x2048 .fp8e4m3 := View.ld X (rK h)
abbrev ldS (X : Vec F S1x8x2048 .f32) (h : Fin 8) : Vec F S1x1x2048 .f32 := View.ld X (rS h)

/-- Eight heads' parts written one after the other. -/
def piecesM (p : Fin 8 → Vec F S1x24x128 .f32) : List (View.Piece (Elt F) S8x24x128 .f32) :=
  [⟨rM ⟨7, by decide⟩, p ⟨7, by decide⟩⟩, ⟨rM ⟨6, by decide⟩, p ⟨6, by decide⟩⟩, ⟨rM ⟨5, by decide⟩, p ⟨5, by decide⟩⟩,
    ⟨rM ⟨4, by decide⟩, p ⟨4, by decide⟩⟩, ⟨rM ⟨3, by decide⟩, p ⟨3, by decide⟩⟩, ⟨rM ⟨2, by decide⟩, p ⟨2, by decide⟩⟩,
    ⟨rM ⟨1, by decide⟩, p ⟨1, by decide⟩⟩, ⟨rM ⟨0, by decide⟩, p ⟨0, by decide⟩⟩]
def piecesA (p : Fin 8 → Vec F S1x24x160 .f32) : List (View.Piece (Elt F) S8x24x160 .f32) :=
  [⟨rA ⟨7, by decide⟩, p ⟨7, by decide⟩⟩, ⟨rA ⟨6, by decide⟩, p ⟨6, by decide⟩⟩, ⟨rA ⟨5, by decide⟩, p ⟨5, by decide⟩⟩,
    ⟨rA ⟨4, by decide⟩, p ⟨4, by decide⟩⟩, ⟨rA ⟨3, by decide⟩, p ⟨3, by decide⟩⟩, ⟨rA ⟨2, by decide⟩, p ⟨2, by decide⟩⟩,
    ⟨rA ⟨1, by decide⟩, p ⟨1, by decide⟩⟩, ⟨rA ⟨0, by decide⟩, p ⟨0, by decide⟩⟩]
def piecesO (p : Fin 8 → Vec F S1x1x24x160 .bf16) : List (View.Piece (Elt F) S1x8x24x160 .bf16) :=
  [⟨rQ ⟨7, by decide⟩, p ⟨7, by decide⟩⟩, ⟨rQ ⟨6, by decide⟩, p ⟨6, by decide⟩⟩, ⟨rQ ⟨5, by decide⟩, p ⟨5, by decide⟩⟩,
    ⟨rQ ⟨4, by decide⟩, p ⟨4, by decide⟩⟩, ⟨rQ ⟨3, by decide⟩, p ⟨3, by decide⟩⟩, ⟨rQ ⟨2, by decide⟩, p ⟨2, by decide⟩⟩,
    ⟨rQ ⟨1, by decide⟩, p ⟨1, by decide⟩⟩, ⟨rQ ⟨0, by decide⟩, p ⟨0, by decide⟩⟩]

/-- The array whose head `h` is `p h`. -/
def glueM (p : Fin 8 → Vec F S1x24x128 .f32) : Vec F S8x24x128 .f32 := View.canon (piecesM p)
def glueA (p : Fin 8 → Vec F S1x24x160 .f32) : Vec F S8x24x160 .f32 := View.canon (piecesA p)
def glueO (p : Fin 8 → Vec F S1x1x24x160 .bf16) : Vec F S1x8x24x160 .bf16 := View.canon (piecesO p)

theorem coverM (p : Fin 8 → Vec F S1x24x128 .f32) (y) : ∃ q ∈ piecesM p, y ∈ q.1.set :=
  View.cover_of_tiled (piecesM p) S1x24x128.size (by rfl) y
theorem coverA (p : Fin 8 → Vec F S1x24x160 .f32) (y) : ∃ q ∈ piecesA p, y ∈ q.1.set :=
  View.cover_of_tiled (piecesA p) S1x24x160.size (by rfl) y
theorem coverO (p : Fin 8 → Vec F S1x1x24x160 .bf16) (y) : ∃ q ∈ piecesO p, y ∈ q.1.set :=
  View.cover_of_tiled (piecesO p) S1x1x24x160.size (by rfl) y

theorem read_glueM {κ : Kind} {sp : Space} (v : View sig κ sp S8x24x128 .f32) (f : v.ty.Contents (Elt F)) {p : Fin 8 → Vec F S1x24x128 .f32}
    {i7 : ∀ a, (![7, 0, 0] : Fin 3 → ℕ) a + S1x24x128.size a ≤ S8x24x128.size a} {i6 : ∀ a, (![6, 0, 0] : Fin 3 → ℕ) a + S1x24x128.size a ≤ S8x24x128.size a} {i5 : ∀ a, (![5, 0, 0] : Fin 3 → ℕ) a + S1x24x128.size a ≤ S8x24x128.size a} {i4 : ∀ a, (![4, 0, 0] : Fin 3 → ℕ) a + S1x24x128.size a ≤ S8x24x128.size a} {i3 : ∀ a, (![3, 0, 0] : Fin 3 → ℕ) a + S1x24x128.size a ≤ S8x24x128.size a} {i2 : ∀ a, (![2, 0, 0] : Fin 3 → ℕ) a + S1x24x128.size a ≤ S8x24x128.size a} {i1 : ∀ a, (![1, 0, 0] : Fin 3 → ℕ) a + S1x24x128.size a ≤ S8x24x128.size a} {i0 : ∀ a, (![0, 0, 0] : Fin 3 → ℕ) a + S1x24x128.size a ≤ S8x24x128.size a}
    {w7 w6 w5 w4 w3 w2 w1 w0 : Vec F S1x24x128 .f32}
    (h7 : w7 = p ⟨7, by decide⟩) (h6 : w6 = p ⟨6, by decide⟩) (h5 : w5 = p ⟨5, by decide⟩) (h4 : w4 = p ⟨4, by decide⟩) (h3 : w3 = p ⟨3, by decide⟩) (h2 : w2 = p ⟨2, by decide⟩) (h1 : w1 = p ⟨1, by decide⟩) (h0 : w0 = p ⟨0, by decide⟩) :
    v.read (Elt F) (v.writes (Elt F) f [⟨Rect.unit (s := S8x24x128) ![7, 0, 0] S1x24x128.size i7, w7⟩, ⟨Rect.unit (s := S8x24x128) ![6, 0, 0] S1x24x128.size i6, w6⟩, ⟨Rect.unit (s := S8x24x128) ![5, 0, 0] S1x24x128.size i5, w5⟩, ⟨Rect.unit (s := S8x24x128) ![4, 0, 0] S1x24x128.size i4, w4⟩, ⟨Rect.unit (s := S8x24x128) ![3, 0, 0] S1x24x128.size i3, w3⟩, ⟨Rect.unit (s := S8x24x128) ![2, 0, 0] S1x24x128.size i2, w2⟩, ⟨Rect.unit (s := S8x24x128) ![1, 0, 0] S1x24x128.size i1, w1⟩, ⟨Rect.unit (s := S8x24x128) ![0, 0, 0] S1x24x128.size i0, w0⟩]) = glueM p := by
  subst h7 h6 h5 h4 h3 h2 h1 h0
  exact View.read_writes_eq_canon _ _ (piecesM p) (coverM p)
theorem read_glueA {κ : Kind} {sp : Space} (v : View sig κ sp S8x24x160 .f32) (f : v.ty.Contents (Elt F)) {p : Fin 8 → Vec F S1x24x160 .f32}
    {i7 : ∀ a, (![7, 0, 0] : Fin 3 → ℕ) a + S1x24x160.size a ≤ S8x24x160.size a} {i6 : ∀ a, (![6, 0, 0] : Fin 3 → ℕ) a + S1x24x160.size a ≤ S8x24x160.size a} {i5 : ∀ a, (![5, 0, 0] : Fin 3 → ℕ) a + S1x24x160.size a ≤ S8x24x160.size a} {i4 : ∀ a, (![4, 0, 0] : Fin 3 → ℕ) a + S1x24x160.size a ≤ S8x24x160.size a} {i3 : ∀ a, (![3, 0, 0] : Fin 3 → ℕ) a + S1x24x160.size a ≤ S8x24x160.size a} {i2 : ∀ a, (![2, 0, 0] : Fin 3 → ℕ) a + S1x24x160.size a ≤ S8x24x160.size a} {i1 : ∀ a, (![1, 0, 0] : Fin 3 → ℕ) a + S1x24x160.size a ≤ S8x24x160.size a} {i0 : ∀ a, (![0, 0, 0] : Fin 3 → ℕ) a + S1x24x160.size a ≤ S8x24x160.size a}
    {w7 w6 w5 w4 w3 w2 w1 w0 : Vec F S1x24x160 .f32}
    (h7 : w7 = p ⟨7, by decide⟩) (h6 : w6 = p ⟨6, by decide⟩) (h5 : w5 = p ⟨5, by decide⟩) (h4 : w4 = p ⟨4, by decide⟩) (h3 : w3 = p ⟨3, by decide⟩) (h2 : w2 = p ⟨2, by decide⟩) (h1 : w1 = p ⟨1, by decide⟩) (h0 : w0 = p ⟨0, by decide⟩) :
    v.read (Elt F) (v.writes (Elt F) f [⟨Rect.unit (s := S8x24x160) ![7, 0, 0] S1x24x160.size i7, w7⟩, ⟨Rect.unit (s := S8x24x160) ![6, 0, 0] S1x24x160.size i6, w6⟩, ⟨Rect.unit (s := S8x24x160) ![5, 0, 0] S1x24x160.size i5, w5⟩, ⟨Rect.unit (s := S8x24x160) ![4, 0, 0] S1x24x160.size i4, w4⟩, ⟨Rect.unit (s := S8x24x160) ![3, 0, 0] S1x24x160.size i3, w3⟩, ⟨Rect.unit (s := S8x24x160) ![2, 0, 0] S1x24x160.size i2, w2⟩, ⟨Rect.unit (s := S8x24x160) ![1, 0, 0] S1x24x160.size i1, w1⟩, ⟨Rect.unit (s := S8x24x160) ![0, 0, 0] S1x24x160.size i0, w0⟩]) = glueA p := by
  subst h7 h6 h5 h4 h3 h2 h1 h0
  exact View.read_writes_eq_canon _ _ (piecesA p) (coverA p)
theorem read_glueO {κ : Kind} {sp : Space} (v : View sig κ sp S1x8x24x160 .bf16) (f : v.ty.Contents (Elt F)) {p : Fin 8 → Vec F S1x1x24x160 .bf16}
    {i7 : ∀ a, (![0, 7, 0, 0] : Fin 4 → ℕ) a + S1x1x24x160.size a ≤ S1x8x24x160.size a} {i6 : ∀ a, (![0, 6, 0, 0] : Fin 4 → ℕ) a + S1x1x24x160.size a ≤ S1x8x24x160.size a} {i5 : ∀ a, (![0, 5, 0, 0] : Fin 4 → ℕ) a + S1x1x24x160.size a ≤ S1x8x24x160.size a} {i4 : ∀ a, (![0, 4, 0, 0] : Fin 4 → ℕ) a + S1x1x24x160.size a ≤ S1x8x24x160.size a} {i3 : ∀ a, (![0, 3, 0, 0] : Fin 4 → ℕ) a + S1x1x24x160.size a ≤ S1x8x24x160.size a} {i2 : ∀ a, (![0, 2, 0, 0] : Fin 4 → ℕ) a + S1x1x24x160.size a ≤ S1x8x24x160.size a} {i1 : ∀ a, (![0, 1, 0, 0] : Fin 4 → ℕ) a + S1x1x24x160.size a ≤ S1x8x24x160.size a} {i0 : ∀ a, (![0, 0, 0, 0] : Fin 4 → ℕ) a + S1x1x24x160.size a ≤ S1x8x24x160.size a}
    {w7 w6 w5 w4 w3 w2 w1 w0 : Vec F S1x1x24x160 .bf16}
    (h7 : w7 = p ⟨7, by decide⟩) (h6 : w6 = p ⟨6, by decide⟩) (h5 : w5 = p ⟨5, by decide⟩) (h4 : w4 = p ⟨4, by decide⟩) (h3 : w3 = p ⟨3, by decide⟩) (h2 : w2 = p ⟨2, by decide⟩) (h1 : w1 = p ⟨1, by decide⟩) (h0 : w0 = p ⟨0, by decide⟩) :
    v.read (Elt F) (v.writes (Elt F) f [⟨Rect.unit (s := S1x8x24x160) ![0, 7, 0, 0] S1x1x24x160.size i7, w7⟩, ⟨Rect.unit (s := S1x8x24x160) ![0, 6, 0, 0] S1x1x24x160.size i6, w6⟩, ⟨Rect.unit (s := S1x8x24x160) ![0, 5, 0, 0] S1x1x24x160.size i5, w5⟩, ⟨Rect.unit (s := S1x8x24x160) ![0, 4, 0, 0] S1x1x24x160.size i4, w4⟩, ⟨Rect.unit (s := S1x8x24x160) ![0, 3, 0, 0] S1x1x24x160.size i3, w3⟩, ⟨Rect.unit (s := S1x8x24x160) ![0, 2, 0, 0] S1x1x24x160.size i2, w2⟩, ⟨Rect.unit (s := S1x8x24x160) ![0, 1, 0, 0] S1x1x24x160.size i1, w1⟩, ⟨Rect.unit (s := S1x8x24x160) ![0, 0, 0, 0] S1x1x24x160.size i0, w0⟩]) = glueO p := by
  subst h7 h6 h5 h4 h3 h2 h1 h0
  exact View.read_writes_eq_canon _ _ (piecesO p) (coverO p)

/-! ## The state and its steps -/

/-- A sequence's running softmax. -/
structure St (F : FTy → Type) [FloatOps F] where
  m : Vec F S8x24x128 .f32
  l : Vec F S8x24x128 .f32
  a : Vec F S8x24x160 .f32

/-- The softmax of the new keys alone. -/
def startSt (X2 : Vec F S1x8x24x160 .bf16) (X3 X4 : Vec F S1x8x128x160 .bf16) : St F where
  m := glueM fun h => k0_pay5 (ldQ X2 h) (ldN X3 h)
  l := glueM fun h => k0_pay6 (ldQ X2 h) (ldN X3 h)
  a := glueA fun h => k0_pay8 (k0_pay7 (ldQ X2 h) (ldN X3 h)) (ldN X4 h)

/-- One head's scores of a block of which the first `w` positions are filled. -/
def score (w : BitVec 32) (q : Vec F S1x1x24x160 .bf16) (k : Vec F S1x1x160x2048 .fp8e4m3) (ks : Vec F S1x1x2048 .f32) : FVec F S24x2048 .f32 :=
  select (cmpi .slt (iota .tc S24x2048 32 [1] iota_S24x2048_d1_w32) (broadcast S24x2048 w)) (k0_pay79 q k ks)
    (broadcast S24x2048 (Scalar.ofBits .f32 0xFF800000#32))

/-- The state with one block taken into it. -/
def stepSt (w : BitVec 32) (X2 : Vec F S1x8x24x160 .bf16) (X5 X6 : Vec F S1x8x160x2048 .fp8e4m3) (X7 X8 : Vec F S1x8x2048 .f32) (s : St F) : St F where
  m := glueM fun h => k0_pay72 (score w (ldQ X2 h) (ldK X5 h) (ldS X7 h)) (ldM s.m h)
  l := glueM fun h => k0_pay77 (k0_pay73 (score w (ldQ X2 h) (ldK X5 h) (ldS X7 h)) (ldM s.m h))
    (k0_pay75 (score w (ldQ X2 h) (ldK X5 h) (ldS X7 h)) (ldM s.m h) (ldM s.l h))
    (k0_pay76 (score w (ldQ X2 h) (ldK X5 h) (ldS X7 h)) (ldM s.m h))
  a := glueA fun h => k0_pay78 (k0_pay71 (score w (ldQ X2 h) (ldK X5 h) (ldS X7 h)) (ldM s.m h))
    (k0_pay74 (score w (ldQ X2 h) (ldK X5 h) (ldS X7 h)) (ldM s.m h) (ldS X8 h)) (ldK X6 h) (ldA s.a h)

/-- The output of a finished state. -/
def outV (s : St F) : Vec F S1x8x24x160 .bf16 := glueO fun h => k0_pay156 (ldM s.l h) (ldA s.a h)

/-! ## The stretches -/

section
variable (c : Dev nD)

/-- A word of the table of lengths. -/
abbrev rd {c : Dev nD} (arg1 : Memref sig .tc .smem S3 .i32) (f : Buf (Elt F) (arg1.view.loc (c : Thread nD τ))) (off : Fin S3.rank → ℕ)
    (h : ∀ a, off a + S1.size a ≤ S3.size a) : BitVec 32 :=
  View.readAt (Elt F) arg1.view (Rect.unit (s := S3) off S1.size h).toLoadRect f (Shape.Idx.first (numel1_S1.symm ▸ Nat.one_pos))

variable (b : grid0.Bounds) (i : grid0.Static) (arg0 : BitVec 32) (arg1 : Memref sig .tc .smem S3 .i32) (harg1 : arg1.IsWhole)
  (arg2 : Memref sig .tc .vmem S1x8x24x160 .bf16) (harg2 : arg2.IsWhole) (arg3 : Memref sig .tc .vmem S1x8x128x160 .bf16) (harg3 : arg3.IsWhole)
  (arg4 : Memref sig .tc .vmem S1x8x128x160 .bf16) (harg4 : arg4.IsWhole) (arg5 : Memref sig .tc .vmem S1x8x160x2048 .fp8e4m3) (harg5 : arg5.IsWhole)
  (arg6 : Memref sig .tc .vmem S1x8x160x2048 .fp8e4m3) (harg6 : arg6.IsWhole) (arg7 : Memref sig .tc .vmem S1x8x2048 .f32) (harg7 : arg7.IsWhole)
  (arg8 : Memref sig .tc .vmem S1x8x2048 .f32) (harg8 : arg8.IsWhole) (arg9 : Memref sig .tc .vmem S1x8x24x160 .bf16) (harg9 : arg9.IsWhole)
  (arg10 : Memref sig .tc .vmem S8x24x128 .f32) (harg10 : arg10.IsWhole) (arg11 : Memref sig .tc .vmem S8x24x128 .f32) (harg11 : arg11.IsWhole)
  (arg12 : Memref sig .tc .vmem S8x24x160 .f32) (harg12 : arg12.IsWhole)
variable (f1 : Buf (Elt F) (arg1.view.loc (c : Thread nD τ)))
  (X2 : Vec F S1x8x24x160 .bf16) (X3 X4 : Vec F S1x8x128x160 .bf16) (X5 X6 : Vec F S1x8x160x2048 .fp8e4m3) (X7 X8 : Vec F S1x8x2048 .f32)
  (X9 : Vec F S1x8x24x160 .bf16) (s : St F)

/-- The state in the scratch arrays. -/
def stOwns (s : St F) : sProp 𝕄 :=
  iprop(owns (c : Thread nD τ) arg10 fullShare s.m ∗ owns (c : Thread nD τ) arg11 fullShare s.l ∗ owns (c : Thread nD τ) arg12 fullShare s.a)

/-- Whether the block is the sequence's first, as the body asks it. -/
def isStart (arg0 v0 v1 : BitVec 32) : Prop := Scalar.cmpi .ne (Scalar.extui (Scalar.cmpi .eq (Words.blkW arg0 v0 v1) 0#32)) 0#32 = 1#1

set_option maxHeartbeats 8000000 in
theorem s1_start (κ) (Q : PUnit → sProp 𝕄)
    (hchk : k0_chk1 arg0 (rd (F := F) arg1 f1 ![0] inb_S3_S1_0) (rd (F := F) arg1 f1 ![1] inb_S3_S1_1))
    (hC : isStart arg0 (rd (F := F) arg1 f1 ![0] inb_S3_S1_0) (rd (F := F) arg1 f1 ![1] inb_S3_S1_1)) :
    iprop((arg1.view.loc (c : Thread nD τ) ↦{fullShare.right} f1) ∗ owns (c : Thread nD τ) arg2 fullShare X2 ∗ owns (c : Thread nD τ) arg3 fullShare X3
        ∗ owns (c : Thread nD τ) arg4 fullShare X4 ∗ stOwns c arg10 arg11 arg12 s) ⊢
      iprop(((arg1.view.loc (c : Thread nD τ) ↦{fullShare.right} f1) ∗ owns (c : Thread nD τ) arg2 fullShare X2 ∗ owns (c : Thread nD τ) arg3 fullShare X3
          ∗ owns (c : Thread nD τ) arg4 fullShare X4 ∗ stOwns c arg10 arg11 arg12 (startSt X2 X3 X4) -∗
          wp frame (wpE (defs₀ (F := F)) Variants.none c none) Set.univ
            (κ (rd (F := F) arg1 f1 ![0] inb_S3_S1_0) (rd (F := F) arg1 f1 ![1] inb_S3_S1_1) (rd (F := F) arg1 f1 _ hchk)) Q) -∗
        wp frame (wpE (defs₀ (F := F)) Variants.none c none) Set.univ (s1 b i arg0 arg1 harg1 arg2 harg2 arg3 harg3 arg4 harg4 arg5 harg5 arg6 harg6
          arg7 harg7 arg8 harg8 arg9 harg9 arg10 harg10 arg11 harg11 arg12 harg12 κ) Q) := by
  unfold stOwns owns
  iintro ⟨H1, ⟨%f2, %h2, H2⟩, ⟨%f3, %h3, H3⟩, ⟨%f4, %h4, H4⟩, ⟨%f10, %h10, H10⟩, ⟨%f11, %h11, H11⟩, ⟨%f12, %h12, H12⟩⟩ Hκ
  subst h2 h3 h4
  unfold s1
  sl_exec (disch := first | exact hC | exact hchk)
  iapply Hκ
  isplitl [H1]; · iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H10]
  · iexists _; isplitr; swap; · iexact H10
    ipureintro; dsimp only [startSt]; refine read_glueM _ _ ?_ ?_ ?_ ?_ ?_ ?_ ?_ ?_ <;> beta_reduce <;> rfl
  isplitl [H11]
  · iexists _; isplitr; swap; · iexact H11
    ipureintro; dsimp only [startSt]; refine read_glueM _ _ ?_ ?_ ?_ ?_ ?_ ?_ ?_ ?_ <;> beta_reduce <;> rfl
  iexists _; isplitr; swap; · iexact H12
  ipureintro; dsimp only [startSt]; refine read_glueA _ _ ?_ ?_ ?_ ?_ ?_ ?_ ?_ ?_ <;> beta_reduce <;> rfl

set_option maxHeartbeats 8000000 in
theorem s1_skip (κ) (Q : PUnit → sProp 𝕄)
    (hchk : k0_chk1 arg0 (rd (F := F) arg1 f1 ![0] inb_S3_S1_0) (rd (F := F) arg1 f1 ![1] inb_S3_S1_1))
    (hC : ¬ isStart arg0 (rd (F := F) arg1 f1 ![0] inb_S3_S1_0) (rd (F := F) arg1 f1 ![1] inb_S3_S1_1)) :
    iprop(arg1.view.loc (c : Thread nD τ) ↦{fullShare.right} f1) ⊢
      iprop(((arg1.view.loc (c : Thread nD τ) ↦{fullShare.right} f1) -∗
          wp frame (wpE (defs₀ (F := F)) Variants.none c none) Set.univ
            (κ (rd (F := F) arg1 f1 ![0] inb_S3_S1_0) (rd (F := F) arg1 f1 ![1] inb_S3_S1_1) (rd (F := F) arg1 f1 _ hchk)) Q) -∗
        wp frame (wpE (defs₀ (F := F)) Variants.none c none) Set.univ (s1 b i arg0 arg1 harg1 arg2 harg2 arg3 harg3 arg4 harg4 arg5 harg5 arg6 harg6
          arg7 harg7 arg8 harg8 arg9 harg9 arg10 harg10 arg11 harg11 arg12 harg12 κ) Q) := by
  iintro H1 Hκ
  unfold s1
  sl_exec (disch := first | exact hC | exact hchk)
  iapply Hκ
  iexact H1

/-- How many positions of a block are filled, as the body computes it. -/
def fillW (arg0 v0 v1 vs : BitVec 32) : BitVec 32 := Scalar.subi vs (Scalar.muli (Words.blkW arg0 v0 v1) 2048#32)

set_option maxHeartbeats 8000000 in
theorem s2_spec (v0 v1 vs : BitVec 32) (R) (Q : PUnit → sProp 𝕄) :
    iprop(owns (c : Thread nD τ) arg2 fullShare X2 ∗ owns (c : Thread nD τ) arg5 fullShare X5 ∗ owns (c : Thread nD τ) arg6 fullShare X6
        ∗ owns (c : Thread nD τ) arg7 fullShare X7 ∗ owns (c : Thread nD τ) arg8 fullShare X8 ∗ stOwns c arg10 arg11 arg12 s) ⊢
      iprop((owns (c : Thread nD τ) arg2 fullShare X2 ∗ owns (c : Thread nD τ) arg5 fullShare X5 ∗ owns (c : Thread nD τ) arg6 fullShare X6
          ∗ owns (c : Thread nD τ) arg7 fullShare X7 ∗ owns (c : Thread nD τ) arg8 fullShare X8
          ∗ stOwns c arg10 arg11 arg12 (stepSt (fillW arg0 v0 v1 vs) X2 X5 X6 X7 X8 s) -∗
          wp frame (wpE (defs₀ (F := F)) Variants.none c none) Set.univ R Q) -∗
        wp frame (wpE (defs₀ (F := F)) Variants.none c none) Set.univ (s2 arg0 arg2 arg5 arg6 arg7 arg8 arg10 arg11 arg12 v0 v1 vs R) Q) := by
  unfold stOwns owns
  iintro ⟨⟨%f2, %h2, H2⟩, ⟨%f5, %h5, H5⟩, ⟨%f6, %h6, H6⟩, ⟨%f7, %h7, H7⟩, ⟨%f8, %h8, H8⟩, ⟨%f10, %h10, H10⟩, ⟨%f11, %h11, H11⟩, ⟨%f12, %h12, H12⟩⟩ Hκ
  obtain ⟨M, L, A⟩ := s; dsimp only at h10 h11 h12
  subst h2 h5 h6 h7 h8 h10 h11 h12
  unfold s2
  sl_exec
  iapply Hκ
  isplitl [H2]; · iexists f2; isplitr; · ipureintro; rfl
                  iexact H2
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H10]
  · iexists _; isplitr; swap; · iexact H10
    ipureintro; dsimp only [stepSt]; refine read_glueM _ _ ?_ ?_ ?_ ?_ ?_ ?_ ?_ ?_ <;> beta_reduce <;> rfl
  isplitl [H11]
  · iexists _; isplitr; swap; · iexact H11
    ipureintro; dsimp only [stepSt]; refine read_glueM _ _ ?_ ?_ ?_ ?_ ?_ ?_ ?_ ?_ <;> beta_reduce <;> rfl
  iexists _; isplitr; swap; · iexact H12
  ipureintro; dsimp only [stepSt]; refine read_glueA _ _ ?_ ?_ ?_ ?_ ?_ ?_ ?_ ?_ <;> beta_reduce <;> rfl

set_option maxHeartbeats 8000000 in
theorem tail_finish (v0 v1 vs : BitVec 32) (Q : PUnit → sProp 𝕄) (hC : k0_cond2 arg0 v0 v1 vs = 1#1) :
    iprop(owns (c : Thread nD τ) arg9 fullShare X9 ∗ stOwns c arg10 arg11 arg12 s) ⊢
      iprop((owns (c : Thread nD τ) arg9 fullShare (outV s) ∗ stOwns c arg10 arg11 arg12 s -∗ Q PUnit.unit) -∗
        wp frame (wpE (defs₀ (F := F)) Variants.none c none) Set.univ (s2.tail b i arg0 arg1 harg1 arg2 harg2 arg3 harg3 arg4 harg4 arg5 harg5 arg6 harg6
          arg7 harg7 arg8 harg8 arg9 harg9 arg10 harg10 arg11 harg11 arg12 harg12 v0 v1 vs) Q) := by
  unfold stOwns owns
  iintro ⟨⟨%f9, %h9, H9⟩, ⟨%f10, %h10, H10⟩, ⟨%f11, %h11, H11⟩, ⟨%f12, %h12, H12⟩⟩ Hκ
  obtain ⟨M, L, A⟩ := s; dsimp only at h10 h11 h12
  subst h10 h11 h12
  unfold s2.tail
  sl_exec (disch := exact hC)
  sl_step
  iapply Hκ
  isplitl [H9]
  · iexists _; isplitr; swap; · iexact H9
    ipureintro; dsimp only [outV]; refine read_glueO _ _ ?_ ?_ ?_ ?_ ?_ ?_ ?_ ?_ <;> beta_reduce <;> rfl
  isplitl [H10]; · iexists f10; isplitr; · ipureintro; rfl
                   iexact H10
  isplitl [H11]; · iexists f11; isplitr; · ipureintro; rfl
                   iexact H11
  iexists f12; isplitr; · ipureintro; rfl
  iexact H12

set_option maxHeartbeats 8000000 in
theorem tail_skip (v0 v1 vs : BitVec 32) (Q : PUnit → sProp 𝕄) (hC : ¬ k0_cond2 arg0 v0 v1 vs = 1#1) :
    Q PUnit.unit ⊢ wp frame (wpE (defs₀ (F := F)) Variants.none c none) Set.univ (s2.tail b i arg0 arg1 harg1 arg2 harg2 arg3 harg3 arg4 harg4 arg5 harg5 arg6 harg6
          arg7 harg7 arg8 harg8 arg9 harg9 arg10 harg10 arg11 harg11 arg12 harg12 v0 v1 vs) Q := by
  iintro Hκ
  unfold s2.tail
  sl_exec (disch := exact hC)
  sl_step
  iexact Hκ

instance (a b d : BitVec 32) : Decidable (isStart a b d) := inferInstanceAs (Decidable (_ = _))

/-- The state after the point's block, from the state before the point. -/
def nextSt (arg0 v0 v1 vs : BitVec 32) (X2 : Vec F S1x8x24x160 .bf16) (X3 X4 : Vec F S1x8x128x160 .bf16) (X5 X6 : Vec F S1x8x160x2048 .fp8e4m3)
    (X7 X8 : Vec F S1x8x2048 .f32) (s : St F) : St F :=
  stepSt (fillW arg0 v0 v1 vs) X2 X5 X6 X7 X8 (if isStart arg0 v0 v1 then startSt X2 X3 X4 else s)

set_option maxHeartbeats 8000000 in
/-- What follows the start of a point: the block, then the result if the block is the sequence's last. -/
theorem rest_spec (v0 v1 vs : BitVec 32) (Q : PUnit → sProp 𝕄) :
    iprop(owns (c : Thread nD τ) arg2 fullShare X2 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ stOwns c arg10 arg11 arg12 s) ⊢
      iprop((owns (c : Thread nD τ) arg2 fullShare X2 ∗ owns (c : Thread nD τ) arg5 fullShare X5 ∗ owns (c : Thread nD τ) arg6 fullShare X6 ∗ owns (c : Thread nD τ) arg7 fullShare X7 ∗ owns (c : Thread nD τ) arg8 fullShare X8
          ∗ owns (c : Thread nD τ) arg9 fullShare (if k0_cond2 arg0 v0 v1 vs = 1#1 then outV (stepSt (fillW arg0 v0 v1 vs) X2 X5 X6 X7 X8 s) else X9)
          ∗ stOwns c arg10 arg11 arg12 (stepSt (fillW arg0 v0 v1 vs) X2 X5 X6 X7 X8 s) -∗ Q PUnit.unit) -∗
        wp frame (wpE (defs₀ (F := F)) Variants.none c none) Set.univ (s1.tail b i arg0 arg1 harg1 arg2 harg2 arg3 harg3 arg4 harg4 arg5 harg5 arg6 harg6
          arg7 harg7 arg8 harg8 arg9 harg9 arg10 harg10 arg11 harg11 arg12 harg12 v0 v1 vs) Q) := by
  rw [s2.eq]
  by_cases hF : k0_cond2 arg0 v0 v1 vs = 1#1
  · rw [if_pos hF]
    iintro ⟨H2, H5, H6, H7, H8, H9, HS⟩ HK
    iapply (s2_spec (F := F) c arg0 arg2 arg5 arg6 arg7 arg8 arg10 arg11 arg12 X2 X5 X6 X7 X8 s v0 v1 vs _ _) $$ [H2 H5 H6 H7 H8 HS]
    · isplitl [H2]; · iexact H2
      isplitl [H5]; · iexact H5
      isplitl [H6]; · iexact H6
      isplitl [H7]; · iexact H7
      isplitl [H8]; · iexact H8
      iexact HS
    iintro ⟨H2, H5, H6, H7, H8, HS⟩
    iapply (tail_finish (F := F) c b i arg0 arg1 harg1 arg2 harg2 arg3 harg3 arg4 harg4 arg5 harg5 arg6 harg6 arg7 harg7 arg8 harg8 arg9 harg9 arg10 harg10
      arg11 harg11 arg12 harg12 X9 _ v0 v1 vs _ hF) $$ [H9 HS]
    · isplitl [H9]; · iexact H9
      iexact HS
    iintro ⟨H9, HS⟩
    iapply HK
    isplitl [H2]; · iexact H2
    isplitl [H5]; · iexact H5
    isplitl [H6]; · iexact H6
    isplitl [H7]; · iexact H7
    isplitl [H8]; · iexact H8
    isplitl [H9]; · iexact H9
    iexact HS
  · rw [if_neg hF]
    iintro ⟨H2, H5, H6, H7, H8, H9, HS⟩ HK
    iapply (s2_spec (F := F) c arg0 arg2 arg5 arg6 arg7 arg8 arg10 arg11 arg12 X2 X5 X6 X7 X8 s v0 v1 vs _ _) $$ [H2 H5 H6 H7 H8 HS]
    · isplitl [H2]; · iexact H2
      isplitl [H5]; · iexact H5
      isplitl [H6]; · iexact H6
      isplitl [H7]; · iexact H7
      isplitl [H8]; · iexact H8
      iexact HS
    iintro ⟨H2, H5, H6, H7, H8, HS⟩
    iapply (tail_skip (F := F) c b i arg0 arg1 harg1 arg2 harg2 arg3 harg3 arg4 harg4 arg5 harg5 arg6 harg6 arg7 harg7 arg8 harg8 arg9 harg9 arg10 harg10
      arg11 harg11 arg12 harg12 v0 v1 vs _ hF)
    iapply HK
    isplitl [H2]; · iexact H2
    isplitl [H5]; · iexact H5
    isplitl [H6]; · iexact H6
    isplitl [H7]; · iexact H7
    isplitl [H8]; · iexact H8
    isplitl [H9]; · iexact H9
    iexact HS

set_option maxHeartbeats 8000000 in
/-- One grid point: from the blocks and the running state to the state after the block, and the result at a sequence's last block. -/
theorem body_spec (Q : PUnit → sProp 𝕄) (v0 v1 vs : BitVec 32)
    (hchk : k0_chk1 arg0 (rd (F := F) arg1 f1 ![0] inb_S3_S1_0) (rd (F := F) arg1 f1 ![1] inb_S3_S1_1))
    (h0 : (rd (F := F) arg1 f1 ![0] inb_S3_S1_0) = v0) (h1 : (rd (F := F) arg1 f1 ![1] inb_S3_S1_1) = v1) (hs : (rd (F := F) arg1 f1 _ hchk) = vs) :
    iprop((arg1.view.loc (c : Thread nD τ) ↦{fullShare.right} f1) ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ stOwns c arg10 arg11 arg12 s) ⊢
      iprop(((arg1.view.loc (c : Thread nD τ) ↦{fullShare.right} f1) ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8
          ∗ owns (c : Thread nD τ) arg9 fullShare (if k0_cond2 arg0 v0 v1 vs = 1#1 then outV (nextSt arg0 v0 v1 vs X2 X3 X4 X5 X6 X7 X8 s) else X9)
          ∗ stOwns c arg10 arg11 arg12 (nextSt arg0 v0 v1 vs X2 X3 X4 X5 X6 X7 X8 s) -∗ Q PUnit.unit) -∗
        wp frame (wpE (defs₀ (F := F)) Variants.none c none) Set.univ (cc0_gqa_decode b i arg0 arg1 harg1 arg2 harg2 arg3 harg3 arg4 harg4 arg5 harg5 arg6 harg6
          arg7 harg7 arg8 harg8 arg9 harg9 arg10 harg10 arg11 harg11 arg12 harg12) Q) := by
  rw [flat.eq, s1.eq]
  subst h0 h1 hs
  by_cases hC : isStart arg0 (rd (F := F) arg1 f1 ![0] inb_S3_S1_0) (rd (F := F) arg1 f1 ![1] inb_S3_S1_1)
  · unfold nextSt
    rw [if_pos hC]
    iintro ⟨H1, H2, H3, H4, H5, H6, H7, H8, H9, HS⟩ HK
    iapply (s1_start (F := F) c b i arg0 arg1 harg1 arg2 harg2 arg3 harg3 arg4 harg4 arg5 harg5 arg6 harg6 arg7 harg7 arg8 harg8 arg9 harg9 arg10 harg10
      arg11 harg11 arg12 harg12 f1 X2 X3 X4 s _ _ hchk hC) $$ [H1 H2 H3 H4 HS]
    · isplitl [H1]; · iexact H1
      isplitl [H2]; · iexact H2
      isplitl [H3]; · iexact H3
      isplitl [H4]; · iexact H4
      iexact HS
    iintro ⟨H1, H2, H3, H4, HS⟩
    iapply (rest_spec (F := F) c b i arg0 arg1 harg1 arg2 harg2 arg3 harg3 arg4 harg4 arg5 harg5 arg6 harg6 arg7 harg7 arg8 harg8 arg9 harg9 arg10 harg10
      arg11 harg11 arg12 harg12 X2 X5 X6 X7 X8 X9 _ _ _ _ _) $$ [H2 H5 H6 H7 H8 H9 HS]
    · isplitl [H2]; · iexact H2
      isplitl [H5]; · iexact H5
      isplitl [H6]; · iexact H6
      isplitl [H7]; · iexact H7
      isplitl [H8]; · iexact H8
      isplitl [H9]; · iexact H9
      iexact HS
    iintro ⟨H2, H5, H6, H7, H8, H9, HS⟩
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  · unfold nextSt
    rw [if_neg hC]
    iintro ⟨H1, H2, H3, H4, H5, H6, H7, H8, H9, HS⟩ HK
    iapply (s1_skip (F := F) c b i arg0 arg1 harg1 arg2 harg2 arg3 harg3 arg4 harg4 arg5 harg5 arg6 harg6 arg7 harg7 arg8 harg8 arg9 harg9 arg10 harg10
      arg11 harg11 arg12 harg12 f1 _ _ hchk hC) $$ H1
    iintro H1
    iapply (rest_spec (F := F) c b i arg0 arg1 harg1 arg2 harg2 arg3 harg3 arg4 harg4 arg5 harg5 arg6 harg6 arg7 harg7 arg8 harg8 arg9 harg9 arg10 harg10
      arg11 harg11 arg12 harg12 X2 X5 X6 X7 X8 X9 _ _ _ _ _) $$ [H2 H5 H6 H7 H8 H9 HS]
    · isplitl [H2]; · iexact H2
      isplitl [H5]; · iexact H5
      isplitl [H6]; · iexact H6
      isplitl [H7]; · iexact H7
      isplitl [H8]; · iexact H8
      isplitl [H9]; · iexact H9
      iexact HS
    iintro ⟨H2, H5, H6, H7, H8, H9, HS⟩
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS

end
end Cert.Kernel.Body
-- ==== Proof.BitsTables.lean ====
/-
  What the two prefetched tables of the kernel's grid hold when the grid starts: the sequences' lengths as they were given, and the number
  of grid points, the sum of the sequences' block counts.  With lengths that fit, every table-dependent side condition of the grid holds.
-/
module

public import proofs.«01_k».proof.Proof.BitsBody
public import Idealize.ShloMosaic.Lib.Pipeline.FrameSuffix
public import Idealize.ShloMosaic.Lib.Claim
public import Idealize.ShloMosaic.Lib.WordCmp
public import Idealize.ShloMosaic.Lib.Routing.Ops

@[expose] public section
set_option maxRecDepth 16384
noncomputable section
namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]
variable (m : (ℓ : Loc nD τ sig) → Buf (Elt F) ℓ)

/-- The host operations before the grid. -/
abbrev pfx : List (List (HloOp τ sig (Elt F))) :=
  [hostOps0, hostOps0_1, hostOps0_2, hostOps0_3, hostOps0_4, hostOps0_5, hostOps0_6, hostOps0_7, hostOps0_8]

/-- The buffers' contents when the grid starts. -/
abbrev V0 (c : Dev nD) : Valuation τ sig (Elt F) := StableHlo.after pfx.flatten (fun b => m (c, b))
abbrev V (c : Dev nD) (b : Ref sig .tc) : Buf (Elt F) ((c : Thread nD τ).loc b) := V0 m c (Proc.devRef .tc b)

/-- The length of a sequence. -/
def len (c : Dev nD) (j : Fin 3) : BitVec 32 := (m ((c : Thread nD τ).loc main_arg7) : IVec S3 32) (ValueIdx.ix1 j)

set_option maxHeartbeats 4000000 in
theorem V_main_arg7 (c : Dev nD) : V m c main_arg7 = m ((c : Thread nD τ).loc main_arg7) := by
  dsimp only [V, V0, pfx, List.flatten, List.append]
  after_results

/-- The block counts as the host computes them. -/
def counts (x : IVec S3 32) : IVec S3 32 :=
  let y := addi x (broadcastInDim S3 ![] bcast_S_S3 (constantI S_ 32 2047#32))
  let k := broadcastInDim S3 ![] bcast_S_S3 (constantI S_ 32 2048#32)
  maxsi (select (andi (cmpi .ne (signi y) (broadcastInDim S3 ![] bcast_S_S3 (signi (constantI S_ 32 2048#32))))
      (cmpi .ne (Host.remsi y k) (broadcastInDim S3 ![] bcast_S_S3 (constantI S_ 32 0#32))))
    (subi (Host.divsi y k) (broadcastInDim S3 ![] bcast_S_S3 (constantI S_ 32 1#32))) (Host.divsi y k))
    (broadcastInDim S3 ![] bcast_S_S3 (constantI S_ 32 1#32))

set_option maxHeartbeats 4000000 in
theorem V_main_v17_eq (c : Dev nD) : V m c main_v17
    = Host.reduce IntOp.addi (counts (m ((c : Thread nD τ).loc main_arg7))) (constantI S_ 32 0#32) reducesTo_S3_S_d0 h_S_ := by
  dsimp only [V, V0, pfx, List.flatten, List.append]
  after_results
  simp only [StableHlo.TRef.ofBuf_toBuf, id_eq]
  simp only [StableHlo.TRef.ofBuf, StableHlo.TRef.toBuf, cast_eq]
  unfold counts
  with_reducible rfl

theorem counts_apply (x : IVec S3 32) (j : S3.Idx) (hx : (x j).toInt ≤ 65536) : counts x j = BitVec.ofNat 32 (Words.nb (x j)) := by
  have hs : signi (constantI S_ 32 2048#32) = constantI S_ 32 1#32 := by
    funext _; show (if (2048#32 : BitVec 32) = 0 then (0 : BitVec 32) else if (2048#32 : BitVec 32).msb then -1 else 1) = 1#32; decide
  have h := Words.maxsi_floordiv .host hx (IntOp.cmpi .ne (if x j + 2047#32 = 0 then 0 else if (x j + 2047#32).msb then -1 else 1) 1#32) ?_
  · rw [← h]
    unfold counts
    rw [hs]
    simp only [maxsi, select, andi, cmpi, subi, Host.divsi, Host.remsi, addi, broadcastInDim, constantI, signi, IntOp.addi, IntOp.subi, Scalar.select]
    rfl
  · generalize x j + 2047#32 = y
    by_cases h0 : y = 0
    · subst h0; decide
    · rw [if_neg h0, BitVec.msb_eq_toInt]
      by_cases hn : y.toInt < 0
      · rw [if_pos (by simpa using hn)]
        exact ⟨fun _ => by omega, fun _ => by decide⟩
      · rw [if_neg (by simpa using hn)]
        have : y.toInt ≠ 0 := fun e => h0 (BitVec.eq_of_toInt_eq (by simpa using e))
        exact ⟨fun h => absurd h (by decide), fun h => absurd (show 0 < y.toInt by omega) h⟩

variable (hfit : ∀ c j, (len m c j).toInt ≤ 65536)

/-- How many grid points there are. -/
def npts (c : Dev nD) : ℕ := Words.nb (len m c 0) + Words.nb (len m c 1) + Words.nb (len m c 2)

include hfit in
theorem V_main_v17 (c : Dev nD) (i : S_.Idx) : V m c main_v17 i = BitVec.ofNat 32 (npts m c) := by
  rw [V_main_v17_eq, ValueIdx.eq_ix0 i]
  exact Routing.reduce_sum (N := 3) _ (fun j => if h : j < 3 then Words.nb (len m c ⟨j, h⟩) else 0)
    (fun j => (counts_apply _ _ (hfit c j)).trans (by rw [dif_pos j.isLt]; rfl)) _ _ |>.trans
    (show BitVec.ofNat 32 (Words.nb (len m c 0) + (Words.nb (len m c 1) + (Words.nb (len m c 2) + 0))) = _ by rw [Nat.add_zero, ← Nat.add_assoc]; rfl)

/-! ## The tables -/

def tbl : pre0.Contents (Elt F) := fun j => V m (0 : Dev nD) (pre0.ref j)
theorem V_pre (c : Dev nD) (j : Fin 2) : V m c (pre0.ref j) = tbl m j := by
  obtain rfl : c = 0 := Subsingleton.elim _ _; rfl

theorem tbl_one : tbl m 1 = m (((0 : Dev nD) : Thread nD τ).loc main_arg7) := V_main_arg7 m 0

theorem tbl_at0 (hb : ∀ a, (![0] : Fin 1 → Nat) a + S1.size a ≤ S3.size a) (h1 : S1.numel = 1) :
    (tbl m).at 1 (Rect.unit (s := S3) ![0] S1.size hb) h1 = len m 0 0 := by
  unfold Pipeline.Prefetch.Contents.at
  rw [tbl_one]
  exact congrArg (m (((0 : Dev nD) : Thread nD τ).loc main_arg7) : IVec S3 32) (by funext a; fin_cases a; rfl)
theorem tbl_at1 (hb : ∀ a, (![1] : Fin 1 → Nat) a + S1.size a ≤ S3.size a) (h1 : S1.numel = 1) :
    (tbl m).at 1 (Rect.unit (s := S3) ![1] S1.size hb) h1 = len m 0 1 := by
  unfold Pipeline.Prefetch.Contents.at
  rw [tbl_one]
  exact congrArg (m (((0 : Dev nD) : Thread nD τ).loc main_arg7) : IVec S3 32) (by funext a; fin_cases a; rfl)

/-- A point's sequence and its block number in that sequence. -/
abbrev seqN (i : ℕ) : ℕ := Words.seqOf (Words.nb (len m 0 0)) (Words.nb (len m 0 1)) i
abbrev blkN (i : ℕ) : ℕ := i - Words.startOf (Words.nb (len m 0 0)) (Words.nb (len m 0 1)) i

section
variable (b : grid0.Bounds) (i : (grid0.at b).Coords)
set_option maxHeartbeats 1000000 in
theorem tr0 : cc0_transform_0 inb_S3_S1_0 numel1_S1 inb_S3_S1_1 (tbl m) b i = ![(Words.seqW (BitVec.ofNat 32 (i 0).val) (len m 0 0) (len m 0 1)).toNat, 0, 0, 0] := by
  unfold cc0_transform_0
  dsimp only
  rw [tbl_at0, tbl_at1]
  rfl
set_option maxHeartbeats 1000000 in
theorem tr1 : cc0_transform_1 inb_S3_S1_0 numel1_S1 inb_S3_S1_1 (tbl m) b i = ![(Words.seqW (BitVec.ofNat 32 (i 0).val) (len m 0 0) (len m 0 1)).toNat, 0, 0, 0] := by
  unfold cc0_transform_1
  dsimp only
  rw [tbl_at0, tbl_at1]
  rfl
set_option maxHeartbeats 1000000 in
theorem tr2 : cc0_transform_2 inb_S3_S1_0 numel1_S1 inb_S3_S1_1 (tbl m) b i = ![(Words.seqW (BitVec.ofNat 32 (i 0).val) (len m 0 0) (len m 0 1)).toNat, 0, 0, 0] := by
  unfold cc0_transform_2
  dsimp only
  rw [tbl_at0, tbl_at1]
  rfl
set_option maxHeartbeats 1000000 in
theorem tr7 : cc0_transform_7 inb_S3_S1_0 numel1_S1 inb_S3_S1_1 (tbl m) b i = ![(Words.seqW (BitVec.ofNat 32 (i 0).val) (len m 0 0) (len m 0 1)).toNat, 0, 0, 0] := by
  unfold cc0_transform_7
  dsimp only
  rw [tbl_at0, tbl_at1]
  rfl
set_option maxHeartbeats 1000000 in
theorem tr3 : cc0_transform_3 inb_S3_S1_0 numel1_S1 inb_S3_S1_1 (tbl m) b i = ![(Words.seqW (BitVec.ofNat 32 (i 0).val) (len m 0 0) (len m 0 1)).toNat, 0, 0, (Words.blkW (BitVec.ofNat 32 (i 0).val) (len m 0 0) (len m 0 1)).toNat] := by
  unfold cc0_transform_3
  dsimp only
  rw [tbl_at0, tbl_at1]
  rfl
set_option maxHeartbeats 1000000 in
theorem tr4 : cc0_transform_4 inb_S3_S1_0 numel1_S1 inb_S3_S1_1 (tbl m) b i = ![(Words.seqW (BitVec.ofNat 32 (i 0).val) (len m 0 0) (len m 0 1)).toNat, 0, 0, (Words.blkW (BitVec.ofNat 32 (i 0).val) (len m 0 0) (len m 0 1)).toNat] := by
  unfold cc0_transform_4
  dsimp only
  rw [tbl_at0, tbl_at1]
  rfl
set_option maxHeartbeats 1000000 in
theorem tr5 : cc0_transform_5 inb_S3_S1_0 numel1_S1 inb_S3_S1_1 (tbl m) b i = ![(Words.seqW (BitVec.ofNat 32 (i 0).val) (len m 0 0) (len m 0 1)).toNat, 0, (Words.blkW (BitVec.ofNat 32 (i 0).val) (len m 0 0) (len m 0 1)).toNat] := by
  unfold cc0_transform_5
  dsimp only
  rw [tbl_at0, tbl_at1]
  rfl
set_option maxHeartbeats 1000000 in
theorem tr6 : cc0_transform_6 inb_S3_S1_0 numel1_S1 inb_S3_S1_1 (tbl m) b i = ![(Words.seqW (BitVec.ofNat 32 (i 0).val) (len m 0 0) (len m 0 1)).toNat, 0, (Words.blkW (BitVec.ofNat 32 (i 0).val) (len m 0 0) (len m 0 1)).toNat] := by
  unfold cc0_transform_6
  dsimp only
  rw [tbl_at0, tbl_at1]
  rfl
end

include hfit in
theorem npts_le (c : Dev nD) : npts m c ≤ 96 := by
  have h0 := Words.nb_le (hfit c 0); have h1 := Words.nb_le (hfit c 1); have h2 := Words.nb_le (hfit c 2)
  unfold npts; omega

include hfit in
theorem dynb_eq (a : Fin 1) : dynb0 (tbl m) a = npts m 0 := by
  have h := npts_le m hfit 0
  obtain rfl : a = 0 := Subsingleton.elim _ _
  have e : dynb0 (tbl m) 0 = (BitVec.ofNat 32 (npts m 0)).toNat :=
    congrArg BitVec.toNat (V_main_v17 m hfit 0 _)
  rw [e, BitVec.toNat_ofNat]
  omega

include hfit in
theorem coord_lt (i : (grid0.at (dynb0 (tbl m))).Coords) : (i 0).val < npts m 0 := by
  have h := (i 0).isLt
  rw [← dynb_eq m hfit 0]
  exact h

include hfit in
theorem seq_toNat {i : ℕ} (hi : i < npts m 0) : (Words.seqW (BitVec.ofNat 32 i) (len m 0 0) (len m 0 1)).toNat = seqN m i := by
  have h := npts_le m hfit 0
  have hs := Words.seqOf_lt (Words.nb (len m 0 0)) (Words.nb (len m 0 1)) i
  rw [Words.seqW_eq (hfit 0 0) (hfit 0 1) (by omega), BitVec.toNat_ofNat]
  unfold seqN
  omega
include hfit in
theorem blk_toNat {i : ℕ} (hi : i < npts m 0) : (Words.blkW (BitVec.ofNat 32 i) (len m 0 0) (len m 0 1)).toNat = blkN m i := by
  have h := npts_le m hfit 0
  rw [Words.blkW_eq (hfit 0 0) (hfit 0 1) (by omega), BitVec.toNat_ofNat]
  unfold blkN
  omega

theorem seqN_lt (i : ℕ) : seqN m i < 3 := Words.seqOf_lt _ _ i

/-- A point's block number is below its sequence's block count. -/
theorem blkN_lt {i : ℕ} (hi : i < npts m 0) : blkN m i < Words.nb (len m 0 ⟨seqN m i, seqN_lt m i⟩) := by
  unfold npts at hi
  have key : ∀ k (hk : k < 3), seqN m i = k → i - Words.startOf (Words.nb (len m 0 0)) (Words.nb (len m 0 1)) i < Words.nb (len m 0 ⟨k, hk⟩) := by
    intro k hk he
    unfold seqN Words.seqOf at he
    unfold Words.startOf
    interval_cases k
    all_goals (split_ifs at he ⊢ <;> first | omega | skip)
    · show i - 0 < Words.nb (len m 0 0); omega
    · show _ < Words.nb (len m 0 1); omega
    · show _ < Words.nb (len m 0 2); omega
  exact key _ _ rfl

include hfit in
theorem ok : ok0 (F := F) (tbl m) := by
  have hN := npts_le m hfit 0
  refine ⟨?_, fun i => ?_, fun i => ?_, fun i => ?_, fun i => ?_, fun i => ?_, fun i => ?_, fun i => ?_, fun i => ?_⟩
  · show (grid0.at (dynb0 (tbl m))).N + 2 < 2 ^ 31
    have : (grid0.at (dynb0 (tbl m))).N = dynb0 (tbl m) 0 := by
      simp [Pipeline.Grid.N, Pipeline.Grid.boundAt]
    rw [this, dynb_eq m hfit]; omega
  all_goals
    have hi := coord_lt m hfit i
    have hs := seqN_lt m (i 0).val
    have hb := blkN_lt m hi
    have hb' := Words.nb_le (hfit 0 ⟨seqN m (i 0).val, hs⟩)
    simp only [tr0, tr1, tr2, tr3, tr4, tr5, tr6, tr7, seq_toNat m hfit hi, blk_toNat m hfit hi]
  case refine_7 => exact ⟨fun a => by fin_cases a <;> simp <;> omega, .inl rfl⟩
  case refine_8 => exact ⟨fun a => by fin_cases a <;> simp <;> omega, .inl rfl⟩
  all_goals exact ⟨fun a => by fin_cases a <;> simp <;> omega, .inr (.inr ⟨by decide, rfl, rfl, rfl⟩)⟩

end Cert.Kernel.Body
-- ==== Proof.BitsPoints.lean ====
/-
  What the kernel asks at a grid point, in numbers: the sequence's length word, whether the block is its sequence's first or last, and that
  the next point of an unfinished sequence belongs to the same sequence.
-/
module

public import proofs.«01_k».proof.Proof.BitsTables

@[expose] public section
set_option maxRecDepth 16384
noncomputable section
namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]
variable (m : (ℓ : Loc nD τ sig) → Buf (Elt F) ℓ)
variable (hfit : ∀ c j, (len m c j).toInt ≤ 65536)

theorem off1_eq (x v0 v1 : BitVec 32) : k0_off1 x v0 v1 = ![(Words.seqW x v0 v1).toNat] := rfl

/-- The length word of the point's sequence. -/
def lenAt (i : ℕ) : BitVec 32 := len m 0 ⟨seqN m i, seqN_lt m i⟩

/-- A word of the table of lengths as the body reads it. -/
theorem rd_eq (c : Dev nD) (off : Fin S3.rank → ℕ) (h : ∀ a, off a + S1.size a ≤ S3.size a) (k : Fin 3) (hk : off = ![k.val]) :
    rd (F := F) (c := c) (Memref.whole main_arg7) (tbl m 1) off h = len m 0 k := by
  subst hk
  unfold rd
  rw [tbl_one]
  exact congrArg (m (((0 : Dev nD) : Thread nD τ).loc main_arg7) : IVec S3 32) (by funext a; fin_cases a; rfl)

/-- A word of the table of lengths as the grid's idle table reads it. -/
theorem atD_eq (off : Fin 1 → ℕ) (k : Fin 3) (hk : off = ![k.val]) : (tbl m).atD 1 off = len m 0 k := by
  subst hk
  unfold Pipeline.Prefetch.Contents.atD
  refine (dif_pos (show ∀ a : Fin 1, (![k.val] : Fin 1 → ℕ) a + 1 ≤ (![3] : Fin 1 → ℕ) a from fun a => ?_)).trans ?_
  · obtain rfl : a = 0 := Subsingleton.elim _ _
    exact k.isLt
  · rw [tbl_one]
    exact congrArg (m (((0 : Dev nD) : Thread nD τ).loc main_arg7) : IVec S3 32) (by funext a; fin_cases a; rfl)

section
variable {i : ℕ} (hi : i < npts m 0)
include hfit hi

theorem off1_at : k0_off1 (BitVec.ofNat 32 i) (len m 0 0) (len m 0 1) = ![seqN m i] := by
  rw [off1_eq, seq_toNat m hfit hi]

theorem chk : k0_chk1 (BitVec.ofNat 32 i) (len m 0 0) (len m 0 1) := by
  intro a
  rw [off1_at m hfit hi]
  obtain rfl : a = 0 := Subsingleton.elim _ _
  have := seqN_lt m i
  show seqN m i + 1 ≤ 3
  omega

theorem isStart_iff : isStart (BitVec.ofNat 32 i) (len m 0 0) (len m 0 1) ↔ blkN m i = 0 := by
  have hN := npts_le m hfit 0
  have hb : blkN m i ≤ i := Nat.sub_le _ _
  unfold isStart
  rw [Words.blkW_eq (hfit 0 0) (hfit 0 1) (by omega), show i - Words.startOf (Words.nb (len m 0 0)) (Words.nb (len m 0 1)) i = blkN m i from rfl]
  have hz : (BitVec.ofNat 32 (blkN m i) = 0#32) ↔ blkN m i = 0 := by
    constructor
    · intro h
      have := congrArg BitVec.toNat h
      rw [BitVec.toNat_ofNat] at this
      simp at this
      omega
    · intro h; rw [h]
  rw [← hz]
  by_cases h : BitVec.ofNat 32 (blkN m i) = 0#32
  · rw [h]; decide
  · have : Scalar.cmpi .eq (BitVec.ofNat 32 (blkN m i)) 0#32 = 0#1 := by
      show BitVec.ofBool (BitVec.ofNat 32 (blkN m i) == 0#32) = _
      rw [beq_false_of_ne h]; rfl
    rw [this]
    simp only [h, iff_false]; decide

theorem cond2_iff : k0_cond2 (BitVec.ofNat 32 i) (len m 0 0) (len m 0 1) (lenAt m i) = 1#1 ↔ blkN m i + 1 = Words.nb (lenAt m i) := by
  have hN := npts_le m hfit 0
  have hb : blkN m i ≤ i := Nat.sub_le _ _
  have hlen : (lenAt m i).toInt ≤ 65536 := hfit 0 _
  have hnb := Words.nb_le hlen
  have hnb1 := Words.nb_pos (lenAt m i)
  have e : k0_cond2 (BitVec.ofNat 32 i) (len m 0 0) (len m 0 1) (lenAt m i)
      = Scalar.cmpi .ne (Scalar.extui (Scalar.cmpi .eq (Words.blkW (BitVec.ofNat 32 i) (len m 0 0) (len m 0 1)) (Scalar.subi (Words.nbW (lenAt m i)) 1#32))) 0#32 := rfl
  rw [e, Words.blkW_eq (hfit 0 0) (hfit 0 1) (by omega), show i - Words.startOf (Words.nb (len m 0 0)) (Words.nb (len m 0 1)) i = blkN m i from rfl,
    Words.nbW_eq hlen]
  have hs : Scalar.subi (BitVec.ofNat 32 (Words.nb (lenAt m i))) 1#32 = BitVec.ofNat 32 (Words.nb (lenAt m i) - 1) := by
    show BitVec.ofNat 32 (Words.nb (lenAt m i)) - 1#32 = _
    apply BitVec.eq_of_toNat_eq
    rw [BitVec.toNat_sub, BitVec.toNat_ofNat, BitVec.toNat_ofNat, BitVec.toNat_ofNat]
    omega
  rw [hs]
  have hz : (BitVec.ofNat 32 (blkN m i) = BitVec.ofNat 32 (Words.nb (lenAt m i) - 1)) ↔ blkN m i + 1 = Words.nb (lenAt m i) := by
    constructor
    · intro h
      have := congrArg BitVec.toNat h
      rw [BitVec.toNat_ofNat, BitVec.toNat_ofNat] at this
      omega
    · intro h; rw [← h]; rfl
  rw [← hz]
  by_cases h : BitVec.ofNat 32 (blkN m i) = BitVec.ofNat 32 (Words.nb (lenAt m i) - 1)
  · rw [h]
    have : Scalar.cmpi .eq (BitVec.ofNat 32 (Words.nb (lenAt m i) - 1)) (BitVec.ofNat 32 (Words.nb (lenAt m i) - 1)) = 1#1 := by
      show BitVec.ofBool _ = _
      simp
    rw [this]
    exact ⟨fun _ => rfl, fun _ => by decide⟩
  · have : Scalar.cmpi .eq (BitVec.ofNat 32 (blkN m i)) (BitVec.ofNat 32 (Words.nb (lenAt m i) - 1)) = 0#1 := by
      show BitVec.ofBool (BitVec.ofNat 32 (blkN m i) == BitVec.ofNat 32 (Words.nb (lenAt m i) - 1)) = _
      rw [beq_false_of_ne h]; rfl
    rw [this]
    simp only [h, iff_false]; decide
end

/-- The first point starts a sequence. -/
theorem blkN_zero : blkN m 0 = 0 := Nat.zero_sub _

/-- The point after a block that is not its sequence's last. -/
theorem next_point {i : ℕ} (hi : i < npts m 0) (h : blkN m i + 1 ≠ Words.nb (lenAt m i)) :
    i + 1 < npts m 0 ∧ seqN m (i + 1) = seqN m i ∧ blkN m (i + 1) = blkN m i + 1 := by
  have hb := blkN_lt m hi
  have hp0 := Words.nb_pos (len m 0 0); have hp1 := Words.nb_pos (len m 0 1); have hp2 := Words.nb_pos (len m 0 2)
  have key : ∀ k (hk : k < 3), seqN m i = k → blkN m i + 1 < Words.nb (len m 0 ⟨k, hk⟩) →
      i + 1 < npts m 0 ∧ seqN m (i + 1) = k ∧ blkN m (i + 1) = blkN m i + 1 := by
    intro k hk he hlt
    unfold npts at hi ⊢
    unfold seqN Words.seqOf at he ⊢
    unfold blkN Words.startOf at hlt ⊢
    interval_cases k
    · change _ < Words.nb (len m 0 0) at hlt
      split_ifs at he hlt ⊢ <;> omega
    · change _ < Words.nb (len m 0 1) at hlt
      split_ifs at he hlt ⊢ <;> omega
    · change _ < Words.nb (len m 0 2) at hlt
      split_ifs at he hlt ⊢ <;> omega
  exact key _ (seqN_lt m i) rfl (lt_of_le_of_ne hb h)

end Cert.Kernel.Body
-- ==== Proof.BitsLaunch.lean ====
/-
  The kernel's run.  The grid carries the running state from point to point in the scratch arrays; `stN` is the state before each point.  From it
  follow the proof data of the pipeline, the body's obligation at every point, and the run: the launch ends, every counter at zero, the argument
  arrays as they were.
-/
module

public import proofs.«01_k».proof.Proof.BitsPoints
public import Idealize.ShloMosaic.Lib.Tactic

@[expose] public section
set_option maxRecDepth 16384
noncomputable section
namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## @main around the grid -/

theorem pfx_fresh : (pfx : List (List (HloOp τ sig (Elt F)))).Forall fun ops => ops.Forall fun op => op.fresh = ∅ := by
  simp only [List.Forall]; repeat' constructor
theorem pfx_sub : (pfx : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub⟩

abbrev hostOps1_W : List (Ref sig .tc) := [main_v19, main_v20, main_v21, main_v22]
theorem hostOps1_writes : (hostOps1 : List (HloOp τ sig (Elt F))).Forall fun op => op.writes ⊆ (hostOps1_W.map (Proc.devRef (τ := τ) .tc)).toFinset :=
  StableHlo.forall_writes_sub_of_map rfl
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainPK (Ix := Unit) (Name := ℕ) (U := UR sig nD τ) (Lvl := ℕ) (pcfgs (F := F)) 0 defs₀ 𝒱₀ m (main (F := F)) (V m)
      (fun _ => Pipeline.chain ([hostOps1].map StableHlo.seq)) :=
  Pipeline.hmainP_around pcfgs 0 defs₀ 𝒱₀ m main pfx [hostOps1] pfx_sub pfx_fresh main_chain

theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) fun k hk => ?_
  have hb : (hostOps1 : List (HloOp τ sig (Elt F))).Forall fun op =>
      op.bufs ⊆ (([main_v18, main_v19, main_v20, main_v21, main_v22] : List (Ref sig .tc)).map (Proc.devRef (τ := τ) .tc)).toFinset := by
    simp only [List.Forall]
    refine ⟨?_, ?_, ?_, ?_⟩
    all_goals
      intro r hr
      rcases Finset.mem_insert.1 hr with h | h
      · rw [h]; simp
      · rw [Finset.mem_singleton.1 h]; simp
  obtain ⟨y, hy, he⟩ := List.mem_map.mp (List.mem_toFinset.mp ((List.forall_iff_forall_mem.mp hb) op hop hk))
  exact (by decide +kernel : ∀ k, pre0.ref k ∉ ([main_v18, main_v19, main_v20, main_v21, main_v22] : List (Ref sig .tc))) k (Proc.devRef_injective _ he ▸ hy)
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  subst hops
  intro w hb
  obtain ⟨y, hy, he⟩ := List.mem_map.mp (List.mem_toFinset.mp ((List.forall_iff_forall_mem.mp hostOps1_writes) op hop hb))
  exact (by decide +kernel : ∀ w, Pipeline.arrRef spec0 w ∉ hostOps1_W) w (Proc.devRef_injective _ he ▸ hy)

/-! ## The state from point to point -/

variable (hfit : ∀ c j, (len m c j).toInt ≤ 65536)

abbrev adm : (pcfg0 (F := F)).Adm := ⟨tbl m, ok m hfit⟩
abbrev cfgM : Cfg sig Λ₀ := cfg0 (adm m hfit)

theorem cfg_N : (cfgM m hfit).N = npts m 0 := by
  show (grid0.at (dynb0 (tbl m))).N = _
  have : (grid0.at (dynb0 (tbl m))).N = dynb0 (tbl m) 0 := by
    simp [Pipeline.Grid.N, Pipeline.Grid.boundAt]
  rw [this, dynb_eq m hfit]

theorem pt_lt (t : Fin (cfgM m hfit).N) : t.val < npts m 0 := lt_of_lt_of_eq t.isLt (cfg_N m hfit)

theorem coords_val (t : Fin (cfgM m hfit).N) : ((cfgM m hfit).grid.coords t 0).val = t.val := by
  have h := Pipeline.Grid.coords_val (G := grid0.at (dynb0 (tbl m))) t 0 (S := 1) (B := npts m 0) rfl
    (show dynb0 (tbl m) 0 = _ from dynb_eq m hfit 0)
  have := pt_lt m hfit t
  rw [Nat.div_one, Nat.mod_eq_of_lt this] at h
  exact h

/-- Window `w`'s block at point `t`. -/
def iblk (c : Dev nD) (w : Fin (cfgM m hfit).W) (t : Fin (cfgM m hfit).N) :
    (((cfgM m hfit).win w).xblock ((cfgM m hfit).grid.coords t)).Idx → Elt F ((cfgM m hfit).win w).elt :=
  (((cfgM m hfit).win w).blk t).view.read (Elt F) (V m c (Pipeline.arrRef spec0 w))

/-- The state after point `t` from the state before it. -/
def nextAt (c : Dev nD) (t : Fin (cfgM m hfit).N) (s : St F) : St F :=
  nextSt (BitVec.ofNat 32 t.val) (len m 0 0) (len m 0 1) (lenAt m t.val) (iblk m hfit c 0 t) (iblk m hfit c 1 t) (iblk m hfit c 2 t)
    (iblk m hfit c 3 t) (iblk m hfit c 4 t) (iblk m hfit c 5 t) (iblk m hfit c 6 t) s

/-- The state before point `n`. -/
def stN (c : Dev nD) : ℕ → St F
  | 0 => ⟨View.canon [], View.canon [], View.canon []⟩
  | n + 1 => if h : n < (cfgM m hfit).N then nextAt m hfit c ⟨n, h⟩ (stN c n) else stN c n

theorem stN_succ (c : Dev nD) (t : Fin (cfgM m hfit).N) : stN m hfit c (t.val + 1) = nextAt m hfit c t (stN m hfit c t.val) := by
  rw [stN, dif_pos t.isLt]

/-- The first point does not read the state it finds. -/
theorem nextAt_zero (c : Dev nD) (t : Fin (cfgM m hfit).N) (h : t.val = 0) (s s' : St F) : nextAt m hfit c t s = nextAt m hfit c t s' := by
  unfold nextAt nextSt
  have hC := (isStart_iff m hfit (pt_lt m hfit t)).2 (by rw [h]; exact blkN_zero m)
  rw [if_pos hC, if_pos hC]

/-! ## The proof data -/

abbrev sc0 : Memref sig .tc .vmem S8x24x128 .f32 := Memref.whole cc0_scratch0
abbrev sc1 : Memref sig .tc .vmem S8x24x128 .f32 := Memref.whole cc0_scratch1
abbrev sc2 : Memref sig .tc .vmem S8x24x160 .f32 := Memref.whole cc0_scratch2
abbrev tb0 : Memref sig .tc .smem S_ .i32 := Memref.whole main_v17
abbrev tb1 : Memref sig .tc .smem S3 .i32 := Memref.whole main_arg7

theorem PhiT_eq (c : Dev nD) : (Pipeline.ΦT pre0 (tbl m) c : sProp 𝕄)
    = iprop((tb0.view.loc (c : Thread nD τ) ↦{fullShare.right} (tbl m 0)) ∗ (tb1.view.loc (c : Thread nD τ) ↦{fullShare.right} (tbl m 1))) := by
  unfold Pipeline.ΦT Pipeline.prefHeld
  rw [show (Finset.univ : Finset (Fin 2)) = insert (0 : Fin 2) {(1 : Fin 2)} from by decide, bigSep_insert (by decide), bigSep_singleton]
  rfl

/-- Between points: the scratch arrays at the state (at anything before the first point), the generator's register, the tables. -/
def inv (c : Dev nD) (n : ℕ) : sProp 𝕄 :=
  iprop(∃ s, ⌜n ≠ 0 → s = stN m hfit c n⌝ ∗ stOwns c sc0 sc1 sc2 s ∗ (∃ r, prngReg c r) ∗ Pipeline.ΦT pre0 (tbl m) c)

def dats (_ : Fin 1) (c : Dev nD) : Dat τ (Elt F) Unit ℕ (UR sig nD τ) ℕ (cfgM m hfit) c where
  A w := V m c (Pipeline.arrRef spec0 w)
  after w t := match w with
    | ⟨0, _⟩ => iblk m hfit c 0 t
    | ⟨1, _⟩ => iblk m hfit c 1 t
    | ⟨2, _⟩ => iblk m hfit c 2 t
    | ⟨3, _⟩ => iblk m hfit c 3 t
    | ⟨4, _⟩ => iblk m hfit c 4 t
    | ⟨5, _⟩ => iblk m hfit c 5 t
    | ⟨6, _⟩ => iblk m hfit c 6 t
    | ⟨7, _⟩ => outV (stN m hfit c (t.val + 1))
  Φ t := inv m hfit c t.val
  q _ := fullShare
  owed _ := 0

theorem A_eq (c : Dev nD) (w : Fin (cfgM m hfit).W) : (dats m hfit 0 c).A w = V m c (Pipeline.arrRef spec0 w) := by
  dsimp only [dats]

variable (c : Dev nD) (t : Fin (cfgM m hfit).N)
theorem after0 : (dats m hfit 0 c).after 0 t = iblk m hfit c 0 t := by dsimp only [dats]; rfl
theorem after1 : (dats m hfit 0 c).after 1 t = iblk m hfit c 1 t := by dsimp only [dats]; rfl
theorem after2 : (dats m hfit 0 c).after 2 t = iblk m hfit c 2 t := by dsimp only [dats]; rfl
theorem after3 : (dats m hfit 0 c).after 3 t = iblk m hfit c 3 t := by dsimp only [dats]; rfl
theorem after4 : (dats m hfit 0 c).after 4 t = iblk m hfit c 4 t := by dsimp only [dats]; rfl
theorem after5 : (dats m hfit 0 c).after 5 t = iblk m hfit c 5 t := by dsimp only [dats]; rfl
theorem after6 : (dats m hfit 0 c).after 6 t = iblk m hfit c 6 t := by dsimp only [dats]; rfl
theorem after7 : (dats m hfit 0 c).after (7 : Fin 8) t = outV (stN m hfit c (t.val + 1)) := by dsimp only [dats]
theorem before0 (d) : (dats m hfit 0 c).before 0 t d = iblk m hfit c 0 t :=
  ((dats m hfit 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (d) : (dats m hfit 0 c).before 1 t d = iblk m hfit c 1 t :=
  ((dats m hfit 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (d) : (dats m hfit 0 c).before 2 t d = iblk m hfit c 2 t :=
  ((dats m hfit 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (d) : (dats m hfit 0 c).before 3 t d = iblk m hfit c 3 t :=
  ((dats m hfit 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (d) : (dats m hfit 0 c).before 4 t d = iblk m hfit c 4 t :=
  ((dats m hfit 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (d) : (dats m hfit 0 c).before 5 t d = iblk m hfit c 5 t :=
  ((dats m hfit 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (d) : (dats m hfit 0 c).before 6 t d = iblk m hfit c 6 t :=
  ((dats m hfit 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-! ## The body at a point -/

/-- The windows' current staging arrays. -/
def stg0 : Memref sig .tc .vmem S1x8x24x160 .bf16 := spec0_0.stage ((cfgM m hfit).slots t 0)
def stg1 : Memref sig .tc .vmem S1x8x128x160 .bf16 := spec0_1.stage ((cfgM m hfit).slots t 1)
def stg2 : Memref sig .tc .vmem S1x8x128x160 .bf16 := spec0_2.stage ((cfgM m hfit).slots t 2)
def stg3 : Memref sig .tc .vmem S1x8x160x2048 .fp8e4m3 := spec0_3.stage ((cfgM m hfit).slots t 3)
def stg4 : Memref sig .tc .vmem S1x8x160x2048 .fp8e4m3 := spec0_4.stage ((cfgM m hfit).slots t 4)
def stg5 : Memref sig .tc .vmem S1x8x2048 .f32 := spec0_5.stage ((cfgM m hfit).slots t 5)
def stg6 : Memref sig .tc .vmem S1x8x2048 .f32 := spec0_6.stage ((cfgM m hfit).slots t 6)
def stg7 : Memref sig .tc .vmem S1x8x24x160 .bf16 := spec0_7.stage ((cfgM m hfit).slots t 7)
theorem stg0_whole : (stg0 m hfit t).IsWhole := hstage0_0 (((cfgM m hfit).slots t 0 : Fin spec0_0.nbuf).cast nbuf0_0)
theorem stg1_whole : (stg1 m hfit t).IsWhole := hstage0_1 (((cfgM m hfit).slots t 1 : Fin spec0_1.nbuf).cast nbuf0_1)
theorem stg2_whole : (stg2 m hfit t).IsWhole := hstage0_2 (((cfgM m hfit).slots t 2 : Fin spec0_2.nbuf).cast nbuf0_2)
theorem stg3_whole : (stg3 m hfit t).IsWhole := hstage0_3 (((cfgM m hfit).slots t 3 : Fin spec0_3.nbuf).cast nbuf0_3)
theorem stg4_whole : (stg4 m hfit t).IsWhole := hstage0_4 (((cfgM m hfit).slots t 4 : Fin spec0_4.nbuf).cast nbuf0_4)
theorem stg5_whole : (stg5 m hfit t).IsWhole := hstage0_5 (((cfgM m hfit).slots t 5 : Fin spec0_5.nbuf).cast nbuf0_5)
theorem stg6_whole : (stg6 m hfit t).IsWhole := hstage0_6 (((cfgM m hfit).slots t 6 : Fin spec0_6.nbuf).cast nbuf0_6)
theorem stg7_whole : (stg7 m hfit t).IsWhole := hstage0_7 (((cfgM m hfit).slots t 7 : Fin spec0_7.nbuf).cast nbuf0_7)

def bodyAt : Prog (TpuEff nD τ sig (Elt F) Λ₀ .tc) PUnit :=
  cc0_gqa_decode (dynb0 (tbl m)) (Pipeline.Grid.Coords.static grid0 ((cfgM m hfit).grid.coords t)) (BitVec.ofNat 32 ((cfgM m hfit).grid.coords t 0).val)
    (Memref.whole main_arg7) (Memref.isWhole_whole _) (stg0 m hfit t) (stg0_whole m hfit t) (stg1 m hfit t) (stg1_whole m hfit t) (stg2 m hfit t) (stg2_whole m hfit t) (stg3 m hfit t) (stg3_whole m hfit t) (stg4 m hfit t) (stg4_whole m hfit t) (stg5 m hfit t) (stg5_whole m hfit t) (stg6 m hfit t) (stg6_whole m hfit t) (stg7 m hfit t) (stg7_whole m hfit t)
    (Memref.whole cc0_scratch0) (Memref.isWhole_whole _) (Memref.whole cc0_scratch1) (Memref.isWhole_whole _) (Memref.whole cc0_scratch2) (Memref.isWhole_whole _)

theorem defs₀_row : defs₀ (F := F) .tc (cfgM m hfit).body ((cfgM m hfit).bodyArgs t ((cfgM m hfit).slots t)) = bodyAt m hfit t := by
  unfold defs₀; rw [Defs.onTc_tc]; rfl

/-- What a point starts from. -/
def bodyPre : sProp 𝕄 :=
  iprop((dats m hfit 0 c).Φ t.castSucc ∗ (dats m hfit 0 c).owesAt () t.castSucc
    ∗ (∃ d, owns (c : Thread nD τ) (stg0 m hfit t) fullShare ((dats m hfit 0 c).before 0 t d))
    ∗ (∃ d, owns (c : Thread nD τ) (stg1 m hfit t) fullShare ((dats m hfit 0 c).before 1 t d))
    ∗ (∃ d, owns (c : Thread nD τ) (stg2 m hfit t) fullShare ((dats m hfit 0 c).before 2 t d))
    ∗ (∃ d, owns (c : Thread nD τ) (stg3 m hfit t) fullShare ((dats m hfit 0 c).before 3 t d))
    ∗ (∃ d, owns (c : Thread nD τ) (stg4 m hfit t) fullShare ((dats m hfit 0 c).before 4 t d))
    ∗ (∃ d, owns (c : Thread nD τ) (stg5 m hfit t) fullShare ((dats m hfit 0 c).before 5 t d))
    ∗ (∃ d, owns (c : Thread nD τ) (stg6 m hfit t) fullShare ((dats m hfit 0 c).before 6 t d))
    ∗ (∃ d, owns (c : Thread nD τ) (stg7 m hfit t) fullShare ((dats m hfit 0 c).before (7 : Fin 8) t d)))

/-- What the body leaves in a window's array. -/
def left (w : Fin 8) : sProp 𝕄 := (dats m hfit 0 c).leavesExact w t

theorem left_eq (w : Fin 8) : left m hfit c t w = (dats m hfit 0 c).leavesExact w t := rfl

/-- And what it leaves. -/
def bodyPost : sProp 𝕄 :=
  iprop((dats m hfit 0 c).Φ t.succ ∗ (dats m hfit 0 c).owesAt () t.succ
    ∗ owns (c : Thread nD τ) (stg0 m hfit t) fullShare ((dats m hfit 0 c).after 0 t)
    ∗ owns (c : Thread nD τ) (stg1 m hfit t) fullShare ((dats m hfit 0 c).after 1 t)
    ∗ owns (c : Thread nD τ) (stg2 m hfit t) fullShare ((dats m hfit 0 c).after 2 t)
    ∗ owns (c : Thread nD τ) (stg3 m hfit t) fullShare ((dats m hfit 0 c).after 3 t)
    ∗ owns (c : Thread nD τ) (stg4 m hfit t) fullShare ((dats m hfit 0 c).after 4 t)
    ∗ owns (c : Thread nD τ) (stg5 m hfit t) fullShare ((dats m hfit 0 c).after 5 t)
    ∗ owns (c : Thread nD τ) (stg6 m hfit t) fullShare ((dats m hfit 0 c).after 6 t)
    ∗ left m hfit c t 7)

/-- The output is written at a sequence's last block, -/
theorem idle_last (h : blkN m t.val + 1 = Words.nb (lenAt m t.val)) : (cfgM m hfit).idle (7 : Fin 8) ((cfgM m hfit).grid.coords t) = false := by
  have hi := pt_lt m hfit t
  show (!(k0_cond2 _ _ _ _ == 1#1)) = false
  rw [coords_val, atD_eq m ![0] 0 rfl, atD_eq m ![1] 1 rfl, atD_eq m _ ⟨seqN m t.val, seqN_lt m _⟩ (off1_at m hfit hi),
    show len m 0 ⟨seqN m t.val, seqN_lt m _⟩ = lenAt m t.val from rfl]
  rw [(cond2_iff m hfit hi).2 h]; rfl
/-- and at no other, -/
theorem idle_other (h : ¬ blkN m t.val + 1 = Words.nb (lenAt m t.val)) : (cfgM m hfit).idle (7 : Fin 8) ((cfgM m hfit).grid.coords t) = true := by
  have hi := pt_lt m hfit t
  show (!(k0_cond2 _ _ _ _ == 1#1)) = true
  rw [coords_val, atD_eq m ![0] 0 rfl, atD_eq m ![1] 1 rfl, atD_eq m _ ⟨seqN m t.val, seqN_lt m _⟩ (off1_at m hfit hi),
    show len m 0 ⟨seqN m t.val, seqN_lt m _⟩ = lenAt m t.val from rfl]
  rw [beq_false_of_ne (fun e => h ((cond2_iff m hfit hi).1 e))]; rfl

theorem index7 : ((cfgM m hfit).win (7 : Fin 8)).index t = ![seqN m t.val, 0, 0, 0] := by
  show cc0_transform_7 inb_S3_S1_0 numel1_S1 inb_S3_S1_1 (tbl m) _ _ = _
  rw [tr7, coords_val, seq_toNat m hfit (pt_lt m hfit t)]

/-- where its block is not sent back either. -/
theorem flush_other (h : ¬ blkN m t.val + 1 = Words.nb (lenAt m t.val)) : ((cfgM m hfit).win (7 : Fin 8)).flush t = false := by
  obtain ⟨h1, h2, -⟩ := next_point m (pt_lt m hfit t) h
  have hN := cfg_N m hfit
  rw [← Bool.not_eq_true, Pipeline.Window.flush_out _ rfl]
  rintro (h3 | ⟨h3, h4⟩)
  · have : t.val + 1 = (cfgM m hfit).N := h3
    omega
  · apply h4
    rw [index7, index7]
    exact congrArg (![·, 0, 0, 0]) h2

theorem leaves_last (h : blkN m t.val + 1 = Words.nb (lenAt m t.val)) :
    left m hfit c t 7 = owns (c : Thread nD τ) (stg7 m hfit t) fullShare (outV (stN m hfit c (t.val + 1))) := by
  unfold left Dat.leavesExact
  rw [idle_last m hfit t h]
  exact congrArg (fun X => (owns (c : Thread nD τ) (stg7 m hfit t) fullShare X : sProp 𝕄)) (after7 m hfit c t)
theorem leaves_other (h : ¬ blkN m t.val + 1 = Words.nb (lenAt m t.val)) :
    left m hfit c t 7 = iprop(∃ d, owns (c : Thread nD τ) (stg7 m hfit t) fullShare ((dats m hfit 0 c).before (7 : Fin 8) t d)) :=
  (left_eq m hfit c t 7).trans <| Dat.leavesExact_idle _ _ _ (idle_other m hfit t h) (flush_other m hfit t h)

end Cert.Kernel.Body
-- ==== Proof.BitsPoint.lean ====
/-
  The body at one point of the grid, the windows' arrays and what they hold as variables.
-/
module

public import proofs.«01_k».proof.Proof.BitsLaunch
public import Idealize.ShloMosaic.Lib.Tactic

@[expose] public section
set_option maxRecDepth 16384
noncomputable section
namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## One point, its parts as variables -/

section
variable (c : Dev nD) (b : grid0.Bounds) (i : grid0.Static) (arg0 : BitVec 32) (arg1 : Memref sig .tc .smem S3 .i32) (harg1 : arg1.IsWhole)
  (arg2 : Memref sig .tc .vmem S1x8x24x160 .bf16) (harg2 : arg2.IsWhole)
  (arg3 : Memref sig .tc .vmem S1x8x128x160 .bf16) (harg3 : arg3.IsWhole)
  (arg4 : Memref sig .tc .vmem S1x8x128x160 .bf16) (harg4 : arg4.IsWhole)
  (arg5 : Memref sig .tc .vmem S1x8x160x2048 .fp8e4m3) (harg5 : arg5.IsWhole)
  (arg6 : Memref sig .tc .vmem S1x8x160x2048 .fp8e4m3) (harg6 : arg6.IsWhole)
  (arg7 : Memref sig .tc .vmem S1x8x2048 .f32) (harg7 : arg7.IsWhole)
  (arg8 : Memref sig .tc .vmem S1x8x2048 .f32) (harg8 : arg8.IsWhole)
  (arg9 : Memref sig .tc .vmem S1x8x24x160 .bf16) (harg9 : arg9.IsWhole)
  (arg10 : Memref sig .tc .vmem S8x24x128 .f32) (harg10 : arg10.IsWhole) (arg11 : Memref sig .tc .vmem S8x24x128 .f32) (harg11 : arg11.IsWhole)
  (arg12 : Memref sig .tc .vmem S8x24x160 .f32) (harg12 : arg12.IsWhole) (f1 : Buf (Elt F) (arg1.view.loc (c : Thread nD τ)))
  (X2 A2 : Vec F S1x8x24x160 .bf16) {D2 : Type} (B2 : D2 → Vec F S1x8x24x160 .bf16)
  (X3 A3 : Vec F S1x8x128x160 .bf16) {D3 : Type} (B3 : D3 → Vec F S1x8x128x160 .bf16)
  (X4 A4 : Vec F S1x8x128x160 .bf16) {D4 : Type} (B4 : D4 → Vec F S1x8x128x160 .bf16)
  (X5 A5 : Vec F S1x8x160x2048 .fp8e4m3) {D5 : Type} (B5 : D5 → Vec F S1x8x160x2048 .fp8e4m3)
  (X6 A6 : Vec F S1x8x160x2048 .fp8e4m3) {D6 : Type} (B6 : D6 → Vec F S1x8x160x2048 .fp8e4m3)
  (X7 A7 : Vec F S1x8x2048 .f32) {D7 : Type} (B7 : D7 → Vec F S1x8x2048 .f32)
  (X8 A8 : Vec F S1x8x2048 .f32) {D8 : Type} (B8 : D8 → Vec F S1x8x2048 .f32)
  {D9 : Type} (B9 : D9 → Vec F S1x8x24x160 .bf16)

/-- The body at a point, from what the windows' arrays hold before it (`B2` … `B9`) to what they hold after it (`A2` … `A8`, `L9`), the state going
    from any allowed one to `s'`. -/
theorem point (L9 Ho HP HT : sProp 𝕄) (ok ok' : St F → Prop) (s' : St F) (v0 v1 vs : BitVec 32)
    (hchk : k0_chk1 arg0 (rd (F := F) (c := c) arg1 f1 ![0] inb_S3_S1_0) (rd (F := F) (c := c) arg1 f1 ![1] inb_S3_S1_1))
    (h0 : (rd (F := F) (c := c) arg1 f1 ![0] inb_S3_S1_0) = v0) (h1 : (rd (F := F) (c := c) arg1 f1 ![1] inb_S3_S1_1) = v1) (hs : (rd (F := F) (c := c) arg1 f1 _ hchk) = vs)
    (hB2 : ∀ d, B2 d = X2) (hA2 : A2 = X2) (hB3 : ∀ d, B3 d = X3) (hA3 : A3 = X3) (hB4 : ∀ d, B4 d = X4) (hA4 : A4 = X4) (hB5 : ∀ d, B5 d = X5) (hA5 : A5 = X5) (hB6 : ∀ d, B6 d = X6) (hA6 : A6 = X6) (hB7 : ∀ d, B7 d = X7) (hA7 : A7 = X7) (hB8 : ∀ d, B8 d = X8) (hA8 : A8 = X8)
    (hnext : ∀ s, ok s → nextSt arg0 v0 v1 vs X2 X3 X4 X5 X6 X7 X8 s = s') (hok : ok' s')
    (hout : ∀ d, owns (c : Thread nD τ) arg9 fullShare (if k0_cond2 arg0 v0 v1 vs = 1#1 then outV s' else B9 d) ⊢ L9) :
    iprop((∃ s, ⌜ok s⌝ ∗ stOwns c arg10 arg11 arg12 s ∗ HP ∗ (HT ∗ (arg1.view.loc (c : Thread nD τ) ↦{fullShare.right} f1))) ∗ Ho
      ∗ (∃ d, owns (c : Thread nD τ) arg2 fullShare (B2 d)) ∗ (∃ d, owns (c : Thread nD τ) arg3 fullShare (B3 d)) ∗ (∃ d, owns (c : Thread nD τ) arg4 fullShare (B4 d)) ∗ (∃ d, owns (c : Thread nD τ) arg5 fullShare (B5 d)) ∗ (∃ d, owns (c : Thread nD τ) arg6 fullShare (B6 d)) ∗ (∃ d, owns (c : Thread nD τ) arg7 fullShare (B7 d)) ∗ (∃ d, owns (c : Thread nD τ) arg8 fullShare (B8 d)) ∗ (∃ d, owns (c : Thread nD τ) arg9 fullShare (B9 d))) ⊢
    wp frame (wpE (defs₀ (F := F)) Variants.none c none) Set.univ (cc0_gqa_decode b i arg0 arg1 harg1 arg2 harg2 arg3 harg3 arg4 harg4 arg5 harg5 arg6 harg6 arg7 harg7 arg8 harg8 arg9 harg9 arg10 harg10 arg11 harg11 arg12 harg12)
      (fun _ => iprop((∃ s, ⌜ok' s⌝ ∗ stOwns c arg10 arg11 arg12 s ∗ HP ∗ (HT ∗ (arg1.view.loc (c : Thread nD τ) ↦{fullShare.right} f1))) ∗ Ho
      ∗ owns (c : Thread nD τ) arg2 fullShare A2 ∗ owns (c : Thread nD τ) arg3 fullShare A3 ∗ owns (c : Thread nD τ) arg4 fullShare A4 ∗ owns (c : Thread nD τ) arg5 fullShare A5 ∗ owns (c : Thread nD τ) arg6 fullShare A6 ∗ owns (c : Thread nD τ) arg7 fullShare A7 ∗ owns (c : Thread nD τ) arg8 fullShare A8 ∗ L9)) := by
  rw [hA2, hA3, hA4, hA5, hA6, hA7, hA8]
  iintro ⟨⟨%s, %hs0, HS, HP, HT0, HT1⟩, Ho, ⟨%d2, H2⟩, ⟨%d3, H3⟩, ⟨%d4, H4⟩, ⟨%d5, H5⟩, ⟨%d6, H6⟩, ⟨%d7, H7⟩, ⟨%d8, H8⟩, ⟨%d9, H9⟩⟩
  iapply (body_spec (F := F) c b i arg0 arg1 harg1 arg2 harg2 arg3 harg3 arg4 harg4 arg5 harg5 arg6 harg6 arg7 harg7 arg8 harg8 arg9 harg9 arg10 harg10 arg11 harg11 arg12 harg12 f1 X2 X3 X4 X5 X6 X7 X8 (B9 d9) s _ v0 v1 vs hchk h0 h1 hs) $$ [HT1 H2 H3 H4 H5 H6 H7 H8 H9 HS]
  · isplitl [HT1]; · iexact HT1
    isplitl [H2]; · iapply (Entails.of_eq (congrArg (fun X => (owns (c : Thread nD τ) arg2 fullShare X : sProp 𝕄)) (hB2 d2))) $$ H2
    isplitl [H3]; · iapply (Entails.of_eq (congrArg (fun X => (owns (c : Thread nD τ) arg3 fullShare X : sProp 𝕄)) (hB3 d3))) $$ H3
    isplitl [H4]; · iapply (Entails.of_eq (congrArg (fun X => (owns (c : Thread nD τ) arg4 fullShare X : sProp 𝕄)) (hB4 d4))) $$ H4
    isplitl [H5]; · iapply (Entails.of_eq (congrArg (fun X => (owns (c : Thread nD τ) arg5 fullShare X : sProp 𝕄)) (hB5 d5))) $$ H5
    isplitl [H6]; · iapply (Entails.of_eq (congrArg (fun X => (owns (c : Thread nD τ) arg6 fullShare X : sProp 𝕄)) (hB6 d6))) $$ H6
    isplitl [H7]; · iapply (Entails.of_eq (congrArg (fun X => (owns (c : Thread nD τ) arg7 fullShare X : sProp 𝕄)) (hB7 d7))) $$ H7
    isplitl [H8]; · iapply (Entails.of_eq (congrArg (fun X => (owns (c : Thread nD τ) arg8 fullShare X : sProp 𝕄)) (hB8 d8))) $$ H8
    isplitl [H9]; · iexact H9
    iexact HS
  iintro ⟨HT1, H2, H3, H4, H5, H6, H7, H8, H9, HS⟩
  isplitl [HS HP HT0 HT1]
  · iexists s'
    isplitr; · ipureintro; exact hok
    isplitl [HS]
    · iapply (Entails.of_eq (congrArg (stOwns c arg10 arg11 arg12) (hnext s hs0))) $$ HS
    isplitl [HP]; · iexact HP
    isplitl [HT0]; · iexact HT0
    iexact HT1
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (hout d9)
  iapply (Entails.of_eq (congrArg (fun s' => (owns (c : Thread nD τ) arg9 fullShare (if k0_cond2 arg0 v0 v1 vs = 1#1 then outV s' else B9 d9) : sProp 𝕄)) (hnext s hs0))) $$ H9
end

end Cert.Kernel.Body
-- ==== Proof.BitsObligation.lean ====
/-
  The body's obligation at every point of the grid.
-/
module

public import proofs.«01_k».proof.Proof.BitsPoint
public import Idealize.ShloMosaic.Lib.Tactic

@[expose] public section
set_option maxRecDepth 16384
noncomputable section
namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

variable (hfit : ∀ c j, (len m c j).toInt ≤ 65536)

section
variable (c : Dev nD) (t : Fin (cfgM m hfit).N)

/-- What the output's array holds after the body is what the point leaves in it. -/
theorem out_at (d) : owns (c : Thread nD τ) (stg7 m hfit t) fullShare
      (if k0_cond2 (BitVec.ofNat 32 t.val) (len m 0 0) (len m 0 1) (lenAt m t.val) = 1#1 then outV (stN m hfit c (t.val + 1)) else (dats m hfit 0 c).before (7 : Fin 8) t d)
      ⊢ left m hfit c t 7 := by
  have hi := pt_lt m hfit t
  by_cases h : blkN m t.val + 1 = Words.nb (lenAt m t.val)
  · exact Entails.of_eq ((congrArg (fun X => (owns (c : Thread nD τ) (stg7 m hfit t) fullShare X : sProp 𝕄)) (if_pos ((cond2_iff m hfit hi).2 h))).trans
      (leaves_last m hfit c t h).symm)
  · refine (Entails.of_eq (congrArg (fun X => (owns (c : Thread nD τ) (stg7 m hfit t) fullShare X : sProp 𝕄)) (if_neg fun e => h ((cond2_iff m hfit hi).1 e)))).trans ?_
    rw [leaves_other m hfit c t h]
    iintro H; iexists d; iexact H

theorem chk_at : k0_chk1 (BitVec.ofNat 32 t.val) (rd (F := F) (c := c) (Memref.whole main_arg7) (tbl m 1) ![0] inb_S3_S1_0)
      (rd (F := F) (c := c) (Memref.whole main_arg7) (tbl m 1) ![1] inb_S3_S1_1) := by
  rw [rd_eq m c ![0] inb_S3_S1_0 0 rfl, rd_eq m c ![1] inb_S3_S1_1 1 rfl]; exact chk m hfit (pt_lt m hfit t)

theorem rd_at (h) : rd (F := F) (c := c) (Memref.whole main_arg7) (tbl m 1) (k0_off1 (BitVec.ofNat 32 t.val) (rd (F := F) (c := c) (Memref.whole main_arg7) (tbl m 1) ![0] inb_S3_S1_0)
      (rd (F := F) (c := c) (Memref.whole main_arg7) (tbl m 1) ![1] inb_S3_S1_1)) h = lenAt m t.val :=
  rd_eq m c _ h ⟨seqN m t.val, seqN_lt m _⟩ (by rw [rd_eq m c ![0] inb_S3_S1_0 0 rfl, rd_eq m c ![1] inb_S3_S1_1 1 rfl]; exact off1_at m hfit (pt_lt m hfit t))

theorem next_at (s : St F) (hs : t.val ≠ 0 → s = stN m hfit c t.val) : nextAt m hfit c t s = stN m hfit c (t.val + 1) := by
  rw [stN_succ]
  by_cases h0 : t.val = 0
  · exact nextAt_zero m hfit c t h0 _ _
  · rw [hs h0]

theorem inv_eq (n : ℕ) : inv m hfit c n = iprop(∃ s, ⌜n ≠ 0 → s = stN m hfit c n⌝ ∗ stOwns c sc0 sc1 sc2 s ∗ (∃ r, prngReg c r)
    ∗ ((tb0.view.loc (c : Thread nD τ) ↦{fullShare.right} (tbl m 0)) ∗ (tb1.view.loc (c : Thread nD τ) ↦{fullShare.right} (tbl m 1)))) := by
  unfold inv; rw [PhiT_eq]

theorem phi_eq (n : Fin ((cfgM m hfit).N + 1)) : (dats m hfit 0 c).Φ n = inv m hfit c n.val := by dsimp only [dats]
theorem phi_succ : (dats m hfit 0 c).Φ t.succ = inv m hfit c (t.val + 1) := (phi_eq m hfit c _).trans (congrArg (inv m hfit c) (Fin.val_succ t))
theorem phi_castSucc : (dats m hfit 0 c).Φ t.castSucc = inv m hfit c t.val := (phi_eq m hfit c _).trans (congrArg (inv m hfit c) (Fin.val_castSucc t))
theorem owes_succ : (dats m hfit 0 c).owesAt () t.succ = (dats m hfit 0 c).owesAt () t.castSucc := rfl

set_option maxHeartbeats 2000000 in
theorem sound_body : bodyPre m hfit c t ⊢ wp frame (wpE (defs₀ (F := F)) Variants.none c none) Set.univ (bodyAt m hfit t) (fun _ => bodyPost m hfit c t) := by
  unfold bodyPre bodyPost bodyAt
  rw [phi_succ, phi_castSucc, owes_succ, inv_eq, inv_eq, coords_val]
  refine point c (dynb0 (tbl m)) (Pipeline.Grid.Coords.static grid0 ((cfgM m hfit).grid.coords t)) (BitVec.ofNat 32 t.val)
    (Memref.whole main_arg7) (Memref.isWhole_whole _) (stg0 m hfit t) (stg0_whole m hfit t) (stg1 m hfit t) (stg1_whole m hfit t) (stg2 m hfit t) (stg2_whole m hfit t) (stg3 m hfit t) (stg3_whole m hfit t) (stg4 m hfit t) (stg4_whole m hfit t) (stg5 m hfit t) (stg5_whole m hfit t) (stg6 m hfit t) (stg6_whole m hfit t) (stg7 m hfit t) (stg7_whole m hfit t)
    (Memref.whole cc0_scratch0) (Memref.isWhole_whole _) (Memref.whole cc0_scratch1) (Memref.isWhole_whole _) (Memref.whole cc0_scratch2) (Memref.isWhole_whole _)
    (tbl m 1) (iblk m hfit c 0 t) ((dats m hfit 0 c).after 0 t) (fun d => (dats m hfit 0 c).before 0 t d) (iblk m hfit c 1 t) ((dats m hfit 0 c).after 1 t) (fun d => (dats m hfit 0 c).before 1 t d) (iblk m hfit c 2 t) ((dats m hfit 0 c).after 2 t) (fun d => (dats m hfit 0 c).before 2 t d) (iblk m hfit c 3 t) ((dats m hfit 0 c).after 3 t) (fun d => (dats m hfit 0 c).before 3 t d) (iblk m hfit c 4 t) ((dats m hfit 0 c).after 4 t) (fun d => (dats m hfit 0 c).before 4 t d) (iblk m hfit c 5 t) ((dats m hfit 0 c).after 5 t) (fun d => (dats m hfit 0 c).before 5 t d) (iblk m hfit c 6 t) ((dats m hfit 0 c).after 6 t) (fun d => (dats m hfit 0 c).before 6 t d)
    (fun d => (dats m hfit 0 c).before (7 : Fin 8) t d) _ _ _ _ _ _ (stN m hfit c (t.val + 1)) (len m 0 0) (len m 0 1) (lenAt m t.val)
    (chk_at m hfit c t) (rd_eq m c ![0] inb_S3_S1_0 0 rfl) (rd_eq m c ![1] inb_S3_S1_1 1 rfl) (rd_at m hfit c t _)
    (before0 m hfit c t) (after0 m hfit c t) (before1 m hfit c t) (after1 m hfit c t) (before2 m hfit c t) (after2 m hfit c t) (before3 m hfit c t) (after3 m hfit c t) (before4 m hfit c t) (after4 m hfit c t) (before5 m hfit c t) (after5 m hfit c t) (before6 m hfit c t) (after6 m hfit c t)
    (next_at m hfit c t) (fun _ => rfl) ?_
  exact out_at m hfit c t

/-- The obligation with each window's post as `leavesExact` names it. -/
theorem obligation_of {cfg : Cfg sig Λ₀} (D : Dat τ (Elt F) Unit ℕ (UR sig nD τ) ℕ cfg c) (L : Fin cfg.N → Fin cfg.W → sProp 𝕄) (hL : ∀ t w, L t w = D.leavesExact w t) (h : ∀ t,
    iprop(D.Φ t.castSucc ∗ D.owesAt () t.castSucc
        ∗ bigSep Finset.univ fun w : Fin cfg.W => iprop(∃ d, owns (c : Thread nD τ) ((cfg.win w).stage (cfg.slots t w)) fullShare (D.before w t d)))
      ⊢ wp frame (wpE (defs₀ (F := F)) Variants.none c none) Set.univ (defs₀ .tc cfg.body (cfg.bodyArgs t (cfg.slots t))) fun _ =>
          iprop(D.Φ t.succ ∗ D.owesAt () t.succ ∗ bigSep Finset.univ fun w : Fin cfg.W => L t w)) :
    BodyObligation D (defs₀ (F := F)) Variants.none () Set.univ := by
  obtain rfl : L = fun t w => D.leavesExact w t := funext fun t => funext fun w => hL t w
  exact h

theorem body_obligation : BodyObligation (dats (F := F) m hfit 0 c) (defs₀ (F := F)) Variants.none () Set.univ := by
  refine obligation_of c _ (left m hfit c) (fun _ _ => rfl) fun t => ?_
  rw [bigSep_W0, bigSep_W0]
  refine triple_restated (sound_body m hfit c t) (congrArg (fun p => wp frame (wpE (defs₀ (F := F)) Variants.none c none) Set.univ p) (defs₀_row m hfit t).symm) ?_ fun _ => ?_
  · unfold bodyPre
    exact Entails.of_eq rfl
  · unfold bodyPost
    exact sep_mono (Entails.of_eq rfl) (sep_mono (Entails.of_eq rfl) (sep_mono (Entails.of_eq rfl) (sep_mono (Entails.of_eq rfl) (sep_mono (Entails.of_eq rfl) (sep_mono (Entails.of_eq rfl) (sep_mono (Entails.of_eq rfl) (sep_mono (Entails.of_eq rfl) (sep_mono (Entails.of_eq rfl) (Entails.of_eq rfl)))))))))

end

end Cert.Kernel.Body
-- ==== Proof.BitsRun.lean ====
/-
  The run: the launch ends, every counter at zero, the pipeline's arrays at what the proof data compute and the argument arrays as they were.
-/
module

public import proofs.«01_k».proof.Proof.BitsObligation
public import Idealize.ShloMosaic.Lib.Tactic

@[expose] public section
set_option maxRecDepth 16384
noncomputable section
namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option maxHeartbeats 4000000 in
theorem V_main_arg0 (c : Dev nD) : V m c main_arg0 = m ((c : Thread nD τ).loc main_arg0) := by
  dsimp only [V, V0, pfx, List.flatten, List.append]
  after_results
set_option maxHeartbeats 4000000 in
theorem V_main_arg1 (c : Dev nD) : V m c main_arg1 = m ((c : Thread nD τ).loc main_arg1) := by
  dsimp only [V, V0, pfx, List.flatten, List.append]
  after_results
set_option maxHeartbeats 4000000 in
theorem V_main_arg2 (c : Dev nD) : V m c main_arg2 = m ((c : Thread nD τ).loc main_arg2) := by
  dsimp only [V, V0, pfx, List.flatten, List.append]
  after_results
set_option maxHeartbeats 4000000 in
theorem V_main_arg3 (c : Dev nD) : V m c main_arg3 = m ((c : Thread nD τ).loc main_arg3) := by
  dsimp only [V, V0, pfx, List.flatten, List.append]
  after_results
set_option maxHeartbeats 4000000 in
theorem V_main_arg4 (c : Dev nD) : V m c main_arg4 = m ((c : Thread nD τ).loc main_arg4) := by
  dsimp only [V, V0, pfx, List.flatten, List.append]
  after_results
set_option maxHeartbeats 4000000 in
theorem V_main_arg5 (c : Dev nD) : V m c main_arg5 = m ((c : Thread nD τ).loc main_arg5) := by
  dsimp only [V, V0, pfx, List.flatten, List.append]
  after_results
set_option maxHeartbeats 4000000 in
theorem V_main_arg6 (c : Dev nD) : V m c main_arg6 = m ((c : Thread nD τ).loc main_arg6) := by
  dsimp only [V, V0, pfx, List.flatten, List.append]
  after_results

variable (hfit : ∀ c j, (len m c j).toInt ≤ 65536)

theorem W_main_arg0 (c : Dev nD) :
    Pipeline.afterTail pcfgs (fun _ => adm m hfit) (dats m hfit) 0 (V0 m) [hostOps1] c main_arg0 = m ((c : Thread nD τ).loc main_arg0) := by
  unfold Pipeline.afterTail
  rw [List.flatten_cons, List.flatten_nil, List.append_nil, StableHlo.after_of_writes_sub (r := main_arg0) hostOps1 _ hostOps1_writes (by decide +kernel),
    Pipeline.withArrays_of_ne _ c (V0 m c) _ main_arg0 (by exact (by decide : ∀ w, Pipeline.arrRef spec0 w ≠ main_arg0))]
  exact V_main_arg0 m c
theorem W_main_arg1 (c : Dev nD) :
    Pipeline.afterTail pcfgs (fun _ => adm m hfit) (dats m hfit) 0 (V0 m) [hostOps1] c main_arg1 = m ((c : Thread nD τ).loc main_arg1) := by
  unfold Pipeline.afterTail
  rw [List.flatten_cons, List.flatten_nil, List.append_nil, StableHlo.after_of_writes_sub (r := main_arg1) hostOps1 _ hostOps1_writes (by decide +kernel),
    Pipeline.withArrays_of_ne _ c (V0 m c) _ main_arg1 (by exact (by decide : ∀ w, Pipeline.arrRef spec0 w ≠ main_arg1))]
  exact V_main_arg1 m c
theorem W_main_arg2 (c : Dev nD) :
    Pipeline.afterTail pcfgs (fun _ => adm m hfit) (dats m hfit) 0 (V0 m) [hostOps1] c main_arg2 = m ((c : Thread nD τ).loc main_arg2) := by
  unfold Pipeline.afterTail
  rw [List.flatten_cons, List.flatten_nil, List.append_nil, StableHlo.after_of_writes_sub (r := main_arg2) hostOps1 _ hostOps1_writes (by decide +kernel),
    Pipeline.withArrays_of_ne _ c (V0 m c) _ main_arg2 (by exact (by decide : ∀ w, Pipeline.arrRef spec0 w ≠ main_arg2))]
  exact V_main_arg2 m c
theorem W_main_arg3 (c : Dev nD) :
    Pipeline.afterTail pcfgs (fun _ => adm m hfit) (dats m hfit) 0 (V0 m) [hostOps1] c main_arg3 = m ((c : Thread nD τ).loc main_arg3) := by
  unfold Pipeline.afterTail
  rw [List.flatten_cons, List.flatten_nil, List.append_nil, StableHlo.after_of_writes_sub (r := main_arg3) hostOps1 _ hostOps1_writes (by decide +kernel),
    Pipeline.withArrays_of_ne _ c (V0 m c) _ main_arg3 (by exact (by decide : ∀ w, Pipeline.arrRef spec0 w ≠ main_arg3))]
  exact V_main_arg3 m c
theorem W_main_arg4 (c : Dev nD) :
    Pipeline.afterTail pcfgs (fun _ => adm m hfit) (dats m hfit) 0 (V0 m) [hostOps1] c main_arg4 = m ((c : Thread nD τ).loc main_arg4) := by
  unfold Pipeline.afterTail
  rw [List.flatten_cons, List.flatten_nil, List.append_nil, StableHlo.after_of_writes_sub (r := main_arg4) hostOps1 _ hostOps1_writes (by decide +kernel),
    Pipeline.withArrays_of_ne _ c (V0 m c) _ main_arg4 (by exact (by decide : ∀ w, Pipeline.arrRef spec0 w ≠ main_arg4))]
  exact V_main_arg4 m c
theorem W_main_arg5 (c : Dev nD) :
    Pipeline.afterTail pcfgs (fun _ => adm m hfit) (dats m hfit) 0 (V0 m) [hostOps1] c main_arg5 = m ((c : Thread nD τ).loc main_arg5) := by
  unfold Pipeline.afterTail
  rw [List.flatten_cons, List.flatten_nil, List.append_nil, StableHlo.after_of_writes_sub (r := main_arg5) hostOps1 _ hostOps1_writes (by decide +kernel),
    Pipeline.withArrays_of_ne _ c (V0 m c) _ main_arg5 (by exact (by decide : ∀ w, Pipeline.arrRef spec0 w ≠ main_arg5))]
  exact V_main_arg5 m c
theorem W_main_arg6 (c : Dev nD) :
    Pipeline.afterTail pcfgs (fun _ => adm m hfit) (dats m hfit) 0 (V0 m) [hostOps1] c main_arg6 = m ((c : Thread nD τ).loc main_arg6) := by
  unfold Pipeline.afterTail
  rw [List.flatten_cons, List.flatten_nil, List.append_nil, StableHlo.after_of_writes_sub (r := main_arg6) hostOps1 _ hostOps1_writes (by decide +kernel),
    Pipeline.withArrays_of_ne _ c (V0 m c) _ main_arg6 (by exact (by decide : ∀ w, Pipeline.arrRef spec0 w ≠ main_arg6))]
  exact V_main_arg6 m c
theorem W_main_arg7 (c : Dev nD) :
    Pipeline.afterTail pcfgs (fun _ => adm m hfit) (dats m hfit) 0 (V0 m) [hostOps1] c main_arg7 = m ((c : Thread nD τ).loc main_arg7) := by
  unfold Pipeline.afterTail
  rw [List.flatten_cons, List.flatten_nil, List.append_nil, StableHlo.after_of_writes_sub (r := main_arg7) hostOps1 _ hostOps1_writes (by decide +kernel),
    Pipeline.withArrays_of_ne _ c (V0 m c) _ main_arg7 (by exact (by decide : ∀ w, Pipeline.arrRef spec0 w ≠ main_arg7))]
  exact V_main_arg7 m c

/-- What the launch hands over is the state before the first point. -/
theorem inv_in (c : Dev nD) : iprop(Pipeline.ΦA spec0 c ∗ Pipeline.ΦT pre0 (tbl m) c) ⊢ inv m hfit c 0 := by
  unfold Pipeline.ΦA inv stOwns
  rw [scopedRest0_eq]
  simp only [owns_whole]
  iintro ⟨⟨⟨⟨%f0, H0⟩, ⟨%f1, H1⟩, ⟨%f2, H2⟩⟩, HP⟩, HT⟩
  iexists (⟨f0, f1, f2⟩ : St F)
  isplitr; · ipureintro; exact fun h => absurd rfl h
  isplitl [H0 H1 H2]
  · isplitl [H0]; · iexact H0
    isplitl [H1]; · iexact H1
    iexact H2
  isplitl [HP]; · iexact HP
  iexact HT

/-- And the state after the last gives it back. -/
theorem inv_out (c : Dev nD) (n : ℕ) : inv m hfit c n ⊢ Pipeline.ΦA spec0 c := by
  unfold Pipeline.ΦA inv stOwns
  rw [scopedRest0_eq]
  simp only [owns_whole]
  iintro ⟨%s, %hs, ⟨H0, H1, H2⟩, HP, HT⟩
  isplitl [H0 H1 H2]
  · isplitl [H0]; · iexists s.m; iexact H0
    isplitl [H1]; · iexists s.l; iexact H1
    iexists s.a; iexact H2
  iexact HP

set_option backward.isDefEq.respectTransparency.types false in
set_option maxHeartbeats 800000 in
/-- The run of @main, every counter at zero at its end. -/
theorem run_main_quiescent : θ_run defs (onTc (τ := τ) (main (F := F))) (s₀ m ρ) (fun r =>
    Pipeline.FramePost (Pipeline.pin pcfgs (fun _ => adm m hfit)) (dats m hfit) 0 (Pipeline.afterTail pcfgs (fun _ => adm m hfit) (dats m hfit) 0 (V0 m) [hostOps1]) r
      ∧ r.2.sem = fun _ => 0) :=
  Pipeline.θ_run_frameP_around_track (Q' := _) pcfgs (fun _ => adm m hfit) (dats m hfit) (0 : Fin 1) launch0 defs₀ Variants.none m ρ main
    (hbody := fun c => (body_obligation m hfit c).loose) (hshare := fun c => (dats m hfit 0 c).share_full fun _ => rfl)
    (howed := fun _ _ => rfl) (V₀ := V0 m) (opss := [hostOps1]) (hsub := sfx_sub) (hfresh := sfx_fresh) (hkeep := sfx_keeps)
    (hmain := hmain m Variants.none) (hA := A_eq m hfit) (hpf := V_pre m)
    (hin := fun c => inv_in m hfit c) (hout := fun c => inv_out m hfit c _)

theorem run_main : θ_run defs (onTc (τ := τ) (main (F := F))) (s₀ m ρ)
    (Pipeline.FramePost (Pipeline.pin pcfgs (fun _ => adm m hfit)) (dats m hfit) 0 (Pipeline.afterTail pcfgs (fun _ => adm m hfit) (dats m hfit) 0 (V0 m) [hostOps1])) :=
  (θ_run defs _ _).mono (fun _ h => h.1) (run_main_quiescent m ρ hfit)

include hfit in
/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by exact (by decide : ∀ w, Pipeline.arrRef spec0 w ≠ main_arg0)))).trans (W_main_arg0 m hfit c),
      ((h c).2 main_arg1 (Pipeline.mem_restRefs_of main_arg1 (by decide) (by exact (by decide : ∀ w, Pipeline.arrRef spec0 w ≠ main_arg1)))).trans (W_main_arg1 m hfit c),
      ((h c).2 main_arg2 (Pipeline.mem_restRefs_of main_arg2 (by decide) (by exact (by decide : ∀ w, Pipeline.arrRef spec0 w ≠ main_arg2)))).trans (W_main_arg2 m hfit c),
      ((h c).2 main_arg3 (Pipeline.mem_restRefs_of main_arg3 (by decide) (by exact (by decide : ∀ w, Pipeline.arrRef spec0 w ≠ main_arg3)))).trans (W_main_arg3 m hfit c),
      ((h c).2 main_arg4 (Pipeline.mem_restRefs_of main_arg4 (by decide) (by exact (by decide : ∀ w, Pipeline.arrRef spec0 w ≠ main_arg4)))).trans (W_main_arg4 m hfit c),
      ((h c).2 main_arg5 (Pipeline.mem_restRefs_of main_arg5 (by decide) (by exact (by decide : ∀ w, Pipeline.arrRef spec0 w ≠ main_arg5)))).trans (W_main_arg5 m hfit c),
      ((h c).2 main_arg6 (Pipeline.mem_restRefs_of main_arg6 (by decide) (by exact (by decide : ∀ w, Pipeline.arrRef spec0 w ≠ main_arg6)))).trans (W_main_arg6 m hfit c),
      ((h c).2 main_arg7 (Pipeline.mem_restRefs_of main_arg7 (by decide) (by exact (by decide : ∀ w, Pipeline.arrRef spec0 w ≠ main_arg7)))).trans (W_main_arg7 m hfit c)⟩) (run_main m ρ hfit)

include hfit in
/-- and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hfit) ((θ_run defs _ _).mono (fun _ h => h.2) (run_main_quiescent m ρ hfit))

end Cert.Kernel.Body
-- ==== Proof.Frames.lean ====
/-
  The two runs of the kernel under the precondition: the precondition says that no length exceeds the cache, as the runs need it.
-/
module

public import proofs.«01_k».proof.Defs
public import proofs.«01_k».proof.Proof.IdealRun
public import proofs.«01_k».proof.Proof.BitsRun
public import proofs.«01_k».proof.Proof.Gen.Pre_lens_fit

@[expose] public section
noncomputable section
namespace Cert.Proof
open Idealize.ShloMosaic Idealize.SL.Sem

theorem le_of_cmpi (x : BitVec 32) (h : IntOp.cmpi .sle x 65536#32 = 1#1) : x.toInt ≤ 65536 := by
  rw [WordCmp.cmpi_sle_eq] at h
  by_contra hc
  rw [decide_eq_false (by simpa using hc)] at h
  exact absurd h (by decide)

theorem fit_ideal (m : (ℓ : Loc Cert.KernelIdeal.nD Cert.KernelIdeal.τ Cert.KernelIdeal.sig) → Buf (Elt Ideal) ℓ)
    (h : Cert.Pre_KernelIdeal (hPre_lens_fit := Cert.Pre_lens_fit.Gen.facts) m) (c) (j : Fin 3) : (Cert.KernelIdeal.Body.len m c j).toInt ≤ 65536 :=
  le_of_cmpi _ (congrFun (h c) (ValueIdx.ix1 j))

theorem fit_bits (m : (ℓ : Loc Cert.Kernel.nD Cert.Kernel.τ Cert.Kernel.sig) → Buf (Elt Bits) ℓ)
    (h : Cert.Pre_Kernel (hPre_lens_fit := Cert.Pre_lens_fit.Gen.facts) m) (c) (j : Fin 3) : (Cert.Kernel.Body.len m c j).toInt ≤ 65536 :=
  le_of_cmpi _ (congrFun (h c) (ValueIdx.ix1 j))

theorem quiescent_Kernel : Cert.quiescent_Kernel (hKernel := Cert.Kernel.Gen.facts) (hPre_lens_fit := Cert.Pre_lens_fit.Gen.facts) :=
  fun m g h => Cert.Kernel.Body.frame m g (fit_bits m h)

theorem quiescent_KernelIdeal : Cert.quiescent_KernelIdeal (hKernelIdeal := Cert.KernelIdeal.Gen.facts) (hPre_lens_fit := Cert.Pre_lens_fit.Gen.facts) :=
  fun m g h => Cert.KernelIdeal.Body.frame m g (fit_ideal m h)

theorem preserves : Cert.preserves_Kernel_KernelIdeal :=
  IdealRules.named_const.statement Cert.KernelIdeal.κ "scale_log2e" .f32 0x3DE995B3#32 (((Real.sqrt 160)⁻¹ * (Real.log 2)⁻¹ : ℝ) : EReal) rfl

end Cert.Proof
-- ==== Proof.IdealHost.lean ====
/-
  The arrays the grid reads, and the result, in terms of the arguments and of the array the grid leaves: transposes, reshapes and padding, read at an index.
-/
module
public import proofs.«01_k».proof.Proof.IdealRun
public import Idealize.ShloMosaic.Lib.Pointwise
public import Idealize.ShloMosaic.Lib.Pipeline.ValueKit
@[expose] public section
set_option maxRecDepth 16384
noncomputable section
namespace Cert.KernelIdeal.Host
open Idealize.ShloMosaic Idealize.ShloMosaic.TcCoe Idealize.ShloMosaic.Tactic Idealize.SL.Sem
open Cert.KernelIdeal Cert.KernelIdeal.Gen Cert.KernelIdeal.Body

variable (m : (ℓ : Loc nD τ sig) → Buf (Elt Ideal) ℓ) (c : Dev nD)

abbrev arg (b : Ref sig .tc) : Buf (Elt Ideal) ((c : Thread nD τ).loc b) := m ((c : Thread nD τ).loc b)

def q24 (x : FVec Ideal S3x5x32x160 .bf16) (z : FVec Ideal S_ .bf16) : FVec Ideal S3x8x24x160 .bf16 :=
  pad S3x8x24x160 ![0, 0, 0, 0] ![0, 0, 4, 0] ![0, 0, 0, 0]
    (shapeCast S3x8x20x160 (transpose S3x8x5x4x160 [0, 2, 1, 3, 4] (shapeCast S3x5x8x4x160 x shapeCasts_S3x5x32x160_S3x5x8x4x160) transposes_S3x5x8x4x160_S3x8x5x4x160_0_2_1_3_4) shapeCasts_S3x8x5x4x160_S3x8x20x160)
    z pads_S3x8x20x160_S3x8x24x160_000_000_040_000 h_S_
def n128 (x : FVec Ideal S3x5x8x160 .bf16) (z : FVec Ideal S_ .bf16) : FVec Ideal S3x8x128x160 .bf16 :=
  pad S3x8x128x160 ![0, 0, 0, 0] ![0, 0, 123, 0] ![0, 0, 0, 0] (transpose S3x8x5x160 [0, 2, 1, 3] x transposes_S3x5x8x160_S3x8x5x160_0_2_1_3) z pads_S3x8x5x160_S3x8x128x160_000_000_01230_000 h_S_
def o22 (x : FVec Ideal S3x8x24x160 .bf16) : FVec Ideal S3x5x32x160 .bf16 :=
  shapeCast S3x5x32x160 (transpose S3x5x8x4x160 [0, 2, 1, 3, 4] (shapeCast S3x8x5x4x160 (extractStridedSlice S3x8x20x160 ![0, 0, 0, 0] x slices_S3x8x24x160_S3x8x20x160_0_0_0_0) shapeCasts_S3x8x20x160_S3x8x5x4x160) transposes_S3x8x5x4x160_S3x5x8x4x160_0_2_1_3_4) shapeCasts_S3x5x8x4x160_S3x5x32x160

theorem q24_at (x : FVec Ideal S3x5x32x160 .bf16) (z : FVec Ideal S_ .bf16) (b : Fin 3) (k : Fin 8) (r : Fin 24) (hr : r.val < 20) (d : Fin 160) :
    q24 x z (ix4 b k r d) = x (ix4 b ⟨r.val / 4, by omega⟩ ⟨k.val * 4 + r.val % 4, by omega⟩ d) := by
  pointwise [q24]
  rw [dif_pos hr]
theorem n128_at (x : FVec Ideal S3x5x8x160 .bf16) (z : FVec Ideal S_ .bf16) (b : Fin 3) (k : Fin 8) (j : Fin 128) (hj : j.val < 5) (d : Fin 160) :
    n128 x z (ix4 b k j d) = x (ix4 b ⟨j.val, hj⟩ k d) := by
  pointwise [n128]
  rw [dif_pos hj]
theorem o22_at (x : FVec Ideal S3x8x24x160 .bf16) (b : Fin 3) (i : Fin 5) (h : Fin 32) (d : Fin 160) :
    o22 x (ix4 b i h d) = x (ix4 b ⟨h.val / 4, by omega⟩ ⟨i.val * 4 + h.val % 4, by omega⟩ d) := by
  pointwise [o22]

theorem V_v3 : ∃ z, V m c main_v3 = q24 (arg m c main_arg0) z := by
  refine ⟨sitofp .bf16 (constantI S_ 32 0#32), ?_⟩
  dsimp only [V, V0, pfx, List.flatten, List.append]
  after_results
  rfl
theorem V_v5 : ∃ z, V m c main_v5 = n128 (arg m c main_arg1) z := by
  refine ⟨sitofp .bf16 (constantI S_ 32 0#32), ?_⟩
  dsimp only [V, V0, pfx, List.flatten, List.append]
  after_results
  rfl
theorem V_v7 : ∃ z, V m c main_v7 = n128 (arg m c main_arg2) z := by
  refine ⟨sitofp .bf16 (constantI S_ 32 0#32), ?_⟩
  dsimp only [V, V0, pfx, List.flatten, List.append]
  after_results
  rfl
theorem V_v8 : V m c main_v8 = transpose S3x8x160x65536 [0, 2, 3, 1] (arg m c main_arg3) transposes_S3x65536x8x160_S3x8x160x65536_0_2_3_1 := by
  dsimp only [V, V0, pfx, List.flatten, List.append]
  after_results
theorem V_v9 : V m c main_v9 = transpose S3x8x160x65536 [0, 2, 3, 1] (arg m c main_arg4) transposes_S3x65536x8x160_S3x8x160x65536_0_2_3_1 := by
  dsimp only [V, V0, pfx, List.flatten, List.append]
  after_results
theorem V_v10 : V m c main_v10 = transpose S3x8x65536 [0, 2, 1] (arg m c main_arg5) transposes_S3x65536x8_S3x8x65536_0_2_1 := by
  dsimp only [V, V0, pfx, List.flatten, List.append]
  after_results
theorem V_v11 : V m c main_v11 = transpose S3x8x65536 [0, 2, 1] (arg m c main_arg6) transposes_S3x65536x8_S3x8x65536_0_2_1 := by
  dsimp only [V, V0, pfx, List.flatten, List.append]
  after_results

theorem tr_kv (x : FVec Ideal S3x65536x8x160 .fp8e4m3) (b : Fin 3) (k : Fin 8) (d : Fin 160) (t : Fin 65536) :
    transpose S3x8x160x65536 [0, 2, 3, 1] x transposes_S3x65536x8x160_S3x8x160x65536_0_2_3_1 (ix4 b k d t) = x (ix4 b t k d) := by
  pointwise []
theorem tr_s (x : FVec Ideal S3x65536x8 .f32) (b : Fin 3) (k : Fin 8) (t : Fin 65536) :
    transpose S3x8x65536 [0, 2, 1] x transposes_S3x65536x8_S3x8x65536_0_2_1 (ix3 b k t) = x (ix3 b t k) := by
  pointwise []

variable (hfit : ∀ c j, (len m c j).toInt ≤ 65536)
theorem index0 (t : Fin (cfgM m hfit).N) : ((cfgM m hfit).win (0 : Fin 8)).index t = ![seqN m t.val, 0, 0, 0] := by
  show cc0_transform_0 inb_S3_S1_0 numel1_S1 inb_S3_S1_1 (tbl m) _ _ = _
  rw [tr0, coords_val, seq_toNat m hfit (pt_lt m hfit t)]
theorem index1 (t : Fin (cfgM m hfit).N) : ((cfgM m hfit).win (1 : Fin 8)).index t = ![seqN m t.val, 0, 0, 0] := by
  show cc0_transform_1 inb_S3_S1_0 numel1_S1 inb_S3_S1_1 (tbl m) _ _ = _
  rw [tr1, coords_val, seq_toNat m hfit (pt_lt m hfit t)]
theorem index2 (t : Fin (cfgM m hfit).N) : ((cfgM m hfit).win (2 : Fin 8)).index t = ![seqN m t.val, 0, 0, 0] := by
  show cc0_transform_2 inb_S3_S1_0 numel1_S1 inb_S3_S1_1 (tbl m) _ _ = _
  rw [tr2, coords_val, seq_toNat m hfit (pt_lt m hfit t)]
theorem index3 (t : Fin (cfgM m hfit).N) : ((cfgM m hfit).win (3 : Fin 8)).index t = ![seqN m t.val, 0, 0, blkN m t.val] := by
  show cc0_transform_3 inb_S3_S1_0 numel1_S1 inb_S3_S1_1 (tbl m) _ _ = _
  rw [tr3, coords_val, seq_toNat m hfit (pt_lt m hfit t), blk_toNat m hfit (pt_lt m hfit t)]
theorem index4 (t : Fin (cfgM m hfit).N) : ((cfgM m hfit).win (4 : Fin 8)).index t = ![seqN m t.val, 0, 0, blkN m t.val] := by
  show cc0_transform_4 inb_S3_S1_0 numel1_S1 inb_S3_S1_1 (tbl m) _ _ = _
  rw [tr4, coords_val, seq_toNat m hfit (pt_lt m hfit t), blk_toNat m hfit (pt_lt m hfit t)]
theorem index5 (t : Fin (cfgM m hfit).N) : ((cfgM m hfit).win (5 : Fin 8)).index t = ![seqN m t.val, 0, blkN m t.val] := by
  show cc0_transform_5 inb_S3_S1_0 numel1_S1 inb_S3_S1_1 (tbl m) _ _ = _
  rw [tr5, coords_val, seq_toNat m hfit (pt_lt m hfit t), blk_toNat m hfit (pt_lt m hfit t)]
theorem index6 (t : Fin (cfgM m hfit).N) : ((cfgM m hfit).win (6 : Fin 8)).index t = ![seqN m t.val, 0, blkN m t.val] := by
  show cc0_transform_6 inb_S3_S1_0 numel1_S1 inb_S3_S1_1 (tbl m) _ _ = _
  rw [tr6, coords_val, seq_toNat m hfit (pt_lt m hfit t), blk_toNat m hfit (pt_lt m hfit t)]
theorem blk0_at (t : Fin (cfgM m hfit).N) (k : Fin 8) (r : Fin 24) (d : Fin 160) :
    (iblk m hfit c 0 t : FVec Ideal S1x8x24x160 .bf16) (ix4 0 k r d) = (V m c main_v3 : FVec Ideal S3x8x24x160 .bf16) (ix4 ⟨seqN m t.val, seqN_lt m _⟩ k r d) := by
  unfold iblk
  refine congrArg (V m c main_v3 : FVec Ideal S3x8x24x160 .bf16) (funext fun a => Fin.ext ?_)
  blk_simp []
  rw [show ((cfgM m hfit).win 0).index t = _ from index0 m hfit t]
  fin_cases a
  · show seqN m t.val * 1 + 0 = seqN m t.val; omega
  · show 0 * _ + _ = _; rw [Nat.zero_mul, Nat.zero_add]; rfl
  · show 0 * _ + _ = _; rw [Nat.zero_mul, Nat.zero_add]; rfl
  · show 0 * _ + _ = _; rw [Nat.zero_mul, Nat.zero_add]; rfl
theorem blk1_at (t : Fin (cfgM m hfit).N) (k : Fin 8) (r : Fin 128) (d : Fin 160) :
    (iblk m hfit c 1 t : FVec Ideal S1x8x128x160 .bf16) (ix4 0 k r d) = (V m c main_v5 : FVec Ideal S3x8x128x160 .bf16) (ix4 ⟨seqN m t.val, seqN_lt m _⟩ k r d) := by
  unfold iblk
  refine congrArg (V m c main_v5 : FVec Ideal S3x8x128x160 .bf16) (funext fun a => Fin.ext ?_)
  blk_simp []
  rw [show ((cfgM m hfit).win 1).index t = _ from index1 m hfit t]
  fin_cases a
  · show seqN m t.val * 1 + 0 = seqN m t.val; omega
  · show 0 * _ + _ = _; rw [Nat.zero_mul, Nat.zero_add]; rfl
  · show 0 * _ + _ = _; rw [Nat.zero_mul, Nat.zero_add]; rfl
  · show 0 * _ + _ = _; rw [Nat.zero_mul, Nat.zero_add]; rfl
theorem blk2_at (t : Fin (cfgM m hfit).N) (k : Fin 8) (r : Fin 128) (d : Fin 160) :
    (iblk m hfit c 2 t : FVec Ideal S1x8x128x160 .bf16) (ix4 0 k r d) = (V m c main_v7 : FVec Ideal S3x8x128x160 .bf16) (ix4 ⟨seqN m t.val, seqN_lt m _⟩ k r d) := by
  unfold iblk
  refine congrArg (V m c main_v7 : FVec Ideal S3x8x128x160 .bf16) (funext fun a => Fin.ext ?_)
  blk_simp []
  rw [show ((cfgM m hfit).win 2).index t = _ from index2 m hfit t]
  fin_cases a
  · show seqN m t.val * 1 + 0 = seqN m t.val; omega
  · show 0 * _ + _ = _; rw [Nat.zero_mul, Nat.zero_add]; rfl
  · show 0 * _ + _ = _; rw [Nat.zero_mul, Nat.zero_add]; rfl
  · show 0 * _ + _ = _; rw [Nat.zero_mul, Nat.zero_add]; rfl
theorem blk3_at (t : Fin (cfgM m hfit).N) (k : Fin 8) (d : Fin 160) (x : Fin 2048) (h : 2048 * blkN m t.val + 2047 < 65536) :
    (iblk m hfit c 3 t : FVec Ideal S1x8x160x2048 .fp8e4m3) (ix4 0 k d x) = (V m c main_v8 : FVec Ideal S3x8x160x65536 .fp8e4m3) (ix4 ⟨seqN m t.val, seqN_lt m _⟩ k d ⟨2048 * blkN m t.val + x.val, by omega⟩) := by
  unfold iblk
  refine congrArg (V m c main_v8 : FVec Ideal S3x8x160x65536 .fp8e4m3) (funext fun a => Fin.ext ?_)
  blk_simp []
  rw [show ((cfgM m hfit).win 3).index t = _ from index3 m hfit t]
  fin_cases a
  · show seqN m t.val * 1 + 0 = seqN m t.val; omega
  · show 0 * _ + _ = _; rw [Nat.zero_mul, Nat.zero_add]; rfl
  · show 0 * _ + _ = _; rw [Nat.zero_mul, Nat.zero_add]; rfl
  · show blkN m t.val * 2048 + x.val = 2048 * blkN m t.val + x.val; omega
theorem blk4_at (t : Fin (cfgM m hfit).N) (k : Fin 8) (d : Fin 160) (x : Fin 2048) (h : 2048 * blkN m t.val + 2047 < 65536) :
    (iblk m hfit c 4 t : FVec Ideal S1x8x160x2048 .fp8e4m3) (ix4 0 k d x) = (V m c main_v9 : FVec Ideal S3x8x160x65536 .fp8e4m3) (ix4 ⟨seqN m t.val, seqN_lt m _⟩ k d ⟨2048 * blkN m t.val + x.val, by omega⟩) := by
  unfold iblk
  refine congrArg (V m c main_v9 : FVec Ideal S3x8x160x65536 .fp8e4m3) (funext fun a => Fin.ext ?_)
  blk_simp []
  rw [show ((cfgM m hfit).win 4).index t = _ from index4 m hfit t]
  fin_cases a
  · show seqN m t.val * 1 + 0 = seqN m t.val; omega
  · show 0 * _ + _ = _; rw [Nat.zero_mul, Nat.zero_add]; rfl
  · show 0 * _ + _ = _; rw [Nat.zero_mul, Nat.zero_add]; rfl
  · show blkN m t.val * 2048 + x.val = 2048 * blkN m t.val + x.val; omega
theorem blk5_at (t : Fin (cfgM m hfit).N) (k : Fin 8) (x : Fin 2048) (h : 2048 * blkN m t.val + 2047 < 65536) :
    (iblk m hfit c 5 t : FVec Ideal S1x8x2048 .f32) (ix3 0 k x) = (V m c main_v10 : FVec Ideal S3x8x65536 .f32) (ix3 ⟨seqN m t.val, seqN_lt m _⟩ k ⟨2048 * blkN m t.val + x.val, by omega⟩) := by
  unfold iblk
  refine congrArg (V m c main_v10 : FVec Ideal S3x8x65536 .f32) (funext fun a => Fin.ext ?_)
  blk_simp []
  rw [show ((cfgM m hfit).win 5).index t = _ from index5 m hfit t]
  fin_cases a
  · show seqN m t.val * 1 + 0 = seqN m t.val; omega
  · show 0 * _ + _ = _; rw [Nat.zero_mul, Nat.zero_add]; rfl
  · show blkN m t.val * 2048 + x.val = 2048 * blkN m t.val + x.val; omega
theorem blk6_at (t : Fin (cfgM m hfit).N) (k : Fin 8) (x : Fin 2048) (h : 2048 * blkN m t.val + 2047 < 65536) :
    (iblk m hfit c 6 t : FVec Ideal S1x8x2048 .f32) (ix3 0 k x) = (V m c main_v11 : FVec Ideal S3x8x65536 .f32) (ix3 ⟨seqN m t.val, seqN_lt m _⟩ k ⟨2048 * blkN m t.val + x.val, by omega⟩) := by
  unfold iblk
  refine congrArg (V m c main_v11 : FVec Ideal S3x8x65536 .f32) (funext fun a => Fin.ext ?_)
  blk_simp []
  rw [show ((cfgM m hfit).win 6).index t = _ from index6 m hfit t]
  fin_cases a
  · show seqN m t.val * 1 + 0 = seqN m t.val; omega
  · show 0 * _ + _ = _; rw [Nat.zero_mul, Nat.zero_add]; rfl
  · show blkN m t.val * 2048 + x.val = 2048 * blkN m t.val + x.val; omega

theorem out_eq (B : Dev nD → Valuation τ sig (Elt Ideal)) :
    StableHlo.after hostOps1 (B c) (Proc.devRef .tc main_v22) = o22 (B c (Proc.devRef .tc main_v18)) := by
  after_results
  rfl
end Cert.KernelIdeal.Host
-- ==== Proof.IdealPay.lean ====
/-
  One head's arithmetic over the extended reals, read at an index: the scores, the running maximum, the sums, the output.
-/
module
public import proofs.«01_k».proof.Proof.IdealBody
public import Idealize.ShloMosaic.Lib.Pointwise
public import Idealize.ShloMosaic.Lib.Pipeline.ValueKit
@[expose] public section
set_option maxRecDepth 16384
noncomputable section
namespace Cert.KernelIdeal.Pay
open Idealize.ShloMosaic Idealize.ShloMosaic.TcCoe Idealize.SL.Sem
open Cert.KernelIdeal Cert.KernelIdeal.Gen Cert.KernelIdeal.Body

/-- A head's part of an array of eight heads, by coordinates. -/
theorem pick3 {n : ℕ} (p : Fin 8 → (⟨3, ![1, 24, n]⟩ : Shape).Idx → EReal) (k k' : Fin 8) (r : Fin 24) (j : Fin n) (x : (⟨3, ![1, 24, n]⟩ : Shape).Idx)
    (h0 : k.val = k'.val + (x 0).val) (h1 : r.val = (x 1).val) (h2 : j.val = (x 2).val) : p k' x = p k (ix3 0 r j) := by
  have hx : (x 0).val < 1 := (x 0).isLt
  obtain rfl : k = k' := Fin.ext (by omega)
  refine congrArg (p k) (funext fun a => Fin.ext ?_)
  fin_cases a
  · show (x 0).val = 0; omega
  · exact h1.symm
  · exact h2.symm
theorem pick4 {n : ℕ} (p : Fin 8 → (⟨4, ![1, 1, 24, n]⟩ : Shape).Idx → EReal) (k k' : Fin 8) (r : Fin 24) (j : Fin n) (x : (⟨4, ![1, 1, 24, n]⟩ : Shape).Idx)
    (h0 : k.val = k'.val + (x 1).val) (h1 : r.val = (x 2).val) (h2 : j.val = (x 3).val) : p k' x = p k (ix4 0 0 r j) := by
  have hx : (x 1).val < 1 := (x 1).isLt
  have hx0 : (x 0).val < 1 := (x 0).isLt
  obtain rfl : k = k' := Fin.ext (by omega)
  refine congrArg (p k) (funext fun a => Fin.ext ?_)
  fin_cases a
  · show (x 0).val = 0; omega
  · show (x 1).val = 0; omega
  · exact h1.symm
  · exact h2.symm

theorem glueM_at (p : Fin 8 → FVec Ideal S1x24x128 .f32) (k : Fin 8) (r : Fin 24) (j : Fin 128) :
    glueM (F := Ideal) p (ix3 k r j) = p k (ix3 0 r j) := by
  unfold glueM piecesM rM
  canon_tiles x h
  all_goals exact pick3 p k _ r j x (h0.trans (by simp)) h1 h2
theorem glueA_at (p : Fin 8 → FVec Ideal S1x24x160 .f32) (k : Fin 8) (r : Fin 24) (j : Fin 160) :
    glueA (F := Ideal) p (ix3 k r j) = p k (ix3 0 r j) := by
  unfold glueA piecesA rA
  canon_tiles x h
  all_goals exact pick3 p k _ r j x (h0.trans (by simp)) h1 h2
theorem glueO_at (p : Fin 8 → FVec Ideal S1x1x24x160 .bf16) (k : Fin 8) (r : Fin 24) (j : Fin 160) :
    glueO (F := Ideal) p (ix4 0 k r j) = p k (ix4 0 0 r j) := by
  unfold glueO piecesO rQ
  canon_tiles x h
  all_goals exact pick4 p k _ r j x (h1.trans (by simp)) h2 h3

theorem ldM_at (X : FVec Ideal S8x24x128 .f32) (k : Fin 8) (r : Fin 24) (j : Fin 128) : ldM (F := Ideal) X k (ix3 0 r j) = X (ix3 k r j) :=
  congrArg X (funext fun a => Fin.ext (by fin_cases a <;> simp [rM]))
theorem ldA_at (X : FVec Ideal S8x24x160 .f32) (k : Fin 8) (r : Fin 24) (j : Fin 160) : ldA (F := Ideal) X k (ix3 0 r j) = X (ix3 k r j) :=
  congrArg X (funext fun a => Fin.ext (by fin_cases a <;> simp [rA]))
theorem ldQ_at (X : FVec Ideal S1x8x24x160 .bf16) (k : Fin 8) (r : Fin 24) (j : Fin 160) : ldQ (F := Ideal) X k (ix4 0 0 r j) = X (ix4 0 k r j) :=
  congrArg X (funext fun a => Fin.ext (by fin_cases a <;> simp [rQ]))
theorem ldN_at (X : FVec Ideal S1x8x128x160 .bf16) (k : Fin 8) (r : Fin 128) (j : Fin 160) : ldN (F := Ideal) X k (ix4 0 0 r j) = X (ix4 0 k r j) :=
  congrArg X (funext fun a => Fin.ext (by fin_cases a <;> simp [rN]))
theorem ldK_at (X : FVec Ideal S1x8x160x2048 .fp8e4m3) (k : Fin 8) (r : Fin 160) (j : Fin 2048) : ldK (F := Ideal) X k (ix4 0 0 r j) = X (ix4 0 k r j) :=
  congrArg X (funext fun a => Fin.ext (by fin_cases a <;> simp [rK]))
theorem ldS_at (X : FVec Ideal S1x8x2048 .f32) (k : Fin 8) (j : Fin 2048) : ldS (F := Ideal) X k (ix3 0 0 j) = X (ix3 0 k j) :=
  congrArg X (funext fun a => Fin.ext (by fin_cases a <;> simp [rS]))

theorem ninf : Ideal.ofBits .f32 0xFF800000#32 = (⊥ : EReal) := by
  simp [Ideal.ofBits, Ideal.ieee]

theorem fold_max {n : ℕ} (f : Fin n → EReal) : Finset.fold max (Ideal.ofBits .f32 0xFF800000#32) f Finset.univ = Finset.univ.sup f := by
  rw [ninf]; rfl

theorem scale_eq : (Named.named κ "scale_log2e" 0x3DE995B3#32 : Ideal .f32) = (((Real.sqrt 160)⁻¹ * (Real.log 2)⁻¹ : ℝ) : EReal) := by
  first | rfl | simp [Named.named, κ]

theorem exp2_def (x : Ideal .f32) : FloatOps.exp2 x = Ideal.exp2 x := rfl

/-- A block's scores: the first `w` positions count. -/
theorem score_at (w : BitVec 32) (q : FVec Ideal S1x1x24x160 .bf16) (k : FVec Ideal S1x1x160x2048 .fp8e4m3) (ks : FVec Ideal S1x1x2048 .f32) (r : Fin 24) (t : Fin 2048) :
  score (F := Ideal) w q k ks (ix2 r t) = if (t.val : ℤ) < w.toInt then (∑ x : Fin 160, q (ix4 0 0 r x) * k (ix4 0 0 x t)) * (ks (ix3 0 0 t) * (((Real.sqrt 160)⁻¹ * (Real.log 2)⁻¹ : ℝ) : EReal)) else ⊥ := by
  pointwise [score, k0_pay79]
  rw [scale_eq, ninf]
  have : IntOp.cmpi CmpIPredicate.slt (BitVec.ofNat 32 t.val) w = if (t.val : ℤ) < w.toInt then 1#1 else 0#1 := by
    have h : (BitVec.ofNat 32 t.val).toInt = t.val := by
      rw [BitVec.toInt_eq_toNat_cond, BitVec.toNat_ofNat]; have := t.isLt; split_ifs <;> omega
    show BitVec.ofBool (BitVec.slt _ _) = _
    rw [BitVec.slt, h]
    by_cases h : (t.val : ℤ) < w.toInt <;> simp [h]
  rw [this]
  split_ifs <;> rfl

theorem causal : ∀ (r : Fin 24) (t : Fin 128), IntOp.andi (IntOp.cmpi CmpIPredicate.slt (BitVec.ofNat 32 t.val) 5#32)
    (IntOp.ori (IntOp.cmpi CmpIPredicate.sle (IntOp.muli (BitVec.ofNat 32 t.val) 4#32) (BitVec.ofNat 32 r.val)) (IntOp.cmpi CmpIPredicate.eq (BitVec.ofNat 32 t.val) 0#32))
      = if t.val < 5 ∧ t.val * 4 ≤ r.val then 1#1 else 0#1 := by
  decide +kernel

/-- The scores of the new keys: five of them, none after the query's own. -/
theorem pay2_at (q : FVec Ideal S1x1x24x160 .bf16) (k : FVec Ideal S1x1x128x160 .bf16) (r : Fin 24) (t : Fin 128) :
  k0_pay2 (F := Ideal) q k (ix2 r t) = if t.val < 5 ∧ t.val * 4 ≤ r.val then (∑ x : Fin 160, q (ix4 0 0 r x) * k (ix4 0 0 t x)) * (((Real.sqrt 160)⁻¹ * (Real.log 2)⁻¹ : ℝ) : EReal) else ⊥ := by
  pointwise [k0_pay2, k0_pay1]
  rw [scale_eq, ninf]
  rw [causal r t]
  split_ifs <;> rfl
theorem pay6_at (q : FVec Ideal S1x1x24x160 .bf16) (k : FVec Ideal S1x1x128x160 .bf16) (r : Fin 24) (t : Fin 128) :
  k0_pay6 (F := Ideal) q k (ix3 0 r t) = Ideal.exp2 (k0_pay2 (F := Ideal) q k (ix2 r t) - Finset.univ.sup fun j => k0_pay2 (F := Ideal) q k (ix2 r j)) := by
  pointwise [k0_pay6, k0_pay4, k0_pay3]
  simp only [fold_max, exp2_def]
theorem pay5_at (q : FVec Ideal S1x1x24x160 .bf16) (k : FVec Ideal S1x1x128x160 .bf16) (r : Fin 24) (t : Fin 128) :
  k0_pay5 (F := Ideal) q k (ix3 0 r t) = Finset.univ.sup fun j => k0_pay2 (F := Ideal) q k (ix2 r j) := by
  pointwise [k0_pay5, k0_pay3]
  simp only [fold_max]
theorem pay8_at (q : FVec Ideal S1x1x24x160 .bf16) (k v : FVec Ideal S1x1x128x160 .bf16) (r : Fin 24) (d : Fin 160) :
  k0_pay8 (F := Ideal) (k0_pay7 (F := Ideal) q k) v (ix3 0 r d) = ∑ j : Fin 128, Ideal.exp2 (k0_pay2 (F := Ideal) q k (ix2 r j) - Finset.univ.sup fun j => k0_pay2 (F := Ideal) q k (ix2 r j)) * v (ix4 0 0 j d) := by
  pointwise [k0_pay8, k0_pay7, k0_pay4, k0_pay3]
  simp only [fold_max, exp2_def]
theorem pay70_at (s : FVec Ideal S24x2048 .f32) (m : FVec Ideal S1x24x128 .f32) (r : Fin 24) (j : Fin 128) :
  k0_pay70 (F := Ideal) s m (ix2 r j) = max (m (ix3 0 r j)) (Finset.univ.sup fun t : Fin 2048 => s (ix2 r t)) := by
  pointwise [k0_pay70, k0_pay69]
  simp only [fold_max]
theorem pay72_at (s : FVec Ideal S24x2048 .f32) (m : FVec Ideal S1x24x128 .f32) (r : Fin 24) (j : Fin 128) :
  k0_pay72 (F := Ideal) s m (ix3 0 r j) = k0_pay70 (F := Ideal) s m (ix2 r j) := by
  pointwise [k0_pay72]
theorem pay73_at (s : FVec Ideal S24x2048 .f32) (m : FVec Ideal S1x24x128 .f32) (r : Fin 24) (t : Fin 2048) :
  k0_pay73 (F := Ideal) s m (ix2 r t) = Ideal.exp2 (s (ix2 r t) - k0_pay70 (F := Ideal) s m (ix2 r 0)) := by
  pointwise [k0_pay73]
  simp only [exp2_def]
theorem pay71_at (s : FVec Ideal S24x2048 .f32) (m : FVec Ideal S1x24x128 .f32) (r : Fin 24) (j : Fin 128) :
  k0_pay71 (F := Ideal) s m (ix2 r j) = Ideal.exp2 (m (ix3 0 r j) - k0_pay70 (F := Ideal) s m (ix2 r j)) := by
  pointwise [k0_pay71, k0_pay69]
  simp only [exp2_def]
theorem sum16 (f : Fin 2048 → EReal) (j : Fin 128) (a : EReal) :
    a + f ⟨j.val, by omega⟩ + f ⟨128 + j.val, by omega⟩ + f ⟨256 + j.val, by omega⟩ + f ⟨384 + j.val, by omega⟩ + f ⟨512 + j.val, by omega⟩
      + f ⟨640 + j.val, by omega⟩ + f ⟨768 + j.val, by omega⟩ + f ⟨896 + j.val, by omega⟩ + f ⟨1024 + j.val, by omega⟩ + f ⟨1152 + j.val, by omega⟩
      + f ⟨1280 + j.val, by omega⟩ + f ⟨1408 + j.val, by omega⟩ + f ⟨1536 + j.val, by omega⟩ + f ⟨1664 + j.val, by omega⟩ + f ⟨1792 + j.val, by omega⟩
      + f ⟨1920 + j.val, by omega⟩ = a + ∑ i : Fin 16, f ⟨128 * i.val + j.val, by omega⟩ := by
  simp only [Fin.sum_univ_succ, Fin.sum_univ_zero, ← add_assoc, add_zero]
  simp
  try rfl
theorem pay77_at (s : FVec Ideal S24x2048 .f32) (m l : FVec Ideal S1x24x128 .f32) (r : Fin 24) (j : Fin 128) :
  k0_pay77 (k0_pay73 s m) (k0_pay75 (F := Ideal) s m l) (k0_pay76 s m) (ix3 0 r j) =
    l (ix3 0 r j) * Ideal.exp2 (m (ix3 0 r j) - k0_pay70 (F := Ideal) s m (ix2 r j))
      + ∑ i : Fin 16, Ideal.exp2 (s (ix2 r ⟨128 * i.val + j.val, by omega⟩) - k0_pay70 (F := Ideal) s m (ix2 r 0)) := by
  rw [← sum16 (fun t => Ideal.exp2 (s (ix2 r t) - k0_pay70 (F := Ideal) s m (ix2 r 0)))]
  pointwise [k0_pay75, k0_pay77, k0_pay76, pay71_at, pay73_at]
theorem pay78_at (s : FVec Ideal S24x2048 .f32) (m : FVec Ideal S1x24x128 .f32) (vs : FVec Ideal S1x1x2048 .f32) (v : FVec Ideal S1x1x160x2048 .fp8e4m3) (a : FVec Ideal S1x24x160 .f32) (r : Fin 24) (d : Fin 160) :
  k0_pay78 (k0_pay71 s m) (k0_pay74 (F := Ideal) s m vs) v a (ix3 0 r d) =
    a (ix3 0 r d) * Ideal.exp2 (m (ix3 0 r 0) - k0_pay70 (F := Ideal) s m (ix2 r 0))
      + ∑ t : Fin 2048, (Ideal.exp2 (s (ix2 r t) - k0_pay70 (F := Ideal) s m (ix2 r 0)) * vs (ix3 0 0 t)) * v (ix4 0 0 d t) := by
  pointwise [k0_pay78, k0_pay74, pay71_at, pay73_at]
theorem pay156_at (l : FVec Ideal S1x24x128 .f32) (a : FVec Ideal S1x24x160 .f32) (r : Fin 24) (d : Fin 160) :
  k0_pay156 (F := Ideal) l a (ix4 0 0 r d) = a (ix3 0 r d) * Ideal.div 1 (∑ j : Fin 128, l (ix3 0 r j)) := by
  pointwise [k0_pay156]
end Cert.KernelIdeal.Pay
-- ==== Proof.IdealStep.lean ====
/-
  The state the kernel starts a sequence with, the state after one more block, and the output of a finished state, read at an index.
-/
module
public import proofs.«01_k».proof.Proof.IdealPay
@[expose] public section
set_option maxRecDepth 16384
noncomputable section
namespace Cert.KernelIdeal.Pay
open Idealize.ShloMosaic Idealize.ShloMosaic.TcCoe Idealize.SL.Sem
open Cert.KernelIdeal Cert.KernelIdeal.Gen Cert.KernelIdeal.Body

section
variable {F : FTy → Type} [FloatOps F] [Named F] (w : BitVec 32) (X2 : Vec F S1x8x24x160 .bf16) (X3 X4 : Vec F S1x8x128x160 .bf16) (X5 X6 : Vec F S1x8x160x2048 .fp8e4m3)
  (X7 X8 : Vec F S1x8x2048 .f32) (s : St F)
theorem startSt_m : (startSt X2 X3 X4).m = glueM fun h => k0_pay5 (ldQ X2 h) (ldN X3 h) := by unfold startSt; rfl
theorem startSt_l : (startSt X2 X3 X4).l = glueM fun h => k0_pay6 (ldQ X2 h) (ldN X3 h) := by unfold startSt; rfl
theorem startSt_a : (startSt X2 X3 X4).a = glueA fun h => k0_pay8 (k0_pay7 (ldQ X2 h) (ldN X3 h)) (ldN X4 h) := by unfold startSt; rfl
theorem stepSt_m : (stepSt w X2 X5 X6 X7 X8 s).m = glueM fun h => k0_pay72 (score w (ldQ X2 h) (ldK X5 h) (ldS X7 h)) (ldM s.m h) := by unfold stepSt; rfl
theorem stepSt_l : (stepSt w X2 X5 X6 X7 X8 s).l = glueM fun h => k0_pay77 (k0_pay73 (score w (ldQ X2 h) (ldK X5 h) (ldS X7 h)) (ldM s.m h))
    (k0_pay75 (score w (ldQ X2 h) (ldK X5 h) (ldS X7 h)) (ldM s.m h) (ldM s.l h))
    (k0_pay76 (score w (ldQ X2 h) (ldK X5 h) (ldS X7 h)) (ldM s.m h)) := by unfold stepSt; rfl
theorem stepSt_a : (stepSt w X2 X5 X6 X7 X8 s).a = glueA fun h => k0_pay78 (k0_pay71 (score w (ldQ X2 h) (ldK X5 h) (ldS X7 h)) (ldM s.m h))
    (k0_pay74 (score w (ldQ X2 h) (ldK X5 h) (ldS X7 h)) (ldM s.m h) (ldS X8 h)) (ldK X6 h) (ldA s.a h) := by unfold stepSt; rfl
end

variable (w : BitVec 32) (X2 : FVec Ideal S1x8x24x160 .bf16) (X3 X4 : FVec Ideal S1x8x128x160 .bf16) (X5 X6 : FVec Ideal S1x8x160x2048 .fp8e4m3)
  (X7 X8 : FVec Ideal S1x8x2048 .f32) (s : St Ideal) (k : Fin 8) (r : Fin 24) (d : Fin 160) (j : Fin 128)

/-- A block's scores for one head. -/
abbrev scr : FVec Ideal S24x2048 .f32 := score (F := Ideal) w (ldQ (F := Ideal) X2 k) (ldK (F := Ideal) X5 k) (ldS (F := Ideal) X7 k)
/-- The new keys' scores for one head. -/
abbrev scn : FVec Ideal S24x128 .f32 := k0_pay2 (F := Ideal) (ldQ (F := Ideal) X2 k) (ldN (F := Ideal) X3 k)
abbrev stM : FVec Ideal S8x24x128 .f32 := s.m
abbrev stL : FVec Ideal S8x24x128 .f32 := s.l
abbrev stA : FVec Ideal S8x24x160 .f32 := s.a

theorem start_m : stM (startSt (F := Ideal) X2 X3 X4) (ix3 k r j) = Finset.univ.sup fun j => scn X2 X3 k (ix2 r j) := by
  unfold stM
  rw [startSt_m]
  refine (glueM_at _ k r j).trans ?_
  rw [pay5_at]
theorem start_l : stL (startSt (F := Ideal) X2 X3 X4) (ix3 k r j) = Ideal.exp2 (scn X2 X3 k (ix2 r j) - Finset.univ.sup fun j => scn X2 X3 k (ix2 r j)) := by
  unfold stL
  rw [startSt_l]
  refine (glueM_at _ k r j).trans ?_
  rw [pay6_at]
theorem start_a : stA (startSt (F := Ideal) X2 X3 X4) (ix3 k r d)
    = ∑ j : Fin 128, Ideal.exp2 (scn X2 X3 k (ix2 r j) - Finset.univ.sup fun j => scn X2 X3 k (ix2 r j)) * X4 (ix4 0 k j d) := by
  unfold stA
  rw [startSt_a]
  refine (glueA_at _ k r d).trans ?_
  rw [pay8_at]
  exact Finset.sum_congr rfl fun j _ => congrArg (_ * ·) (ldN_at _ k j d)

theorem step_m70 : stM (stepSt (F := Ideal) w X2 X5 X6 X7 X8 s) (ix3 k r j) = k0_pay70 (F := Ideal) (scr w X2 X5 X7 k) (ldM (F := Ideal) s.m k) (ix2 r j) := by
  unfold stM
  rw [stepSt_m]
  refine (glueM_at _ k r j).trans ?_
  rw [pay72_at]
theorem step_m : stM (stepSt (F := Ideal) w X2 X5 X6 X7 X8 s) (ix3 k r j) = max (stM s (ix3 k r j)) (Finset.univ.sup fun t : Fin 2048 => scr w X2 X5 X7 k (ix2 r t)) := by
  rw [step_m70, pay70_at, ldM_at]
theorem step_l : stL (stepSt (F := Ideal) w X2 X5 X6 X7 X8 s) (ix3 k r j)
    = stL s (ix3 k r j) * Ideal.exp2 (stM s (ix3 k r j) - stM (stepSt (F := Ideal) w X2 X5 X6 X7 X8 s) (ix3 k r j))
      + ∑ i : Fin 16, Ideal.exp2 (scr w X2 X5 X7 k (ix2 r ⟨128 * i.val + j.val, by omega⟩) - stM (stepSt (F := Ideal) w X2 X5 X6 X7 X8 s) (ix3 k r 0)) := by
  rw [step_m70, step_m70]
  unfold stL
  rw [stepSt_l]
  refine (glueM_at _ k r j).trans ?_
  rw [pay77_at, ldM_at, ldM_at]
theorem step_a : stA (stepSt (F := Ideal) w X2 X5 X6 X7 X8 s) (ix3 k r d)
    = stA s (ix3 k r d) * Ideal.exp2 (stM s (ix3 k r 0) - stM (stepSt (F := Ideal) w X2 X5 X6 X7 X8 s) (ix3 k r 0))
      + ∑ t : Fin 2048, (Ideal.exp2 (scr w X2 X5 X7 k (ix2 r t) - stM (stepSt (F := Ideal) w X2 X5 X6 X7 X8 s) (ix3 k r 0)) * X8 (ix3 0 k t)) * X6 (ix4 0 k d t) := by
  rw [step_m70]
  unfold stA
  rw [stepSt_a]
  refine (glueA_at _ k r d).trans ?_
  rw [pay78_at, ldM_at, ldA_at]
  refine congrArg (_ + ·) (Finset.sum_congr rfl fun t _ => ?_)
  rw [ldS_at, ldK_at]
theorem out_at : (outV (F := Ideal) s : FVec Ideal S1x8x24x160 .bf16) (ix4 0 k r d) = stA s (ix3 k r d) * Ideal.div 1 (∑ j : Fin 128, stL s (ix3 k r j)) := by
  show glueO (F := Ideal) (fun h => k0_pay156 (F := Ideal) (ldM (F := Ideal) s.l h) (ldA (F := Ideal) s.a h)) (ix4 0 k r d) = _
  rw [glueO_at, pay156_at, ldA_at]
  exact congrArg (fun z => _ * Ideal.div 1 z) (Finset.sum_congr rfl fun j _ => ldM_at _ k r j)
end Cert.KernelIdeal.Pay
-- ==== Proof.Softmax.lean ====
/-
  The running softmax is the softmax.  A running softmax takes blocks of scores one after the other and keeps the greatest score so far, the
  sums of the exponentials of the scores less the greatest, and the sums of the exponentials times the values, rescaling both sums when the
  greatest score grows.  `running_eq` says that dividing the second sum by the first at the end gives the softmax over all scores at once, over
  the extended reals, for any scores at all.
-/
module

public import Idealize.ShloMosaic.PureOps.Ideal
public import Mathlib.Algebra.BigOperators.Fin
public import Mathlib.Analysis.SpecialFunctions.Pow.Real

@[expose] public section
noncomputable section
namespace Cert.Softmax
open Idealize.ShloMosaic Finset

/-- `1 / log 2`, which turns an exponential into a power of two. -/
def lg : ℝ := (Real.log 2)⁻¹
theorem lg_pos : 0 < lg := inv_pos.2 (Real.log_pos (by norm_num))

theorem rpow_lg (x : ℝ) : Real.rpow 2 (x * lg) = Real.exp x := by
  show (2 : ℝ) ^ (x * lg) = _
  rw [Real.rpow_def_of_pos (by norm_num), lg]
  congr 1
  have : Real.log 2 ≠ 0 := (Real.log_pos (by norm_num)).ne'
  field_simp

theorem exp2_mul_lg (x : EReal) : Ideal.exp2 (x * (lg : EReal)) = Ideal.exp x := by
  induction x with
  | bot => rw [EReal.bot_mul_coe_of_pos lg_pos]; rfl
  | top => rw [EReal.top_mul_coe_of_pos lg_pos]; rfl
  | coe r => rw [← EReal.coe_mul, Ideal.exp2_coe, Ideal.exp_coe, rpow_lg]

/-- An exponential of a difference in the scaled scores. -/
theorem exp2_scale (s m : EReal) : Ideal.exp2 (s * (lg : EReal) - m * (lg : EReal)) = Ideal.exp (s - m) := by
  rw [← exp2_mul_lg]
  congr 1
  rw [sub_eq_add_neg, sub_eq_add_neg, EReal.right_distrib_of_nonneg_of_ne_top (by exact_mod_cast lg_pos.le) (EReal.coe_ne_top _), EReal.neg_mul]

/-- Below the greatest score the exponential is a real number. -/
theorem exp_real {s m : EReal} (h : s ≤ m) : ∃ r : ℝ, 0 ≤ r ∧ Ideal.exp (s - m) = r := by
  induction m with
  | bot => rw [le_bot_iff.1 h]; exact ⟨0, le_rfl, rfl⟩
  | top => refine ⟨0, le_rfl, ?_⟩; induction s <;> rfl
  | coe m =>
    induction s with
    | bot => exact ⟨0, le_rfl, rfl⟩
    | top => exact absurd h (by simp)
    | coe s => exact ⟨Real.exp (s - m), (Real.exp_pos _).le, rfl⟩

/-- The rescaling. -/
theorem exp_shift {s m m' : EReal} (h : s ≤ m) (h' : m ≤ m') : Ideal.exp (s - m) * Ideal.exp (m - m') = Ideal.exp (s - m') := by
  induction m' with
  | bot => obtain rfl := le_bot_iff.1 h'; obtain rfl := le_bot_iff.1 h; exact mul_zero _
  | top =>
    have e : ∀ x : EReal, Ideal.exp (x - ⊤) = 0 := fun x => by induction x <;> rfl
    rw [e, e, mul_zero]
  | coe m' =>
    induction m with
    | bot => obtain rfl := le_bot_iff.1 h; exact mul_zero _
    | top => exact absurd h' (by simp)
    | coe m =>
      induction s with
      | bot => exact zero_mul _
      | top => exact absurd h (by simp)
      | coe s =>
        rw [← EReal.coe_sub, ← EReal.coe_sub, ← EReal.coe_sub, Ideal.exp_coe, Ideal.exp_coe, Ideal.exp_coe, ← EReal.coe_mul, ← Real.exp_add]
        congr 2; ring

theorem exp_bot_sub (m : EReal) : Ideal.exp (⊥ - m) = 0 := by rw [EReal.bot_sub]; rfl

/-- A sum times a nonnegative real. -/
theorem sum_mul_real {ι : Type} (S : Finset ι) (f : ι → EReal) {r : ℝ} (hr : 0 ≤ r) : (∑ i ∈ S, f i) * (r : EReal) = ∑ i ∈ S, f i * (r : EReal) := by
  classical
  induction S using Finset.induction_on with
  | empty => simp
  | insert a S ha ih =>
    rw [sum_insert ha, sum_insert ha, EReal.right_distrib_of_nonneg_of_ne_top (by exact_mod_cast hr) (EReal.coe_ne_top _), ih]

/-- A weighted sum of exponentials rescaled to a greater score. -/
theorem sum_shift {ι : Type} (S : Finset ι) (f w : ι → EReal) {m m' : EReal} (h : ∀ i ∈ S, f i ≤ m) (h' : m ≤ m') :
    (∑ i ∈ S, Ideal.exp (f i - m) * w i) * Ideal.exp (m - m') = ∑ i ∈ S, Ideal.exp (f i - m') * w i := by
  obtain ⟨r, hr, e⟩ := exp_real h'
  rw [e, sum_mul_real S _ hr]
  refine sum_congr rfl fun i hi => ?_
  rw [mul_right_comm, ← e, exp_shift (h i hi) h']

theorem sum_range_tail {f : ℕ → EReal} {a b : ℕ} (hab : a ≤ b) (h : ∀ t, a ≤ t → f t = 0) : ∑ t ∈ range b, f t = ∑ t ∈ range a, f t :=
  (sum_subset (range_mono hab) fun t _ ht => h t (by simpa using ht)).symm

theorem sup_range_tail {f : ℕ → EReal} {a b : ℕ} (hab : a ≤ b) (h : ∀ t, a ≤ t → f t = ⊥) : (range b).sup f = (range a).sup f := by
  refine le_antisymm (Finset.sup_le fun t _ => ?_) (sup_mono (range_mono hab))
  by_cases ht : t < a
  · exact le_sup (f := f) (mem_range.2 ht)
  · rw [h t (by omega)]; exact bot_le

theorem sup_univ_range (n : ℕ) (f : ℕ → EReal) : (univ : Finset (Fin n)).sup (fun i => f i.val) = (range n).sup f :=
  le_antisymm (Finset.sup_le fun i _ => le_sup (f := f) (mem_range.2 i.isLt))
    (Finset.sup_le fun t ht => le_sup (f := fun i : Fin n => f i.val) (mem_univ ⟨t, mem_range.1 ht⟩))

theorem lg_mono : Monotone fun x : EReal => x * (lg : EReal) :=
  fun _ _ hab => mul_le_mul_of_nonneg_right hab (by exact_mod_cast lg_pos.le)

theorem sup_mul_lg {ι : Type} (S : Finset ι) (f : ι → EReal) : (S.sup fun i => f i * (lg : EReal)) = S.sup f * (lg : EReal) := by
  refine (comp_sup_eq_sup_comp_of_is_total (fun x : EReal => x * (lg : EReal)) lg_mono ?_).symm
  exact EReal.bot_mul_coe_of_pos lg_pos

theorem sup_range_block (n k : ℕ) (f : ℕ → EReal) : (range (n * (k + 1))).sup f = (range (n * k)).sup f ⊔ (range n).sup fun t => f (n * k + t) := by
  refine le_antisymm (Finset.sup_le fun t ht => ?_) (sup_le (sup_mono (range_mono (by rw [Nat.mul_succ]; omega))) (Finset.sup_le fun t ht => ?_))
  · rw [mem_range, Nat.mul_succ] at ht
    by_cases h : t < n * k
    · exact le_sup_of_le_left (le_sup (f := f) (mem_range.2 h))
    · refine le_sup_of_le_right ?_
      have := le_sup (f := fun t => f (n * k + t)) (mem_range.2 (show t - n * k < n by omega))
      simpa [show n * k + (t - n * k) = t by omega] using this
  · rw [mem_range] at ht
    exact le_sup (f := f) (mem_range.2 (by rw [Nat.mul_succ]; omega))

theorem sum_range_block (n k : ℕ) (f : ℕ → EReal) : ∑ t ∈ range (n * (k + 1)), f t = ∑ t ∈ range (n * k), f t + ∑ t ∈ range n, f (n * k + t) := by
  rw [Nat.mul_succ, sum_range_add]

theorem sum_lanes (n k : ℕ) (f : ℕ → EReal) : ∑ j ∈ range n, ∑ i ∈ range k, f (n * i + j) = ∑ t ∈ range (n * k), f t := by
  induction k with
  | zero => simp
  | succ k ih => rw [sum_range_block, ← ih, ← sum_add_distrib]; exact sum_congr rfl fun j _ => sum_range_succ _ _

theorem coe_sum (S : Finset ℕ) (f : ℕ → ℝ) : ((∑ t ∈ S, f t : ℝ) : EReal) = ∑ t ∈ S, (f t : EReal) := by
  classical
  induction S using Finset.induction_on with
  | empty => simp
  | insert a S ha ih => rw [sum_insert ha, sum_insert ha, EReal.coe_add, ih]

/-- Dividing the weighted sum by the sum of the weights is weighting with the divided weights. -/
theorem quotient (S T : Finset ℕ) (fp fc : ℕ → ℝ) (vs v vn : ℕ → EReal) (hfp : ∀ t, 0 ≤ fp t) (hfc : ∀ j, 0 ≤ fc j) :
    ((∑ t ∈ S, (fp t : EReal) * (vs t * v t)) + ∑ j ∈ T, (fc j : EReal) * vn j) * Ideal.div 1 ((∑ t ∈ S, (fp t : EReal)) + ∑ j ∈ T, (fc j : EReal))
      = (∑ t ∈ S, v t * (((fp t : EReal) * Ideal.div 1 ((∑ t ∈ S, (fp t : EReal)) + ∑ j ∈ T, (fc j : EReal))) * vs t))
        + ∑ j ∈ T, vn j * ((fc j : EReal) * Ideal.div 1 ((∑ t ∈ S, (fp t : EReal)) + ∑ j ∈ T, (fc j : EReal))) := by
  have eD : (∑ t ∈ S, (fp t : EReal)) + ∑ j ∈ T, (fc j : EReal) = (((∑ t ∈ S, fp t) + ∑ j ∈ T, fc j : ℝ) : EReal) := by
    rw [EReal.coe_add, coe_sum, coe_sum]
  rw [eD]
  generalize hD : (∑ t ∈ S, fp t) + ∑ j ∈ T, fc j = D
  by_cases h0 : D = 0
  · have s1 := sum_nonneg fun t (_ : t ∈ S) => hfp t
    have s2 := sum_nonneg fun j (_ : j ∈ T) => hfc j
    have z1 := (sum_eq_zero_iff_of_nonneg fun t (_ : t ∈ S) => hfp t).1 (by linarith)
    have z2 := (sum_eq_zero_iff_of_nonneg fun j (_ : j ∈ T) => hfc j).1 (by linarith)
    rw [sum_eq_zero fun t ht => by rw [z1 t ht, EReal.coe_zero, zero_mul], sum_eq_zero fun j hj => by rw [z2 j hj, EReal.coe_zero, zero_mul],
      sum_eq_zero fun t ht => by rw [z1 t ht, EReal.coe_zero, zero_mul, zero_mul, mul_zero], sum_eq_zero fun j hj => by rw [z2 j hj, EReal.coe_zero, zero_mul, mul_zero],
      add_zero, zero_mul]
  · have hpos : 0 ≤ 1 / D := by
      rw [← hD]
      exact one_div_nonneg.2 (add_nonneg (sum_nonneg fun t _ => hfp t) (sum_nonneg fun j _ => hfc j))
    rw [Ideal.div_coe h0, one_mul, EReal.right_distrib_of_nonneg_of_ne_top (by exact_mod_cast hpos) (EReal.coe_ne_top _), sum_mul_real _ _ hpos, sum_mul_real _ _ hpos]
    congr 1
    · refine sum_congr rfl fun t _ => ?_
      ac_rfl
    · refine sum_congr rfl fun j _ => ?_
      ac_rfl

section
variable (cs ps vn vs v : ℕ → EReal)

/-- The greatest score of the new keys and of the first `k` blocks. -/
def top (k : ℕ) : EReal := (range 128).sup cs ⊔ (range (2048 * k)).sup ps

theorem cs_le_top {j k : ℕ} (hj : j < 128) : cs j ≤ top cs ps k := le_sup_of_le_left (le_sup (f := cs) (mem_range.2 hj))
theorem ps_le_top {t k : ℕ} (ht : t < 2048 * k) : ps t ≤ top cs ps k := le_sup_of_le_right (le_sup (f := ps) (mem_range.2 ht))
theorem top_mono (k : ℕ) : top cs ps k ≤ top cs ps (k + 1) := sup_le_sup_left (sup_mono (range_mono (by omega))) _

/-- The softmax over all scores at once: five new keys, 65536 earlier ones. -/
def whole : EReal :=
  let M := (range 65536).sup ps ⊔ (range 5).sup cs
  let d := Ideal.div 1 ((∑ t ∈ range 65536, Ideal.exp (ps t - M)) + ∑ j ∈ range 5, Ideal.exp (cs j - M))
  (∑ t ∈ range 65536, v t * ((Ideal.exp (ps t - M) * d) * vs t)) + ∑ j ∈ range 5, vn j * (Ideal.exp (cs j - M) * d)

/-- The running softmax over `n` blocks, started with the new keys, is the softmax over all scores, if no later block has a score. -/
theorem running_eq (n : ℕ) (hn : n ≤ 32) (hc : ∀ j, 5 ≤ j → cs j = ⊥) (hp : ∀ t, 2048 * n ≤ t → ps t = ⊥)
    (m l : ℕ → ℕ → EReal) (a : ℕ → EReal)
    (hm0 : ∀ j, j < 128 → m 0 j = (range 128).sup fun j => cs j * (lg : EReal))
    (hl0 : ∀ j, j < 128 → l 0 j = Ideal.exp2 (cs j * (lg : EReal) - m 0 0))
    (ha0 : a 0 = ∑ j ∈ range 128, Ideal.exp2 (cs j * (lg : EReal) - m 0 0) * vn j)
    (hm : ∀ k, k < n → ∀ j, j < 128 → m (k + 1) j = max (m k j) ((range 2048).sup fun t => ps (2048 * k + t) * (lg : EReal)))
    (hl : ∀ k, k < n → ∀ j, j < 128 → l (k + 1) j = l k j * Ideal.exp2 (m k j - m (k + 1) j)
      + ∑ i ∈ range 16, Ideal.exp2 (ps (2048 * k + (128 * i + j)) * (lg : EReal) - m (k + 1) 0))
    (ha : ∀ k, k < n → a (k + 1) = a k * Ideal.exp2 (m k 0 - m (k + 1) 0)
      + ∑ t ∈ range 2048, (Ideal.exp2 (ps (2048 * k + t) * (lg : EReal) - m (k + 1) 0) * vs (2048 * k + t)) * v (2048 * k + t)) :
    a n * Ideal.div 1 (∑ j ∈ range 128, l n j) = whole cs ps vn vs v := by
  have im : ∀ k, k ≤ n → ∀ j, j < 128 → m k j = top cs ps k * (lg : EReal) := by
    intro k
    induction k with
    | zero => intro _ j hj; rw [hm0 j hj, sup_mul_lg]; simp [top]
    | succ k ih =>
      intro hk j hj
      rw [hm k hk j hj, ih (by omega) j hj, sup_mul_lg, top, top, sup_range_block, ← sup_assoc]
      exact (lg_mono.map_sup _ _).symm
  have il : ∀ k, k ≤ n → ∀ j, j < 128 → l k j = Ideal.exp (cs j - top cs ps k) + ∑ i ∈ range (16 * k), Ideal.exp (ps (128 * i + j) - top cs ps k) := by
    intro k
    induction k with
    | zero => intro _ j hj; rw [hl0 j hj, im 0 (by omega) 0 (by omega), exp2_scale]; simp
    | succ k ih =>
      intro hk j hj
      rw [hl k hk j hj, ih (by omega) j hj, im k (by omega) j hj, im (k + 1) hk j hj, im (k + 1) hk 0 (by omega)]
      simp only [exp2_scale]
      obtain ⟨r, hr, e⟩ := exp_real (top_mono cs ps k)
      have h1 := exp_shift (cs_le_top cs ps (k := k) hj) (top_mono cs ps k)
      have h2 := sum_shift (range (16 * k)) (fun i => ps (128 * i + j)) (fun _ => 1) (m := top cs ps k) (m' := top cs ps (k + 1))
        (fun i hi => ps_le_top cs ps (by rw [mem_range] at hi; omega)) (top_mono cs ps k)
      simp only [mul_one] at h2
      rw [e] at h1 h2 ⊢
      rw [EReal.right_distrib_of_nonneg_of_ne_top (by exact_mod_cast hr) (EReal.coe_ne_top _), h1, h2, sum_range_block, ← add_assoc]
      congr 1
      refine sum_congr rfl fun i _ => ?_
      congr 3; ring
  have ia : ∀ k, k ≤ n → a k = ∑ j ∈ range 128, Ideal.exp (cs j - top cs ps k) * vn j + ∑ t ∈ range (2048 * k), Ideal.exp (ps t - top cs ps k) * (vs t * v t) := by
    intro k
    induction k with
    | zero => intro _; rw [ha0, im 0 (by omega) 0 (by omega)]; simp [exp2_scale]
    | succ k ih =>
      intro hk
      rw [ha k hk, ih (by omega), im k (by omega) 0 (by omega), im (k + 1) hk 0 (by omega)]
      simp only [exp2_scale]
      obtain ⟨r, hr, e⟩ := exp_real (top_mono cs ps k)
      have h1 := sum_shift (range 128) cs vn (m := top cs ps k) (m' := top cs ps (k + 1)) (fun j hj => cs_le_top cs ps (mem_range.1 hj)) (top_mono cs ps k)
      have h2 := sum_shift (range (2048 * k)) ps (fun t => vs t * v t) (m := top cs ps k) (m' := top cs ps (k + 1))
        (fun t ht => ps_le_top cs ps (mem_range.1 ht)) (top_mono cs ps k)
      rw [e] at h1 h2 ⊢
      rw [EReal.right_distrib_of_nonneg_of_ne_top (by exact_mod_cast hr) (EReal.coe_ne_top _), h1, h2, sum_range_block, ← add_assoc]
      congr 1
      exact sum_congr rfl fun t _ => mul_assoc _ _ _
  set M := top cs ps n with hM
  have eM : (range 65536).sup ps ⊔ (range 5).sup cs = M := by
    rw [hM, top, sup_range_tail (show 2048 * n ≤ 65536 by omega) hp, sup_range_tail (show 5 ≤ 128 by omega) hc, sup_comm]
  have zc : ∀ j, 5 ≤ j → Ideal.exp (cs j - M) = 0 := fun j hj => by rw [hc j hj, exp_bot_sub]
  have zp : ∀ t, 2048 * n ≤ t → Ideal.exp (ps t - M) = 0 := fun t ht => by rw [hp t ht, exp_bot_sub]
  have sl : ∑ j ∈ range 128, l n j = (∑ t ∈ range 65536, Ideal.exp (ps t - M)) + ∑ j ∈ range 5, Ideal.exp (cs j - M) := by
    rw [sum_congr rfl fun j hj => il n le_rfl j (mem_range.1 hj), sum_add_distrib, sum_lanes 128 (16 * n) fun t => Ideal.exp (ps t - M),
      sum_range_tail (show 5 ≤ 128 by omega) zc, sum_range_tail (show 2048 * n ≤ 65536 by omega) zp, add_comm, show 128 * (16 * n) = 2048 * n by omega]
  have sa : a n = (∑ t ∈ range 65536, Ideal.exp (ps t - M) * (vs t * v t)) + ∑ j ∈ range 5, Ideal.exp (cs j - M) * vn j := by
    rw [ia n le_rfl, sum_range_tail (show 5 ≤ 128 by omega) (fun j hj => by rw [zc j hj, zero_mul]),
      sum_range_tail (show 2048 * n ≤ 65536 by omega) (fun t ht => by rw [zp t ht, zero_mul]), add_comm]
  have rc : ∀ j, ∃ r : ℝ, 0 ≤ r ∧ Ideal.exp (cs j - M) = r := fun j => by
    by_cases hj : j < 128
    · exact exp_real (cs_le_top cs ps hj)
    · exact ⟨0, le_rfl, zc j (by omega)⟩
  have rp : ∀ t, ∃ r : ℝ, 0 ≤ r ∧ Ideal.exp (ps t - M) = r := fun t => by
    by_cases ht : t < 2048 * n
    · exact exp_real (ps_le_top cs ps ht)
    · exact ⟨0, le_rfl, zp t (by omega)⟩
  choose fc hfc ec using rc
  choose fp hfp ep using rp
  unfold whole
  simp only [eM]
  rw [sl, sa]
  simp only [ec, ep]
  exact quotient (range 65536) (range 5) fp fc vs v vn hfp hfc
end
end Cert.Softmax
-- ==== Proof.Attention.lean ====
/-
  Attention of one query over the cached positions and the new keys, as mathematics: the scores of both parts and the output coordinate.
-/
module
public import proofs.«01_k».proof.Proof.Softmax
@[expose] public section
noncomputable section
namespace Cert.Softmax
open Idealize.ShloMosaic Finset

/-- The factor the scores carry: one over the root of the head's width. -/
def rt : ℝ := (Real.sqrt 160)⁻¹

/-- A function of an index below `n` as a function of every number: zero from `n` on. -/
def ext {n : ℕ} (f : Fin n → EReal) (t : ℕ) : EReal := if h : t < n then f ⟨t, h⟩ else 0

/-- The query's score at cached position `t`: the first `w` positions count. -/
def oldS (q : Fin 160 → EReal) (K : Fin 65536 → Fin 160 → EReal) (S : Fin 65536 → EReal) (w : BitVec 32) (t : ℕ) : EReal :=
  if h : t < 65536 then if (t : ℤ) < w.toInt then (∑ x, q x * K ⟨t, h⟩ x) * (S ⟨t, h⟩ * (rt : EReal)) else ⊥ else ⊥

/-- The score of the query of draft token `i` at draft token `j`: only those not after it count. -/
def newS (q : Fin 160 → EReal) (K : Fin 5 → Fin 160 → EReal) (i : Fin 5) (j : ℕ) : EReal :=
  if h : j < 5 then if j ≤ i.val then (∑ x, q x * K ⟨j, h⟩ x) * (rt : EReal) else ⊥ else ⊥

/-- One coordinate of the query's output. -/
def attn (q : Fin 160 → EReal) (K : Fin 65536 → Fin 160 → EReal) (S : Fin 65536 → EReal) (w : BitVec 32) (Kn : Fin 5 → Fin 160 → EReal) (i : Fin 5)
    (vn : Fin 5 → EReal) (vs v : Fin 65536 → EReal) : EReal :=
  whole (newS q Kn i) (oldS q K S w) (ext vn) (ext vs) (ext v)

/-- The output coordinate depends on each of its arguments only where it is read. -/
theorem whole_congr {cs cs' ps ps' vn vn' vs vs' v v' : ℕ → EReal} (hc : ∀ j, j < 5 → cs j = cs' j) (hp : ∀ t, t < 65536 → ps t = ps' t)
    (hn : ∀ j, j < 5 → vn j = vn' j) (hs : ∀ t, t < 65536 → vs t = vs' t) (hv : ∀ t, t < 65536 → v t = v' t) :
    whole cs ps vn vs v = whole cs' ps' vn' vs' v' := by
  have e1 : (range 65536).sup ps = (range 65536).sup ps' := sup_congr rfl fun t ht => hp t (mem_range.1 ht)
  have e2 : (range 5).sup cs = (range 5).sup cs' := sup_congr rfl fun t ht => hc t (mem_range.1 ht)
  have e3 (M : EReal) : ∑ t ∈ range 65536, Ideal.exp (ps t - M) = ∑ t ∈ range 65536, Ideal.exp (ps' t - M) :=
    sum_congr rfl fun t ht => by rw [hp t (mem_range.1 ht)]
  have e4 (M : EReal) : ∑ j ∈ range 5, Ideal.exp (cs j - M) = ∑ j ∈ range 5, Ideal.exp (cs' j - M) :=
    sum_congr rfl fun t ht => by rw [hc t (mem_range.1 ht)]
  unfold whole
  dsimp only
  rw [e1, e2, e3, e4]
  refine congrArg₂ (· + ·) (sum_congr rfl fun t ht => ?_) (sum_congr rfl fun t ht => ?_)
  · rw [hp t (mem_range.1 ht), hs t (mem_range.1 ht), hv t (mem_range.1 ht)]
  · rw [hc t (mem_range.1 ht), hn t (mem_range.1 ht)]

theorem sum_univ_ext {n : ℕ} (f : Fin n → EReal) (g : ℕ → EReal) (h : ∀ i : Fin n, f i = g i.val) : ∑ i, f i = ∑ t ∈ range n, g t := by
  rw [← Fin.sum_univ_eq_sum_range]; exact sum_congr rfl fun i _ => h i
theorem sup_univ_ext {n : ℕ} (f : Fin n → EReal) (g : ℕ → EReal) (h : ∀ i : Fin n, f i = g i.val) : univ.sup f = (range n).sup g := by
  rw [← sup_univ_range]; exact sup_congr rfl fun i _ => h i
theorem ext_val {n : ℕ} (f : Fin n → EReal) (i : Fin n) : ext f i.val = f i := dif_pos i.isLt
end Cert.Softmax
-- ==== Proof.IdealValue.lean ====
/-
  The kernel's state after each block of a sequence, at an index, and the sequence's output.
-/
module
public import proofs.«01_k».proof.Proof.IdealHost
public import proofs.«01_k».proof.Proof.IdealStep
public import proofs.«01_k».proof.Proof.Attention
@[expose] public section
set_option maxRecDepth 16384
noncomputable section
namespace Cert.KernelIdeal.Host
open Idealize.ShloMosaic Idealize.ShloMosaic.TcCoe Idealize.ShloMosaic.Tactic Idealize.SL.Sem
open Cert.KernelIdeal Cert.KernelIdeal.Gen Cert.KernelIdeal.Body Cert.KernelIdeal.Pay

variable (m : (ℓ : Loc nD τ sig) → Buf (Elt Ideal) ℓ) (c : Dev nD)

/-- The first point of a sequence. -/
noncomputable def s0 (b : Fin 3) : ℕ := if b.val = 0 then 0 else if b.val = 1 then Words.nb (len m 0 0) else Words.nb (len m 0 0) + Words.nb (len m 0 1)
/-- The number of a sequence's blocks. -/
abbrev nb (b : Fin 3) : ℕ := Words.nb (len m 0 b)

variable {m} in
theorem pt_facts (b : Fin 3) (k : ℕ) (hk : k < nb m b) : s0 m b + k < npts m 0 ∧ seqN m (s0 m b + k) = b.val ∧ blkN m (s0 m b + k) = k := by
  have p0 := Words.nb_pos (len m 0 0)
  have p1 := Words.nb_pos (len m 0 1)
  have p2 := Words.nb_pos (len m 0 2)
  unfold nb at hk
  unfold s0 npts seqN blkN Words.seqOf Words.startOf
  fin_cases b
  · have hk' : k < Words.nb (len m 0 0) := hk
    simp only [if_pos]
    refine ⟨by omega, ?_, ?_⟩
    · rw [if_neg (by omega), if_neg (by omega)]
    · rw [if_neg (by omega), if_neg (by omega)]; omega
  · have hk' : k < Words.nb (len m 0 1) := hk
    simp only [one_ne_zero, if_false, if_true]
    refine ⟨by omega, ?_, ?_⟩
    · rw [if_neg (by omega), if_pos (by omega)]
    · rw [if_neg (by omega), if_pos (by omega)]; omega
  · have hk' : k < Words.nb (len m 0 2) := hk
    simp only [show ¬ (2 = 0) by decide, show ¬ (2 = 1) by decide, if_false]
    refine ⟨by omega, ?_, ?_⟩
    · rw [if_pos (by omega)]
    · rw [if_pos (by omega)]; omega

variable (hfit : ∀ c j, (len m c j).toInt ≤ 65536)

/-- The point of a sequence's block. -/
noncomputable def pt (b : Fin 3) (k : ℕ) (hk : k < nb m b) : Fin (cfgM m hfit).N := ⟨s0 m b + k, lt_of_lt_of_eq (pt_facts b k hk).1 (cfg_N m hfit).symm⟩

include hfit in
/-- A sequence's blocks fill no more than the cache. -/
theorem blk_fits (b : Fin 3) (k : ℕ) (hk : k < nb m b) : 2048 * k + 2047 < 65536 := by
  have := Words.nb_le (hfit 0 b)
  unfold nb at hk; omega

include hfit in
/-- The positions of the point's block that count. -/
theorem fill_toInt (b : Fin 3) (k : ℕ) (hk : k < nb m b) :
    (fillW (BitVec.ofNat 32 (s0 m b + k)) (len m 0 0) (len m 0 1) (lenAt m (s0 m b + k))).toInt = (len m 0 b).toInt - 2048 * k := by
  obtain ⟨h1, h2, h3⟩ := pt_facts b k hk
  have hN := npts_le m hfit 0
  have hf := hfit 0 b
  have hnb := Words.nb_le hf
  have hkb : k < 32 := by unfold nb at hk; omega
  unfold fillW
  rw [Words.blkW_eq (hfit 0 0) (hfit 0 1) (by omega), show (s0 m b + k) - Words.startOf (Words.nb (len m 0 0)) (Words.nb (len m 0 1)) (s0 m b + k) = blkN m (s0 m b + k) from rfl, h3,
    show lenAt m (s0 m b + k) = len m 0 b from congrArg (len m 0) (Fin.ext h2)]
  have hm : Scalar.muli (BitVec.ofNat 32 k) 2048#32 = BitVec.ofNat 32 (2048 * k) := by
    show BitVec.ofNat 32 k * 2048#32 = _
    apply BitVec.eq_of_toNat_eq; simp [BitVec.toNat_mul]; omega
  rw [hm]
  show (len m 0 b - BitVec.ofNat 32 (2048 * k)).toInt = _
  have hk2 : (BitVec.ofNat 32 (2048 * k)).toInt = 2048 * k := by
    rw [BitVec.toInt_eq_toNat_cond, BitVec.toNat_ofNat]; split_ifs <;> omega
  rw [BitVec.toInt_sub, hk2]
  by_cases hk0 : k = 0
  · subst hk0
    rw [Nat.cast_zero, mul_zero, sub_zero]
    exact BitVec.toInt_bmod_cancel _
  · have hpos : 0 < (len m 0 b).toInt := by
      by_contra hn
      have : Words.nb (len m 0 b) = 1 := by unfold Words.nb; omega
      unfold nb at hk; omega
    rw [Int.bmod_eq_of_le] <;> omega

/-- A sequence's state before its block `k`. -/
noncomputable def sst (b : Fin 3) (k : ℕ) : St Ideal :=
  if k = 0 then startSt (iblk m hfit c 0 (pt m hfit b 0 (Words.nb_pos _))) (iblk m hfit c 1 (pt m hfit b 0 (Words.nb_pos _))) (iblk m hfit c 2 (pt m hfit b 0 (Words.nb_pos _)))
  else stN m hfit c (s0 m b + k)

/-- Each block is taken into it. -/
theorem sst_succ (b : Fin 3) (k : ℕ) (hk : k < nb m b) :
    sst m c hfit b (k + 1) = stepSt (fillW (BitVec.ofNat 32 (s0 m b + k)) (len m 0 0) (len m 0 1) (lenAt m (s0 m b + k))) (iblk m hfit c 0 (pt m hfit b k hk))
      (iblk m hfit c 3 (pt m hfit b k hk)) (iblk m hfit c 4 (pt m hfit b k hk)) (iblk m hfit c 5 (pt m hfit b k hk)) (iblk m hfit c 6 (pt m hfit b k hk)) (sst m c hfit b k) := by
  obtain ⟨h1, h2, h3⟩ := pt_facts b k hk
  have hs := isStart_iff m hfit h1
  rw [h3] at hs
  unfold sst
  rw [if_neg (Nat.succ_ne_zero k)]
  refine (stN_succ m hfit c (pt m hfit b k hk)).trans ?_
  unfold nextAt nextSt
  refine congrArg (stepSt _ _ _ _ _ _) ?_
  by_cases hk0 : k = 0
  · subst hk0
    rw [if_pos rfl]
    exact if_pos (hs.2 rfl)
  · rw [if_neg hk0]
    exact if_neg fun h => hk0 (hs.1 h)

theorem sst_zero (b : Fin 3) : sst m c hfit b 0 = startSt (iblk m hfit c 0 (pt m hfit b 0 (Words.nb_pos _))) (iblk m hfit c 1 (pt m hfit b 0 (Words.nb_pos _))) (iblk m hfit c 2 (pt m hfit b 0 (Words.nb_pos _))) :=
  if_pos rfl
theorem sst_last (b : Fin 3) : sst m c hfit b (nb m b) = stN m hfit c (s0 m b + nb m b) :=
  if_neg (Nat.pos_iff_ne_zero.1 (Words.nb_pos _))

/-! ## A sequence's blocks, of the arguments -/

abbrev x0 : FVec Ideal S3x5x32x160 .bf16 := arg m c main_arg0
abbrev x1 : FVec Ideal S3x5x8x160 .bf16 := arg m c main_arg1
abbrev x2 : FVec Ideal S3x5x8x160 .bf16 := arg m c main_arg2
abbrev x3 : FVec Ideal S3x65536x8x160 .fp8e4m3 := arg m c main_arg3
abbrev x4 : FVec Ideal S3x65536x8x160 .fp8e4m3 := arg m c main_arg4
abbrev x5 : FVec Ideal S3x65536x8 .f32 := arg m c main_arg5
abbrev x6 : FVec Ideal S3x65536x8 .f32 := arg m c main_arg6

variable (b : Fin 3) (k : Fin 8) (r : Fin 24) (d : Fin 160)

abbrev blkQ (kk : ℕ) (hk : kk < nb m b) : FVec Ideal S1x8x24x160 .bf16 := iblk m hfit c 0 (pt m hfit b kk hk)
abbrev blkKn : FVec Ideal S1x8x128x160 .bf16 := iblk m hfit c 1 (pt m hfit b 0 (Words.nb_pos _))
abbrev blkVn : FVec Ideal S1x8x128x160 .bf16 := iblk m hfit c 2 (pt m hfit b 0 (Words.nb_pos _))
abbrev blkK (kk : ℕ) (hk : kk < nb m b) : FVec Ideal S1x8x160x2048 .fp8e4m3 := iblk m hfit c 3 (pt m hfit b kk hk)
abbrev blkV (kk : ℕ) (hk : kk < nb m b) : FVec Ideal S1x8x160x2048 .fp8e4m3 := iblk m hfit c 4 (pt m hfit b kk hk)
abbrev blkKs (kk : ℕ) (hk : kk < nb m b) : FVec Ideal S1x8x2048 .f32 := iblk m hfit c 5 (pt m hfit b kk hk)
abbrev blkVs (kk : ℕ) (hk : kk < nb m b) : FVec Ideal S1x8x2048 .f32 := iblk m hfit c 6 (pt m hfit b kk hk)
abbrev fillAt (kk : ℕ) : BitVec 32 := fillW (BitVec.ofNat 32 (s0 m b + kk)) (len m 0 0) (len m 0 1) (lenAt m (s0 m b + kk))

section
variable (kk : ℕ) (hk : kk < nb m b)

theorem seq_eq : (⟨seqN m (pt m hfit b kk hk).val, seqN_lt m _⟩ : Fin 3) = b := Fin.ext (pt_facts b kk hk).2.1
theorem blk_eq : blkN m (pt m hfit b kk hk).val = kk := (pt_facts b kk hk).2.2

theorem q_at (hr : r.val < 20) (x : Fin 160) : blkQ m c hfit b kk hk (ix4 0 k r x) = x0 m c (ix4 b ⟨r.val / 4, by omega⟩ ⟨k.val * 4 + r.val % 4, by omega⟩ x) := by
  obtain ⟨z, hz⟩ := V_v3 m c
  refine (blk0_at m c hfit (pt m hfit b kk hk) k r x).trans ?_
  rw [seq_eq]
  exact (congrFun hz _).trans (q24_at _ z b k r hr x)
theorem kn_at (j : Fin 128) (hj : j.val < 5) (x : Fin 160) : blkKn m c hfit b (ix4 0 k j x) = x1 m c (ix4 b ⟨j.val, hj⟩ k x) := by
  obtain ⟨z, hz⟩ := V_v5 m c
  refine (blk1_at m c hfit (pt m hfit b 0 (Words.nb_pos _)) k j x).trans ?_
  rw [seq_eq]
  exact (congrFun hz _).trans (n128_at _ z b k j hj x)
theorem vn_at (j : Fin 128) (hj : j.val < 5) (x : Fin 160) : blkVn m c hfit b (ix4 0 k j x) = x2 m c (ix4 b ⟨j.val, hj⟩ k x) := by
  obtain ⟨z, hz⟩ := V_v7 m c
  refine (blk2_at m c hfit (pt m hfit b 0 (Words.nb_pos _)) k j x).trans ?_
  rw [seq_eq]
  exact (congrFun hz _).trans (n128_at _ z b k j hj x)

include m hfit b hk in
theorem pos_lt (t : Fin 2048) : 2048 * kk + t.val < 65536 := by
  have := blk_fits m hfit b kk hk; omega
theorem blk_fits' : 2048 * blkN m (pt m hfit b kk hk).val + 2047 < 65536 := by
  rw [blk_eq]; exact blk_fits m hfit b kk hk
theorem pos_eq (t : Fin 2048) (h) : (⟨2048 * blkN m (pt m hfit b kk hk).val + t.val, h⟩ : Fin 65536) = ⟨2048 * kk + t.val, pos_lt m hfit b kk hk t⟩ :=
  Fin.ext (by show 2048 * blkN m (pt m hfit b kk hk).val + t.val = _; rw [blk_eq])

theorem k_at (x : Fin 160) (t : Fin 2048) : blkK m c hfit b kk hk (ix4 0 k x t) = x3 m c (ix4 b ⟨2048 * kk + t.val, pos_lt m hfit b kk hk t⟩ k x) := by
  refine (blk3_at m c hfit (pt m hfit b kk hk) k x t (blk_fits' m hfit b kk hk)).trans ?_
  rw [seq_eq, pos_eq]
  exact (congrFun (V_v8 m c) _).trans (tr_kv _ _ _ _ _)
theorem v_at (x : Fin 160) (t : Fin 2048) : blkV m c hfit b kk hk (ix4 0 k x t) = x4 m c (ix4 b ⟨2048 * kk + t.val, pos_lt m hfit b kk hk t⟩ k x) := by
  refine (blk4_at m c hfit (pt m hfit b kk hk) k x t (blk_fits' m hfit b kk hk)).trans ?_
  rw [seq_eq, pos_eq]
  exact (congrFun (V_v9 m c) _).trans (tr_kv _ _ _ _ _)
theorem ks_at (t : Fin 2048) : blkKs m c hfit b kk hk (ix3 0 k t) = x5 m c (ix3 b ⟨2048 * kk + t.val, pos_lt m hfit b kk hk t⟩ k) := by
  refine (blk5_at m c hfit (pt m hfit b kk hk) k t (blk_fits' m hfit b kk hk)).trans ?_
  rw [seq_eq, pos_eq]
  exact (congrFun (V_v10 m c) _).trans (tr_s _ _ _ _)
theorem vs_at (t : Fin 2048) : blkVs m c hfit b kk hk (ix3 0 k t) = x6 m c (ix3 b ⟨2048 * kk + t.val, pos_lt m hfit b kk hk t⟩ k) := by
  refine (blk6_at m c hfit (pt m hfit b kk hk) k t (blk_fits' m hfit b kk hk)).trans ?_
  rw [seq_eq, pos_eq]
  exact (congrFun (V_v11 m c) _).trans (tr_s _ _ _ _)

end

/-! ## The scores -/

/-- The row's query. -/
abbrev qrow (hr : r.val < 20) : Fin 160 → EReal := fun x => x0 m c (ix4 b ⟨r.val / 4, by omega⟩ ⟨k.val * 4 + r.val % 4, by omega⟩ x)
abbrev oldRow (hr : r.val < 20) : ℕ → EReal := Softmax.oldS (qrow m c b k r hr) (fun t x => x3 m c (ix4 b t k x)) (fun t => x5 m c (ix3 b t k)) (len m 0 b)
abbrev newRow (hr : r.val < 20) : ℕ → EReal := Softmax.newS (qrow m c b k r hr) (fun j x => x1 m c (ix4 b j k x)) ⟨r.val / 4, by omega⟩

theorem c_eq : (((Real.sqrt 160)⁻¹ * (Real.log 2)⁻¹ : ℝ) : EReal) = (Softmax.rt : EReal) * (Softmax.lg : EReal) := by
  rw [← EReal.coe_mul]; rfl
theorem bot_lg : (⊥ : EReal) * (Softmax.lg : EReal) = ⊥ := EReal.bot_mul_coe_of_pos Softmax.lg_pos

theorem scr_at (kk : ℕ) (hk : kk < nb m b) (hr : r.val < 20) (t : Fin 2048) :
    scr (fillAt m b kk) (blkQ m c hfit b kk hk) (blkK m c hfit b kk hk) (blkKs m c hfit b kk hk) k (ix2 r t) = oldRow m c b k r hr (2048 * kk + t.val) * (Softmax.lg : EReal) := by
  refine (score_at _ _ _ _ r t).trans ?_
  rw [fill_toInt m hfit b kk hk, c_eq]
  unfold oldRow Softmax.oldS
  rw [dif_pos (pos_lt m hfit b kk hk t)]
  by_cases h : (t.val : ℤ) < (len m 0 b).toInt - 2048 * kk
  · rw [if_pos h, if_pos (by push_cast; omega), ldS_at, ks_at, mul_assoc, mul_assoc]
    refine congrArg (· * _) (Finset.sum_congr rfl fun x _ => ?_)
    rw [ldQ_at, ldK_at, q_at m c hfit b k r kk hk hr x, k_at]
  · rw [if_neg h, if_neg (by push_cast; omega), bot_lg]
theorem scn_at (hr : r.val < 20) (j : Fin 128) :
    scn (blkQ m c hfit b 0 (Words.nb_pos _)) (blkKn m c hfit b) k (ix2 r j) = newRow m c b k r hr j.val * (Softmax.lg : EReal) := by
  refine (pay2_at _ _ r j).trans ?_
  rw [c_eq]
  unfold newRow Softmax.newS
  by_cases h5 : j.val < 5
  · rw [dif_pos h5]
    by_cases h : j.val ≤ r.val / 4
    · rw [if_pos ⟨h5, by omega⟩, if_pos h, mul_assoc]
      refine congrArg (· * _) (Finset.sum_congr rfl fun x _ => ?_)
      rw [ldQ_at, ldN_at, q_at m c hfit b k r 0 (Words.nb_pos _) hr x, kn_at m c hfit b k j h5 x]
    · rw [if_neg (fun h' => h (by omega)), if_neg h, bot_lg]
  · rw [dif_neg h5, if_neg (fun h' => h5 h'.1), bot_lg]

/-! ## The row's state -/

theorem sst_first : sst m c hfit b 0 = startSt (blkQ m c hfit b 0 (Words.nb_pos _)) (blkKn m c hfit b) (blkVn m c hfit b) := sst_zero m c hfit b
theorem sst_next (kk : ℕ) (hk : kk < nb m b) : sst m c hfit b (kk + 1)
    = stepSt (fillAt m b kk) (blkQ m c hfit b kk hk) (blkK m c hfit b kk hk) (blkV m c hfit b kk hk) (blkKs m c hfit b kk hk) (blkVs m c hfit b kk hk) (sst m c hfit b kk) :=
  sst_succ m c hfit b kk hk

theorem ext_at {n : ℕ} (f : Fin n → EReal) (j : ℕ) (hj : j < n) : Softmax.ext f j = f ⟨j, hj⟩ := dif_pos hj

noncomputable def mS (n j : ℕ) : EReal := Softmax.ext (fun j : Fin 128 => stM (sst m c hfit b n) (ix3 k r j)) j
noncomputable def lS (n j : ℕ) : EReal := Softmax.ext (fun j : Fin 128 => stL (sst m c hfit b n) (ix3 k r j)) j
noncomputable def aS (n : ℕ) : EReal := stA (sst m c hfit b n) (ix3 k r d)
noncomputable def vnS (j : ℕ) : EReal := Softmax.ext (fun j : Fin 128 => blkVn m c hfit b (ix4 0 k j d)) j
noncomputable def vsS (j : ℕ) : EReal := Softmax.ext (fun t : Fin 65536 => x6 m c (ix3 b t k)) j
noncomputable def vS (j : ℕ) : EReal := Softmax.ext (fun t : Fin 65536 => x4 m c (ix4 b t k d)) j

theorem mS_at (n j : ℕ) (hj : j < 128) : mS m c hfit b k r n j = stM (sst m c hfit b n) (ix3 k r ⟨j, hj⟩) := by unfold mS; exact ext_at _ j hj
theorem lS_at (n j : ℕ) (hj : j < 128) : lS m c hfit b k r n j = stL (sst m c hfit b n) (ix3 k r ⟨j, hj⟩) := by unfold lS; exact ext_at _ j hj
theorem mS_0 (n : ℕ) : mS m c hfit b k r n 0 = stM (sst m c hfit b n) (ix3 k r 0) := by unfold mS; exact Softmax.ext_val (fun j : Fin 128 => stM (sst m c hfit b n) (ix3 k r j)) 0

theorem m_zero (hr : r.val < 20) (j : ℕ) (hj : j < 128) :
    mS m c hfit b k r 0 j = (Finset.range 128).sup fun j => newRow m c b k r hr j * (Softmax.lg : EReal) := by
  rw [mS_at _ _ _ _ _ _ _ _ hj, sst_first, start_m]
  exact Softmax.sup_univ_ext _ _ fun j => scn_at m c hfit b k r hr j
theorem l_zero (hr : r.val < 20) (j : ℕ) (hj : j < 128) :
    lS m c hfit b k r 0 j = Ideal.exp2 (newRow m c b k r hr j * (Softmax.lg : EReal) - mS m c hfit b k r 0 0) := by
  rw [lS_at _ _ _ _ _ _ _ _ hj, mS_0, sst_first, start_l, start_m, scn_at m c hfit b k r hr ⟨j, hj⟩]
theorem a_zero (hr : r.val < 20) :
    aS m c hfit b k r d 0 = ∑ j ∈ Finset.range 128, Ideal.exp2 (newRow m c b k r hr j * (Softmax.lg : EReal) - mS m c hfit b k r 0 0) * vnS m c hfit b k d j := by
  unfold aS
  rw [mS_0, sst_first, start_a, start_m]
  refine Softmax.sum_univ_ext _ _ fun j => ?_
  rw [scn_at m c hfit b k r hr j]
  exact congrArg (_ * ·) (Softmax.ext_val (fun j : Fin 128 => blkVn m c hfit b (ix4 0 k j d)) j).symm
theorem m_next (hr : r.val < 20) (kk : ℕ) (hk : kk < nb m b) (j : ℕ) (hj : j < 128) :
    mS m c hfit b k r (kk + 1) j
      = max (mS m c hfit b k r kk j) ((Finset.range 2048).sup fun t => oldRow m c b k r hr (2048 * kk + t) * (Softmax.lg : EReal)) := by
  rw [mS_at _ _ _ _ _ _ _ _ hj, mS_at _ _ _ _ _ _ _ _ hj, sst_next m c hfit b kk hk, step_m]
  exact congrArg (max _) (Softmax.sup_univ_ext _ _ fun t => scr_at m c hfit b k r kk hk hr t)
theorem l_next (hr : r.val < 20) (kk : ℕ) (hk : kk < nb m b) (j : ℕ) (hj : j < 128) :
    lS m c hfit b k r (kk + 1) j
      = lS m c hfit b k r kk j * Ideal.exp2 (mS m c hfit b k r kk j - mS m c hfit b k r (kk + 1) j)
        + ∑ i ∈ Finset.range 16, Ideal.exp2 (oldRow m c b k r hr (2048 * kk + (128 * i + j)) * (Softmax.lg : EReal) - mS m c hfit b k r (kk + 1) 0) := by
  rw [lS_at _ _ _ _ _ _ _ _ hj, lS_at _ _ _ _ _ _ _ _ hj, mS_0, mS_at _ _ _ _ _ _ _ _ hj, mS_at _ _ _ _ _ _ _ _ hj, sst_next m c hfit b kk hk, step_l]
  refine congrArg (_ + ·) (Softmax.sum_univ_ext _ _ fun i => ?_)
  rw [scr_at m c hfit b k r kk hk hr]
theorem a_next (hr : r.val < 20) (kk : ℕ) (hk : kk < nb m b) :
    aS m c hfit b k r d (kk + 1)
      = aS m c hfit b k r d kk * Ideal.exp2 (mS m c hfit b k r kk 0 - mS m c hfit b k r (kk + 1) 0)
        + ∑ t ∈ Finset.range 2048, (Ideal.exp2 (oldRow m c b k r hr (2048 * kk + t) * (Softmax.lg : EReal) - mS m c hfit b k r (kk + 1) 0)
          * vsS m c b k (2048 * kk + t)) * vS m c b k d (2048 * kk + t) := by
  unfold aS
  rw [mS_0, mS_0, sst_next m c hfit b kk hk, step_a]
  refine congrArg (_ + ·) (Softmax.sum_univ_ext _ _ fun t => ?_)
  unfold vsS vS
  rw [ext_at _ _ (pos_lt m hfit b kk hk t), ext_at _ _ (pos_lt m hfit b kk hk t), scr_at m c hfit b k r kk hk hr t, vs_at m c hfit b k kk hk t, v_at m c hfit b k kk hk d t]

/-! ## The row's output -/

theorem new_far (hr : r.val < 20) (j : ℕ) (hj : 5 ≤ j) : newRow m c b k r hr j = ⊥ := by
  unfold newRow Softmax.newS
  exact dif_neg (by omega)
theorem old_far (hr : r.val < 20) (t : ℕ) (ht : 2048 * nb m b ≤ t) : oldRow m c b k r hr t = ⊥ := by
  unfold oldRow Softmax.oldS
  have hnb : (len m 0 b).toInt ≤ 2048 * (nb m b : ℤ) := by unfold nb Words.nb; omega
  by_cases h : t < 65536
  · rw [dif_pos h, if_neg (by omega)]
  · rw [dif_neg h]

theorem row_sum : ∑ j : Fin 128, stL (sst m c hfit b (nb m b)) (ix3 k r j) = ∑ j ∈ Finset.range 128, lS m c hfit b k r (nb m b) j :=
  Softmax.sum_univ_ext _ _ fun j => (lS_at m c hfit b k r _ j.val j.isLt).symm

theorem row_running (hr : r.val < 20) :
    aS m c hfit b k r d (nb m b) * Ideal.div 1 (∑ j ∈ Finset.range 128, lS m c hfit b k r (nb m b) j)
      = Softmax.whole (newRow m c b k r hr) (oldRow m c b k r hr) (vnS m c hfit b k d) (vsS m c b k) (vS m c b k d) :=
  Softmax.running_eq (newRow m c b k r hr) (oldRow m c b k r hr) (vnS m c hfit b k d) (vsS m c b k) (vS m c b k d) (nb m b) (Words.nb_le (hfit 0 b))
    (new_far m c b k r hr) (old_far m c b k r hr) (mS m c hfit b k r) (lS m c hfit b k r) (aS m c hfit b k r d)
    (m_zero m c hfit b k r hr) (l_zero m c hfit b k r hr) (a_zero m c hfit b k r d hr) (m_next m c hfit b k r hr) (l_next m c hfit b k r hr) (a_next m c hfit b k r d hr)

theorem vnS_eq (j : ℕ) (hj : j < 5) : vnS m c hfit b k d j = Softmax.ext (fun j : Fin 5 => x2 m c (ix4 b j k d)) j := by
  unfold vnS
  rw [ext_at _ j (by omega), ext_at _ j hj]
  exact vn_at m c hfit b k ⟨j, by omega⟩ hj d

theorem row_at (hr : r.val < 20) :
    (outV (F := Ideal) (stN m hfit c (s0 m b + nb m b)) : FVec Ideal S1x8x24x160 .bf16) (ix4 0 k r d)
      = Softmax.attn (qrow m c b k r hr) (fun t x => x3 m c (ix4 b t k x)) (fun t => x5 m c (ix3 b t k)) (len m 0 b) (fun j x => x1 m c (ix4 b j k x)) ⟨r.val / 4, by omega⟩
        (fun j => x2 m c (ix4 b j k d)) (fun t => x6 m c (ix3 b t k)) (fun t => x4 m c (ix4 b t k d)) := by
  rw [← sst_last, Pay.out_at, row_sum]
  refine (row_running m c hfit b k r d hr).trans ?_
  unfold Softmax.attn
  exact Softmax.whole_congr (fun _ _ => rfl) (fun _ _ => rfl) (fun j hj => vnS_eq m c hfit b k d j hj) (fun _ _ => rfl) (fun _ _ => rfl)
end Cert.KernelIdeal.Host
-- ==== Proof.IdealOut.lean ====
/-
  The kernel's result: each sequence's block is written back at the sequence's last point, and the host lays the blocks out again.
-/
module
public import proofs.«01_k».proof.Proof.IdealValue
public import proofs.«01_k».proof.Proof.IdealRun
@[expose] public section
set_option maxRecDepth 16384
noncomputable section
namespace Cert.KernelIdeal.Host
open Idealize.ShloMosaic Idealize.ShloMosaic.TcCoe Idealize.ShloMosaic.Tactic Idealize.SL.Sem
open Cert.KernelIdeal Cert.KernelIdeal.Gen Cert.KernelIdeal.Body Cert.KernelIdeal.Pay

variable (m : (ℓ : Loc nD τ sig) → Buf (Elt Ideal) ℓ) (c : Dev nD) (hfit : ∀ c j, (len m c j).toInt ≤ 65536)

theorem last_eq (i : ℕ) (h : blkN m i + 1 = Words.nb (lenAt m i)) : i + 1 = s0 m ⟨seqN m i, seqN_lt m i⟩ + nb m ⟨seqN m i, seqN_lt m i⟩ := by
  have h' : blkN m i + 1 = nb m ⟨seqN m i, seqN_lt m i⟩ := h
  have hs : Words.startOf (Words.nb (len m 0 0)) (Words.nb (len m 0 1)) i = s0 m ⟨seqN m i, seqN_lt m i⟩ := by
    unfold s0
    show Words.startOf _ _ i = if Words.seqOf _ _ i = 0 then 0 else if Words.seqOf _ _ i = 1 then _ else _
    unfold Words.startOf Words.seqOf
    split
    · rfl
    · split <;> rfl
  have hle := Words.startOf_le (Words.nb (len m 0 0)) (Words.nb (len m 0 1)) i
  rw [← h', ← hs]
  unfold blkN
  omega

/-- What a sequence's last point leaves. -/
noncomputable def blkOut (b : Fin 3) : FVec Ideal S1x8x24x160 .bf16 := outV (F := Ideal) (stN m hfit c (s0 m b + nb m b))
/-- The array of blocks, by its sequence, head, row and column. -/
noncomputable def whole7 : FVec Ideal S3x8x24x160 .bf16 := fun i => blkOut m c hfit (i 0) (ix4 0 (i 1) (i 2) (i 3))
theorem whole7_at (b : Fin 3) (k : Fin 8) (r : Fin 24) (d : Fin 160) : whole7 m c hfit (ix4 b k r d) = blkOut m c hfit b (ix4 0 k r d) := rfl

theorem after_last (t : Fin (cfgM m hfit).N) (h : blkN m t.val + 1 = Words.nb (lenAt m t.val)) :
    outV (F := Ideal) (stN m hfit c (t.val + 1)) = blkOut m c hfit ⟨seqN m t.val, seqN_lt m _⟩ := by
  unfold blkOut
  rw [last_eq m t.val h]

theorem flush_last (b : Fin 3) : ((cfgM m hfit).win (7 : Fin 8)).flush (pt m hfit b (nb m b - 1) (Nat.sub_lt (Words.nb_pos _) Nat.one_pos)) = true := by
  have hp := Words.nb_pos (len m 0 b)
  obtain ⟨h1, h2, h3⟩ := pt_facts (m := m) b (nb m b - 1) (Nat.sub_lt (Words.nb_pos _) Nat.one_pos)
  have hN := cfg_N m hfit
  rw [Pipeline.Window.flush_out _ rfl]
  by_cases hl : s0 m b + (nb m b - 1) + 1 = (cfgM m hfit).N
  · exact .inl hl
  · have hlt : s0 m b + (nb m b - 1) + 1 < (cfgM m hfit).N := by omega
    refine .inr ⟨hlt, fun e => ?_⟩
    rw [index7, index7] at e
    have e0 : seqN m (s0 m b + (nb m b - 1) + 1) = seqN m (s0 m b + (nb m b - 1)) := congrFun e 0
    rw [h2] at e0
    have hp0 := Words.nb_pos (len m 0 0)
    have hp1 := Words.nb_pos (len m 0 1)
    rw [hN] at hlt
    clear hN hl e h1 h2 h3
    unfold nb at hlt e0
    revert hlt e0 hp
    unfold s0 seqN npts Words.seqOf
    fin_cases b
    · show 0 < Words.nb (len m 0 0) → (0 : ℕ) + (Words.nb (len m 0 0) - 1) + 1 < _ → (if _ ≤ (0 : ℕ) + (Words.nb (len m 0 0) - 1) + 1 then 2 else if _ ≤ (0 : ℕ) + (Words.nb (len m 0 0) - 1) + 1 then 1 else 0) = 0 → False
      intro _ _ h; split at h <;> (try split at h) <;> omega
    · show 0 < Words.nb (len m 0 1) → Words.nb (len m 0 0) + (Words.nb (len m 0 1) - 1) + 1 < _ → (if _ ≤ Words.nb (len m 0 0) + (Words.nb (len m 0 1) - 1) + 1 then 2 else if _ ≤ Words.nb (len m 0 0) + (Words.nb (len m 0 1) - 1) + 1 then 1 else 0) = 1 → False
      intro _ _ h; split at h <;> (try split at h) <;> omega
    · show 0 < Words.nb (len m 0 2) → Words.nb (len m 0 0) + Words.nb (len m 0 1) + (Words.nb (len m 0 2) - 1) + 1 < _ → _ → False
      intro _ h _; omega

theorem emb7 (t : Fin (cfgM m hfit).N) (k : Fin 8) (r : Fin 24) (d : Fin 160) :
    (((cfgM m hfit).win (7 : Fin 8)).blk t).view.emb (ix4 0 k r d : S1x8x24x160.Idx) = (ix4 ⟨seqN m t.val, seqN_lt m _⟩ k r d : S3x8x24x160.Idx) := by
  refine funext fun a => Fin.ext ?_
  blk_simp []
  rw [index7 m hfit t]
  fin_cases a
  · show seqN m t.val * 1 + 0 = seqN m t.val; omega
  · show 0 * _ + _ = _; rw [Nat.zero_mul, Nat.zero_add]; rfl
  · show 0 * _ + _ = _; rw [Nat.zero_mul, Nat.zero_add]; rfl
  · show 0 * _ + _ = _; rw [Nat.zero_mul, Nat.zero_add]; rfl

theorem idx_block (y : S1x8x24x160.Idx) : ∃ (k : Fin 8) (r : Fin 24) (d : Fin 160), y = ix4 0 k r d := by
  refine ⟨y 1, y 2, y 3, (eq_ix4 y).trans ?_⟩
  rw [show y 0 = (0 : Fin 1) from Subsingleton.elim (α := Fin 1) _ _]

theorem left_at (t : Fin (cfgM m hfit).N) (hf : ((cfgM m hfit).win (7 : Fin 8)).flush t = true) (y : S1x8x24x160.Idx) :
    (outV (F := Ideal) (stN m hfit c (t.val + 1)) : FVec Ideal S1x8x24x160 .bf16) y = whole7 m c hfit ((((cfgM m hfit).win (7 : Fin 8)).blk t).view.emb y) := by
  have h : blkN m t.val + 1 = Words.nb (lenAt m t.val) := by
    by_contra h
    exact Bool.noConfusion ((flush_other m hfit t h).symm.trans hf)
  obtain ⟨k, r, d, rfl⟩ := idx_block y
  refine Eq.trans ?_ (congrArg (whole7 m c hfit) (emb7 m hfit t k r d).symm)
  rw [whole7_at]
  exact congrFun (after_last m c hfit t h) (ix4 0 k r d)

theorem covered (i : S3x8x24x160.Idx) : ∃ t : Fin (cfgM m hfit).N, ((cfgM m hfit).win (7 : Fin 8)).flush t = true ∧ i ∈ (((cfgM m hfit).win (7 : Fin 8)).blk t).view.set := by
  obtain ⟨b, k, r, d, rfl⟩ : ∃ (b : Fin 3) (k : Fin 8) (r : Fin 24) (d : Fin 160), i = ix4 b k r d := ⟨i 0, i 1, i 2, i 3, eq_ix4 i⟩
  refine ⟨_, flush_last m hfit b, ?_⟩
  have hs : (ix4 ⟨seqN m (pt m hfit b (nb m b - 1) (Nat.sub_lt (Words.nb_pos _) Nat.one_pos)).val, seqN_lt m _⟩ k r d : S3x8x24x160.Idx) = ix4 b k r d := by
    rw [seq_eq]
  have he := (emb7 m hfit (pt m hfit b (nb m b - 1) (Nat.sub_lt (Words.nb_pos _) Nat.one_pos)) k r d).trans hs
  exact Finset.mem_map.2 ⟨(ix4 0 k r d : S1x8x24x160.Idx), Finset.mem_univ _, he⟩

set_option maxHeartbeats 4000000 in
theorem arr7 : (dats m hfit 0 c).arrAt (7 : Fin 8) (cfgM m hfit).N = whole7 m c hfit := by
  refine (dats m hfit 0 c).arrAt_eq_of_emb (7 : Fin 8) (whole7 m c hfit) (fun t hf y => ?_) (covered m hfit)
  rw [after7]
  exact left_at m c hfit t hf y

/-- The result. -/
noncomputable def value : FVec Ideal S3x5x32x160 .bf16 := o22 (whole7 m c hfit)

theorem tail_v22 : Pipeline.afterTail pcfgs (fun _ => adm m hfit) (dats m hfit) 0 (V0 m) [hostOps1] c main_v22 = value m c hfit := by
  unfold Pipeline.afterTail
  rw [List.flatten_cons, List.flatten_nil, List.append_nil]
  refine (out_eq c fun _ => _).trans (congrArg o22 ?_)
  exact (Pipeline.withArrays_arr spec0 (by decide) c _ _ (7 : Fin 8)).trans (arr7 m c hfit)

include hfit in
theorem run_value (ρ : Dev nD → PrngReg) : θ_run defs (onTc (τ := τ) (main (F := Ideal))) ⟨m, fun _ => 0, ρ⟩ (fun r => ∀ c : Dev nD,
      r.2.mem ((c.tc : Thread nD τ).loc main_v22) = value m c hfit) :=
  (θ_run defs _ _).mono (fun _ h c =>
    ((h c).2 main_v22 (Pipeline.mem_restRefs_of main_v22 (by decide) (by exact (by decide : ∀ w, Pipeline.arrRef spec0 w ≠ main_v22)))).trans (tail_v22 m c hfit)) (run_main m ρ hfit)

theorem value_at (b : Fin 3) (i : Fin 5) (h : Fin 32) (d : Fin 160) :
    value m c hfit (ix4 b i h d) = Softmax.attn (fun x => x0 m c (ix4 b i h x)) (fun t x => x3 m c (ix4 b t ⟨h.val / 4, by omega⟩ x)) (fun t => x5 m c (ix3 b t ⟨h.val / 4, by omega⟩))
      (len m 0 b) (fun j x => x1 m c (ix4 b j ⟨h.val / 4, by omega⟩ x)) i (fun j => x2 m c (ix4 b j ⟨h.val / 4, by omega⟩ d)) (fun t => x6 m c (ix3 b t ⟨h.val / 4, by omega⟩))
      (fun t => x4 m c (ix4 b t ⟨h.val / 4, by omega⟩ d)) := by
  refine (o22_at _ b i h d).trans ?_
  rw [whole7_at]
  refine (row_at m c hfit b ⟨h.val / 4, by omega⟩ ⟨i.val * 4 + h.val % 4, by omega⟩ d (by show i.val * 4 + h.val % 4 < 20; omega)).trans ?_
  unfold qrow
  have e1 : (⟨(i.val * 4 + h.val % 4) / 4, by omega⟩ : Fin 5) = i := Fin.ext (by show (i.val * 4 + h.val % 4) / 4 = i.val; omega)
  have e2 : (⟨h.val / 4 * 4 + (i.val * 4 + h.val % 4) % 4, by omega⟩ : Fin 32) = h := Fin.ext (by show h.val / 4 * 4 + (i.val * 4 + h.val % 4) % 4 = h.val; omega)
  show Softmax.attn (fun x => x0 m c (ix4 b ⟨(i.val * 4 + h.val % 4) / 4, _⟩ ⟨h.val / 4 * 4 + (i.val * 4 + h.val % 4) % 4, _⟩ x)) _ _ _ _ ⟨(i.val * 4 + h.val % 4) / 4, _⟩ _ _ _ = _
  rw [e1, e2]
end Cert.KernelIdeal.Host
-- ==== Proof.ReferenceAt.lean ====
/-
  The reference's value read at an index.
-/
module
public import proofs.«01_k».proof.Proof.Gen.ReferenceIdeal.Run
public import proofs.«01_k».proof.Proof.Attention
public import Idealize.ShloMosaic.Lib.Pointwise
public import Idealize.ShloMosaic.Lib.Pipeline.ValueKit
@[expose] public section
set_option maxRecDepth 16384
noncomputable section
namespace Cert.ReferenceIdeal.At
open Idealize.ShloMosaic Idealize.ShloMosaic.TcCoe Idealize.SL.Sem
open Cert.ReferenceIdeal Cert.ReferenceIdeal.Gen Cert.ReferenceIdeal.Value

variable (V0 : Valuation τ sig (Elt Ideal))

abbrev q : FVec Ideal S3x5x32x160 .bf16 := V0 (Proc.devRef .tc main_arg0)
abbrev kn : FVec Ideal S3x5x8x160 .bf16 := V0 (Proc.devRef .tc main_arg1)
abbrev vn : FVec Ideal S3x5x8x160 .bf16 := V0 (Proc.devRef .tc main_arg2)
abbrev kc : FVec Ideal S3x65536x8x160 .bf16 := V0 (Proc.devRef .tc main_v0_0)
abbrev vc : FVec Ideal S3x65536x8x160 .bf16 := V0 (Proc.devRef .tc main_v0_1)
abbrev ks : FVec Ideal S3x65536x8 .f32 := V0 (Proc.devRef .tc main_arg5)
abbrev vs : FVec Ideal S3x65536x8 .f32 := V0 (Proc.devRef .tc main_arg6)
abbrev ln : IVec S3 32 := V0 (Proc.devRef .tc main_arg7)

abbrev old (b : Fin 3) (i : Fin 5) (k : Fin 8) (g : Fin 4) : ℕ → EReal :=
  Softmax.oldS (fun x => q V0 (ix4 b i ⟨k.val * 4 + g.val, by omega⟩ x)) (fun t x => kc V0 (ix4 b t k x)) (fun t => ks V0 (ix3 b t k)) (ln V0 (ix1 b))
abbrev new (b : Fin 3) (i : Fin 5) (k : Fin 8) (g : Fin 4) : ℕ → EReal :=
  Softmax.newS (fun x => q V0 (ix4 b i ⟨k.val * 4 + g.val, by omega⟩ x)) (fun j x => kn V0 (ix4 b j k x)) i
/-- The greatest of a query's scores. -/
abbrev top (b : Fin 3) (i : Fin 5) (k : Fin 8) (g : Fin 4) : EReal := (Finset.range 65536).sup (old V0 b i k g) ⊔ (Finset.range 5).sup (new V0 b i k g)

theorem ninf : Ideal.ofBits .f32 0xFF800000#32 = (⊥ : EReal) := by
  simp [Ideal.ofBits, Ideal.ieee]
theorem rt_eq : Ideal.div 1 (Ideal.sqrt (Ideal.ofBits .f32 0x43200000#32)) = (Softmax.rt : EReal) := by
  have h : Ideal.ofBits .f32 0x43200000#32 = ((160 : ℝ) : EReal) := by
    simp [Ideal.ofBits, Ideal.ieee, -EReal.coe_mul]; norm_num
  have hs : Ideal.sqrt ((160 : ℝ) : EReal) = ((Real.sqrt 160 : ℝ) : EReal) := by
    show (if (160 : ℝ) < 0 then (⊥ : EReal) else ((Real.sqrt 160 : ℝ) : EReal)) = _
    rw [if_neg (by norm_num)]
  have h0 : Real.sqrt 160 ≠ 0 := by positivity
  rw [h, hs, Ideal.div_coe h0, one_mul, Softmax.rt, one_div]
theorem causal : ∀ i t : Fin 5, IntOp.cmpi CmpIPredicate.sge (BitVec.ofNat 32 i.val) (BitVec.ofNat 32 t.val) = if t.val ≤ i.val then 1#1 else 0#1 := by
  decide +kernel
theorem filled (t : ℕ) (ht : t < 65536) (w : BitVec 32) : IntOp.cmpi CmpIPredicate.slt (BitVec.ofNat 32 t) w = if (t : ℤ) < w.toInt then 1#1 else 0#1 := by
  have h : (BitVec.ofNat 32 t).toInt = t := by
    rw [BitVec.toInt_eq_toNat_cond, BitVec.toNat_ofNat]; split_ifs <;> omega
  show BitVec.ofBool (BitVec.slt _ _) = _
  rw [BitVec.slt, h]
  by_cases h : (t : ℤ) < w.toInt <;> simp [h]

theorem v18_at (b : Fin 3) (i : Fin 5) (k : Fin 8) (g : Fin 4) (t : Fin 65536) :
    (res_main_v18 V0 : FVec Ideal S3x5x8x4x65536 .f32) (ix5 b i k g t) = old V0 b i k g t.val := by
  generalize hR : old V0 b i k g t.val = R
  pointwise [res_main_v18, res_main_v1, res_main_v5]
  rw [rt_eq, filled t.val t.isLt]
  subst hR
  unfold old Softmax.oldS
  rw [dif_pos t.isLt]
  by_cases h : (t.val : ℤ) < (ln V0 (ix1 b)).toInt
  · rw [if_pos h, if_pos h]
    refine Eq.trans (b := (∑ x, kc V0 (ix4 b t k x) * q V0 (ix4 b i ⟨k.val * 4 + g.val, by omega⟩ x)) * (ks V0 (ix3 b t k) * (Softmax.rt : EReal))) rfl ?_
    exact congrArg (· * (ks V0 (ix3 b t k) * (Softmax.rt : EReal))) (Finset.sum_congr rfl fun x _ => mul_comm _ _)
  · rw [if_neg h, if_neg h]
    exact ninf
theorem v31_at (b : Fin 3) (i : Fin 5) (k : Fin 8) (g : Fin 4) (t : Fin 5) :
    (res_main_v31 V0 : FVec Ideal S3x5x8x4x5 .f32) (ix5 b i k g t) = new V0 b i k g t.val := by
  generalize hR : new V0 b i k g t.val = R
  pointwise [res_main_v31, res_main_v1, res_main_v5]
  rw [rt_eq, causal i t]
  subst hR
  unfold new Softmax.newS
  rw [dif_pos t.isLt]
  by_cases h : t.val ≤ i.val
  · rw [if_pos h, if_pos h]
    refine Eq.trans (b := (∑ x, kn V0 (ix4 b t k x) * q V0 (ix4 b i ⟨k.val * 4 + g.val, by omega⟩ x)) * (Softmax.rt : EReal)) rfl ?_
    exact congrArg (· * (Softmax.rt : EReal)) (Finset.sum_congr rfl fun x _ => mul_comm _ _)
  · rw [if_neg h, if_neg h]
    exact ninf
theorem fold_sup {n : ℕ} (f : Fin n → EReal) (g : ℕ → EReal) (h : ∀ t, f t = g t.val) :
    Finset.fold max (Ideal.ofBits .f32 0xFF800000#32) f Finset.univ = (Finset.range n).sup g := by
  rw [ninf, ← Softmax.sup_univ_ext f g h]; rfl
theorem red_at {n : ℕ} (v : FVec Ideal (⟨5, ![3, 5, 8, 4, n]⟩ : Shape) .f32) (h : (⟨5, ![3, 5, 8, 4, n]⟩ : Shape).ReducesTo [4] S3x5x8x4)
    (b : Fin 3) (i : Fin 5) (k : Fin 8) (g : Fin 4) :
    Host.reduce FloatOps.maximumf v (constant S_ .f32 0xFF800000#32) h h_S_ (ix4 b i k g)
      = Finset.fold max (Ideal.ofBits .f32 0xFF800000#32) (fun t : Fin n => v (ix5 b i k g t)) Finset.univ := by
  pointwise []
theorem max_at (x y : FVec Ideal S3x5x8x4 .f32) (b : Fin 3) (i : Fin 5) (k : Fin 8) (g : Fin 4) :
    broadcastInDim S3x5x8x4x1 ![0, 1, 2, 3] bcast_S3x5x8x4_S3x5x8x4x1_0_1_2_3 (maximumf x y) (ix5 b i k g 0) = max (x (ix4 b i k g)) (y (ix4 b i k g)) := by
  pointwise []
theorem v35_at (b : Fin 3) (i : Fin 5) (k : Fin 8) (g : Fin 4) :
    (res_main_v35 V0 : FVec Ideal S3x5x8x4x1 .f32) (ix5 b i k g 0) = top V0 b i k g := by
  unfold res_main_v35
  refine (max_at _ _ b i k g).trans (congrArg₂ max ?_ ?_)
  · exact (red_at _ _ b i k g).trans (fold_sup _ (old V0 b i k g) (v18_at V0 b i k g))
  · exact (red_at _ _ b i k g).trans (fold_sup _ (new V0 b i k g) (v31_at V0 b i k g))
theorem v38_at (b : Fin 3) (i : Fin 5) (k : Fin 8) (g : Fin 4) (t : Fin 65536) :
    (res_main_v38 V0 : FVec Ideal S3x5x8x4x65536 .f32) (ix5 b i k g t) = Ideal.exp (old V0 b i k g t.val - top V0 b i k g) := by
  generalize hR : Ideal.exp (old V0 b i k g t.val - top V0 b i k g) = R
  pointwise [res_main_v38]
  subst hR
  exact congrArg Ideal.exp (congrArg₂ (· - ·) (v18_at V0 b i k g t) (v35_at V0 b i k g))
theorem v41_at (b : Fin 3) (i : Fin 5) (k : Fin 8) (g : Fin 4) (t : Fin 5) :
    (res_main_v41 V0 : FVec Ideal S3x5x8x4x5 .f32) (ix5 b i k g t) = Ideal.exp (new V0 b i k g t.val - top V0 b i k g) := by
  generalize hR : Ideal.exp (new V0 b i k g t.val - top V0 b i k g) = R
  pointwise [res_main_v41]
  subst hR
  exact congrArg Ideal.exp (congrArg₂ (· - ·) (v31_at V0 b i k g t) (v35_at V0 b i k g))
/-- One over the sum of the exponentials. -/
abbrev inv (b : Fin 3) (i : Fin 5) (k : Fin 8) (g : Fin 4) : EReal :=
  Ideal.div 1 ((∑ t ∈ Finset.range 65536, Ideal.exp (old V0 b i k g t - top V0 b i k g)) + ∑ j ∈ Finset.range 5, Ideal.exp (new V0 b i k g j - top V0 b i k g))
theorem v48_at (b : Fin 3) (i : Fin 5) (k : Fin 8) (g : Fin 4) :
    (res_main_v48 V0 : FVec Ideal S3x5x8x4x1 .f32) (ix5 b i k g 0) = inv V0 b i k g := by
  generalize hR : inv V0 b i k g = R
  pointwise [res_main_v48]
  subst hR
  have h1 := Softmax.sum_univ_ext _ (fun t => Ideal.exp (old V0 b i k g t - top V0 b i k g)) (v38_at V0 b i k g)
  have h2 := Softmax.sum_univ_ext _ (fun j => Ideal.exp (new V0 b i k g j - top V0 b i k g)) (v41_at V0 b i k g)
  exact congrArg (Ideal.div 1) (congrArg₂ (· + ·) h1 h2)

/-- The reference's result, of the contents its later operations run from. -/
def result : FVec Ideal S3x5x32x160 .bf16 :=
  shapeCast _ (truncf .bf16 (addf (transpose S3x5x8x4x160 [0, 3, 1, 4, 2] (Host.dotGeneral dot_S3x65536x8x160_S3x5x8x4x65536_S3x8x160x5x4_1_4_3_13_02_02 none (vc V0) (truncf .bf16 (mulf (mulf (res_main_v38 V0 : FVec Ideal S3x5x8x4x65536 .f32) (broadcastInDim S3x5x8x4x65536 ![0, 1, 2, 3, 4] bcast_S3x5x8x4x1_S3x5x8x4x65536_0_1_2_3_4 (res_main_v48 V0 : FVec Ideal S3x5x8x4x1 .f32))) (broadcastInDim S3x5x8x4x65536 ![0, 1, 2, 3, 4] bcast_S3x1x8x1x65536_S3x5x8x4x65536_0_1_2_3_4 (broadcastInDim S3x1x8x1x65536 ![0, 2, 4] bcast_S3x8x65536_S3x1x8x1x65536_0_2_4 (transpose S3x8x65536 [0, 2, 1] (vs V0) transposes_S3x65536x8_S3x8x65536_0_2_1)))) bitsLt_bf16_f32)) transposes_S3x8x160x5x4_S3x5x8x4x160_0_3_1_4_2) (transpose S3x5x8x4x160 [0, 3, 1, 4, 2] (Host.dotGeneral dot_S3x5x8x160_S3x5x8x4x5_S3x8x160x5x4_1_4_3_13_02_02 none (vn V0) (truncf .bf16 (mulf (res_main_v41 V0 : FVec Ideal S3x5x8x4x5 .f32) (broadcastInDim S3x5x8x4x5 ![0, 1, 2, 3, 4] bcast_S3x5x8x4x1_S3x5x8x4x5_0_1_2_3_4 (res_main_v48 V0 : FVec Ideal S3x5x8x4x1 .f32))) bitsLt_bf16_f32)) transposes_S3x8x160x5x4_S3x5x8x4x160_0_3_1_4_2)) bitsLt_bf16_f32) shapeCasts_S3x5x8x4x160_S3x5x32x160

theorem result_at (b : Fin 3) (i : Fin 5) (h : Fin 32) (d : Fin 160) :
    result V0 (ix4 b i h d) = Softmax.whole (new V0 b i ⟨h.val / 4, by omega⟩ ⟨h.val % 4, by omega⟩) (old V0 b i ⟨h.val / 4, by omega⟩ ⟨h.val % 4, by omega⟩)
      (Softmax.ext fun j => vn V0 (ix4 b j ⟨h.val / 4, by omega⟩ d)) (Softmax.ext fun t => vs V0 (ix3 b t ⟨h.val / 4, by omega⟩)) (Softmax.ext fun t => vc V0 (ix4 b t ⟨h.val / 4, by omega⟩ d)) := by
  generalize hR : Softmax.whole _ _ _ _ _ = R
  pointwise [result]
  subst hR
  refine congrArg₂ (· + ·) (Softmax.sum_univ_ext _ _ fun t => ?_) (Softmax.sum_univ_ext _ _ fun j => ?_)
  · rw [Softmax.ext_val, Softmax.ext_val, v38_at, v48_at]
  · rw [Softmax.ext_val, v41_at, v48_at]
end Cert.ReferenceIdeal.At
-- ==== Proof.ReferenceRun.lean ====
/-
  What the reference's first stage leaves: the cached keys and values, unchanged in value; and the reference's run in terms of its arguments.
-/
module
public import proofs.«01_k».proof.Proof.ReferenceAt
@[expose] public section
set_option maxRecDepth 16384
noncomputable section
namespace Cert.ReferenceIdeal.At
open Idealize.ShloMosaic Idealize.ShloMosaic.TcCoe Idealize.ShloMosaic.Tactic Idealize.SL.Sem Idealize.ShloMosaic.Pipeline
open Cert.ReferenceIdeal Cert.ReferenceIdeal.Gen Cert.ReferenceIdeal.Value

variable (m : (ℓ : Loc nD τ sig) → Buf (Elt Ideal) ℓ) (c : Dev nD)

theorem idx : ∀ t : Fin cfg0.N, win0_0.index t = ![0, 0, 0, 0] ∧ win0_1.index t = ![0, 0, 0, 0] := (by decide +kernel : ∀ t : Fin grid0.N, _)

theorem final2 : (Gen.dats m 0 c).arrAt 2 cfg0.N = m ((c : Thread nD τ).loc main_arg3) := by
  refine (Gen.dats m 0 c).arrAt_eq_of_after_last 2 t0_0 (by decide +kernel) _ fun j => ?_
  blk_simp
  rw [after0_2]
  frame_out
  blk_point [iblk, V, idx t0_0, k0_pay1]
theorem final3 : (Gen.dats m 0 c).arrAt 3 cfg0.N = m ((c : Thread nD τ).loc main_arg4) := by
  refine (Gen.dats m 0 c).arrAt_eq_of_after_last 3 t0_0 (by decide +kernel) _ fun j => ?_
  blk_simp
  rw [after0_3]
  frame_out
  blk_point [iblk, V, idx t0_0, k0_pay2]

/-- The reference's result at an index, of arrays given by name. -/
theorem result_of (V0 : Valuation τ sig (Elt Ideal)) (x0 : FVec Ideal S3x5x32x160 .bf16) (x1 x2 : FVec Ideal S3x5x8x160 .bf16)
    (x3 x4 : FVec Ideal S3x65536x8x160 .bf16) (x5 x6 : FVec Ideal S3x65536x8 .f32) (x7 : IVec S3 32)
    (h0 : q V0 = x0) (h1 : kn V0 = x1) (h2 : vn V0 = x2) (h3 : kc V0 = x3) (h4 : vc V0 = x4) (h5 : ks V0 = x5) (h6 : vs V0 = x6) (h7 : ln V0 = x7)
    (b : Fin 3) (i : Fin 5) (h : Fin 32) (d : Fin 160) :
    result V0 (ix4 b i h d) = Softmax.attn (fun x => x0 (ix4 b i h x)) (fun t x => x3 (ix4 b t ⟨h.val / 4, by omega⟩ x)) (fun t => x5 (ix3 b t ⟨h.val / 4, by omega⟩))
      (x7 (ix1 b)) (fun j x => x1 (ix4 b j ⟨h.val / 4, by omega⟩ x)) i (fun j => x2 (ix4 b j ⟨h.val / 4, by omega⟩ d)) (fun t => x6 (ix3 b t ⟨h.val / 4, by omega⟩))
      (fun t => x4 (ix4 b t ⟨h.val / 4, by omega⟩ d)) := by
  subst h0 h1 h2 h3 h4 h5 h6 h7
  refine (result_at V0 b i h d).trans ?_
  have hh : (⟨h.val / 4 * 4 + h.val % 4, by omega⟩ : Fin 32) = h := Fin.ext (by show h.val / 4 * 4 + h.val % 4 = h.val; omega)
  show Softmax.whole (Softmax.newS (fun x => q V0 (ix4 b i ⟨h.val / 4 * 4 + h.val % 4, _⟩ x)) _ i) (Softmax.oldS (fun x => q V0 (ix4 b i ⟨h.val / 4 * 4 + h.val % 4, _⟩ x)) _ _ _) _ _ _ = _
  rw [hh]
  rfl

/-- The reference's run. -/
theorem run_result (ρ : Dev nD → PrngReg) :
    θ_run defs (onTc (τ := τ) (main (F := Ideal))) ⟨m, fun _ => 0, ρ⟩ fun r => ∀ c : Dev nD,
      r.2.mem ((c.tc : Thread nD τ).loc main_v65) = result (exitV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Value.run m ρ

end Cert.ReferenceIdeal.At
-- ==== Proof.Algebraic.lean ====
/-
  The kernel and the reference over the extended reals: one result, element by element.
-/
module
public import proofs.«01_k».proof.Defs
public import proofs.«01_k».proof.Proof.Frames
public import proofs.«01_k».proof.Proof.IdealOut
public import proofs.«01_k».proof.Proof.ReferenceRun
public import proofs.«01_k».proof.Proof.Gen.Pre_lens_fit

@[expose] public section
set_option maxRecDepth 16384
noncomputable section
namespace Cert.Proof
open Idealize.ShloMosaic Idealize.ShloMosaic.TcCoe Idealize.ShloMosaic.Tactic Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hfit : ∀ c j, (Cert.KernelIdeal.Body.len m c j).toInt ≤ 65536)

/-- The lengths, as the reference reads them. -/
abbrev lens : IVec Cert.ReferenceIdeal.S3 32 := m ((c.tc : Thread Cert.KernelIdeal.nD Cert.KernelIdeal.τ).loc Cert.KernelIdeal.main_arg7)

theorem lens_at (b : Fin 3) : lens m c (ix1 b) = Cert.KernelIdeal.Body.len m 0 b := by
  obtain rfl : c = 0 := Subsingleton.elim (α := Fin 1) c 0
  rfl

set_option maxHeartbeats 2000000 in
theorem same
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.At.result (Cert.ReferenceIdeal.Value.exitV m' c) = Cert.KernelIdeal.Host.value m c hfit := by
  funext j
  obtain ⟨b, i, h, d, rfl⟩ : ∃ (b : Fin 3) (i : Fin 5) (h : Fin 32) (d : Fin 160), j = ix4 b i h d := ⟨j 0, j 1, j 2, j 3, eq_ix4 j⟩
  refine (Cert.ReferenceIdeal.At.result_of (Cert.ReferenceIdeal.Value.exitV m' c) (Cert.KernelIdeal.Host.x0 m c) (Cert.KernelIdeal.Host.x1 m c) (Cert.KernelIdeal.Host.x2 m c)
    (Cert.KernelIdeal.Host.x3 m c) (Cert.KernelIdeal.Host.x4 m c) (Cert.KernelIdeal.Host.x5 m c) (Cert.KernelIdeal.Host.x6 m c) (lens m c)
    ((Cert.ReferenceIdeal.Value.exit_main_arg0 m' c).trans h0) ((Cert.ReferenceIdeal.Value.exit_main_arg1 m' c).trans h1) ((Cert.ReferenceIdeal.Value.exit_main_arg2 m' c).trans h2)
    (((Cert.ReferenceIdeal.Value.exit_main_v0_0 m' c).trans (Cert.ReferenceIdeal.At.final2 m' c)).trans h3)
    (((Cert.ReferenceIdeal.Value.exit_main_v0_1 m' c).trans (Cert.ReferenceIdeal.At.final3 m' c)).trans h4)
    ((Cert.ReferenceIdeal.Value.exit_main_arg5 m' c).trans h5) ((Cert.ReferenceIdeal.Value.exit_main_arg6 m' c).trans h6) ((Cert.ReferenceIdeal.Value.exit_main_arg7 m' c).trans h7) b i h d).trans ?_
  rw [lens_at]
  exact (Cert.KernelIdeal.Host.value_at m c hfit b i h d).symm

theorem algebraic : Cert.algebraic_KernelIdeal_ReferenceIdeal (hKernelIdeal := Cert.KernelIdeal.Gen.facts) (hReferenceIdeal := Cert.ReferenceIdeal.Gen.facts)
    (hPre_lens_fit := Cert.Pre_lens_fit.Gen.facts) := by
  intro m g m' g' hpre hargs
  have hfit := fit_ideal m hpre
  refine ⟨fun c => Cert.KernelIdeal.Host.value m c hfit, ?_, ?_⟩
  · exact (θ_run _ _ _).mono (fun _ h c => ⟨h.1 c, h.2 c⟩) (θ_run_and (Cert.KernelIdeal.Host.run_value m hfit g) (Cert.KernelIdeal.Body.unchanged m g hfit))
  · refine (θ_run _ _ _).mono (fun r h c => ?_) (Cert.ReferenceIdeal.At.run_result m' g')
    obtain ⟨h0, h1, h2, h3, h4, h5, h6, h7⟩ := hargs c
    exact ⟨(h c).1.trans (same m m' c hfit h0 h1 h2 h3 h4 h5 h6 h7), (h c).2⟩

end Cert.Proof
-- ==== Proof.lean ====
module

public import proofs.«01_k».proof.Defs
public import proofs.«01_k».proof.Proof.Frames
public import proofs.«01_k».proof.Proof.Algebraic
public import proofs.«01_k».proof.Proof.Gen.ReferenceIdeal
public import proofs.«01_k».proof.Proof.Gen.ReferenceIdeal.Run
public import proofs.«01_k».proof.Proof.Gen.ReferenceIdeal.Frame
public import proofs.«01_k».proof.Proof.Gen.Pre_lens_fit

@[expose] public section

noncomputable section

namespace Cert.Proof

open Idealize.ShloMosaic

/-- Every claim of the certificate. -/
theorem claim : Cert.Claim :=
  ⟨Cert.Kernel.Gen.facts, Cert.KernelIdeal.Gen.facts, Cert.ReferenceIdeal.Gen.facts, Cert.Pre_lens_fit.Gen.facts,
    quiescent_Kernel, quiescent_KernelIdeal, fun m g _ => Cert.ReferenceIdeal.Gen.frame m g, fun m g _ => Cert.ReferenceIdeal.Gen.frame m g,
    preserves, algebraic⟩

end Cert.Proof

end
